-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "pool_inv" .f32 0x3AA72F05#32 ((784⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x384x224x224 : Shape := ⟨4, ![2, 384, 224, 224]⟩
abbrev S2x224x224 : Shape := ⟨3, ![2, 224, 224]⟩
abbrev S384x384 : Shape := ⟨2, ![384, 384]⟩
abbrev S384x768 : Shape := ⟨2, ![384, 768]⟩
abbrev S384 : Shape := ⟨1, ![384]⟩
abbrev S384x1152 : Shape := ⟨2, ![384, 1152]⟩
abbrev S_ : Shape := ⟨0, ![]⟩

class Facts : Prop where
  bcast_S_S2x384x224x224 : S_.BroadcastsInDim S2x384x224x224 (![] : Fin 0 → Fin S2x384x224x224.rank)
  reducesTo_S2x384x224x224_S_d0_1_2_3 : S2x384x224x224.ReducesTo [0, 1, 2, 3] S_
  h_S_ : 0 < S_.numel
  bcast_S_S384x384 : S_.BroadcastsInDim S384x384 (![] : Fin 0 → Fin S384x384.rank)
  reducesTo_S384x384_S_d0_1 : S384x384.ReducesTo [0, 1] S_
  bcast_S_S384x768 : S_.BroadcastsInDim S384x768 (![] : Fin 0 → Fin S384x768.rank)
  reducesTo_S384x768_S_d0_1 : S384x768.ReducesTo [0, 1] S_
  bcast_S_S384 : S_.BroadcastsInDim S384 (![] : Fin 0 → Fin S384.rank)
  reducesTo_S384_S_d0 : S384.ReducesTo [0] S_
  bcast_S_S384x1152 : S_.BroadcastsInDim S384x1152 (![] : Fin 0 → Fin S384x1152.rank)
  reducesTo_S384x1152_S_d0_1 : S384x1152.ReducesTo [0, 1] S_

variable [Facts]

def fn_part2 {F : FTy → Type} [FloatOps F] (main_arg8 : FVec F S384 .f32) (main_arg9 : FVec F S384x1152 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x1152 .f32 := Host.absf main_arg9
  let main_cst_14 : FVec F S_ .f32 := constant S_ .f32 0x7F800000#32
  let main_v40 : FVec F S384x1152 .f32 := broadcastInDim S384x1152 ![] bcast_S_S384x1152 main_cst_14
  let main_v41 : IVec S384x1152 1 := cmpf .olt main_v39 main_v40
  let main_c_15 : IVec S_ 1 := constantI S_ 1 1#1
  let main_v42 : IVec S_ 1 := (fun x v => Host.reduce IntOp.andi x v reducesTo_S384x1152_S_d0_1 h_S_) main_v41 main_c_15
  let main_v43 : IVec S_ 1 := andi main_v38 main_v42
  main_v43

def fn_part1 {F : FTy → Type} [FloatOps F] (main_arg5 : FVec F S384 .f32) (main_arg6 : FVec F S384x1152 .f32) (main_arg7 : FVec F S384x384 .f32) (main_arg8 : FVec F S384 .f32) (main_arg9 : FVec F S384x1152 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x1152 .f32 := Host.absf main_arg6
  let main_cst_8 : FVec F S_ .f32 := constant S_ .f32 0x7F800000#32
  let main_v25 : FVec F S384x1152 .f32 := broadcastInDim S384x1152 ![] bcast_S_S384x1152 main_cst_8
  let main_v26 : IVec S384x1152 1 := cmpf .olt main_v24 main_v25
  let main_c_9 : IVec S_ 1 := constantI S_ 1 1#1
  let main_v27 : IVec S_ 1 := (fun x v => Host.reduce IntOp.andi x v reducesTo_S384x1152_S_d0_1 h_S_) main_v26 main_c_9
  let main_v28 : IVec S_ 1 := andi main_v23 main_v27
  let main_v29 : FVec F S384x384 .f32 := Host.absf main_arg7
  let main_cst_10 : FVec F S_ .f32 := constant S_ .f32 0x7F800000#32
  let main_v30 : FVec F S384x384 .f32 := broadcastInDim S384x384 ![] bcast_S_S384x384 main_cst_10
  let main_v31 : IVec S384x384 1 := cmpf .olt main_v29 main_v30
  let main_c_11 : IVec S_ 1 := constantI S_ 1 1#1
  let main_v32 : IVec S_ 1 := (fun x v => Host.reduce IntOp.andi x v reducesTo_S384x384_S_d0_1 h_S_) main_v31 main_c_11
  let main_v33 : IVec S_ 1 := andi main_v28 main_v32
  fn_part2 (F := F) main_arg8 main_arg9 main_v33

def fn {F : FTy → Type} [FloatOps F] (main_arg0 : FVec F S2x384x224x224 .f32) (main_arg1 : FVec F S2x224x224 .f32) (main_arg2 : FVec F S384x384 .f32) (main_arg3 : FVec F S384x768 .f32) (main_arg4 : FVec F S384x384 .f32) (main_arg5 : FVec F S384 .f32) (main_arg6 : FVec F S384x1152 .f32) (main_arg7 : FVec F S384x384 .f32) (main_arg8 : FVec F S384 .f32) (main_arg9 : FVec F S384x1152 .f32) (main_arg10 : FVec F S384x384 .f32) (main_arg11 : FVec F S384 .f32) : IVec S_ 1 :=
  let main_v0 : FVec F S2x384x224x224 .f32 := Host.absf main_arg0
  let main_cst : FVec F S_ .f32 := constant S_ .f32 0x7F800000#32
  let main_v1 : FVec F S2x384x224x224 .f32 := broadcastInDim S2x384x224x224 ![] bcast_S_S2x384x224x224 main_cst
  let main_v2 : IVec S2x384x224x224 1 := cmpf .olt main_v0 main_v1
  let main_c : IVec S_ 1 := constantI S_ 1 1#1
  let main_v3 : IVec S_ 1 := (fun x v => Host.reduce IntOp.andi x v reducesTo_S2x384x224x224_S_d0_1_2_3 h_S_) main_v2 main_c
  let main_v4 : FVec F S384x384 .f32 := Host.absf main_arg2
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x768 .f32 := Host.absf main_arg3
  let main_cst_2 : FVec F S_ .f32 := constant S_ .f32 0x7F800000#32
  let main_v10 : FVec F S384x768 .f32 := broadcastInDim S384x768 ![] bcast_S_S384x768 main_cst_2
  let main_v11 : IVec S384x768 1 := cmpf .olt main_v9 main_v10
  let main_c_3 : IVec S_ 1 := constantI S_ 1 1#1
  let main_v12 : IVec S_ 1 := (fun x v => Host.reduce IntOp.andi x v reducesTo_S384x768_S_d0_1 h_S_) main_v11 main_c_3
  let main_v13 : IVec S_ 1 := andi main_v8 main_v12
  let main_v14 : FVec F S384x384 .f32 := Host.absf main_arg4
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg5 main_arg6 main_arg7 main_arg8 main_arg9 main_v13 main_v16
-- ==== Kernel.lean ====
abbrev S2x384x224x224 : Shape := ⟨4, ![2, 384, 224, 224]⟩
abbrev S2x224x224 : Shape := ⟨3, ![2, 224, 224]⟩
abbrev S384x384 : Shape := ⟨2, ![384, 384]⟩
abbrev S384x768 : Shape := ⟨2, ![384, 768]⟩
abbrev S384 : Shape := ⟨1, ![384]⟩
abbrev S384x1152 : Shape := ⟨2, ![384, 1152]⟩
abbrev S2x28x28 : Shape := ⟨3, ![2, 28, 28]⟩
abbrev S1x224x224 : Shape := ⟨3, ![1, 224, 224]⟩
abbrev S1x28x28 : Shape := ⟨3, ![1, 28, 28]⟩
abbrev S224x224 : Shape := ⟨2, ![224, 224]⟩
abbrev S28x8x224 : Shape := ⟨3, ![28, 8, 224]⟩
abbrev S28x224 : Shape := ⟨2, ![28, 224]⟩
abbrev S28x28x8 : Shape := ⟨3, ![28, 28, 8]⟩
abbrev S28x28 : Shape := ⟨2, ![28, 28]⟩
abbrev S2x784 : Shape := ⟨2, ![2, 784]⟩
abbrev S2x235 : Shape := ⟨2, ![2, 235]⟩
abbrev S_ : Shape := ⟨0, ![]⟩
abbrev S470 : Shape := ⟨1, ![470]⟩
abbrev S2 : Shape := ⟨1, ![2]⟩
abbrev S2x384x50176 : Shape := ⟨3, ![2, 384, 50176]⟩
abbrev S2x50176x384 : Shape := ⟨3, ![2, 50176, 384]⟩
abbrev S2x8x8x384 : Shape := ⟨4, ![2, 8, 8, 384]⟩
abbrev S1x128x6272 : Shape := ⟨3, ![1, 128, 6272]⟩
abbrev S1x6272x128 : Shape := ⟨3, ![1, 6272, 128]⟩
abbrev S1x1x8x128 : Shape := ⟨4, ![1, 1, 8, 128]⟩
abbrev S128x6272 : Shape := ⟨2, ![128, 6272]⟩
abbrev S6272x128 : Shape := ⟨2, ![6272, 128]⟩
abbrev S28x224x128 : Shape := ⟨3, ![28, 224, 128]⟩
abbrev S224x128 : Shape := ⟨2, ![224, 128]⟩
abbrev S8x28x128 : Shape := ⟨3, ![8, 28, 128]⟩
abbrev S8x128 : Shape := ⟨2, ![8, 128]⟩
abbrev S2x64x768 : Shape := ⟨3, ![2, 64, 768]⟩
abbrev S2x64x384 : Shape := ⟨3, ![2, 64, 384]⟩
abbrev S1x64x384 : Shape := ⟨3, ![1, 64, 384]⟩
abbrev S64x384 : Shape := ⟨2, ![64, 384]⟩
abbrev S64x768 : Shape := ⟨2, ![64, 768]⟩
abbrev S1x64x768 : Shape := ⟨3, ![1, 64, 768]⟩
abbrev S2x28x8x28x8x384 : Shape := ⟨6, ![2, 28, 8, 28, 8, 384]⟩
abbrev S1x384 : Shape := ⟨2, ![1, 384]⟩
abbrev S94x320x384 : Shape := ⟨3, ![94, 320, 384]⟩
abbrev S1x1x8x1x8x384 : Shape := ⟨6, ![1, 1, 8, 1, 8, 384]⟩
abbrev S1 : Shape := ⟨1, ![1]⟩
abbrev S1x320x384 : Shape := ⟨3, ![1, 320, 384]⟩
abbrev S320x384 : Shape := ⟨2, ![320, 384]⟩
abbrev S320x320 : Shape := ⟨2, ![320, 320]⟩
abbrev S384x64 : Shape := ⟨2, ![384, 64]⟩
abbrev S320x64 : Shape := ⟨2, ![320, 64]⟩
abbrev S320 : Shape := ⟨1, ![320]⟩
abbrev S320x1 : Shape := ⟨2, ![320, 1]⟩
abbrev S320x1152 : Shape := ⟨2, ![320, 1152]⟩
abbrev S384x320 : Shape := ⟨2, ![384, 320]⟩
abbrev S64x320 : Shape := ⟨2, ![64, 320]⟩
abbrev S64x64 : Shape := ⟨2, ![64, 64]⟩
abbrev S470x8x8x384 : Shape := ⟨4, ![470, 8, 8, 384]⟩
abbrev S1x8x8x384 : Shape := ⟨4, ![1, 8, 8, 384]⟩

abbrev nBuf : Space → Nat
  | .hbm => 81
  | .vmem => 44
  | .smem => 3
  | _ => 0

abbrev bufTy : (tb : Table) → Fin (tcTables nBuf tb) → BufTy
  | .hbm, ⟨0, _⟩ => ⟨S2x384x224x224, .f32⟩
  | .hbm, ⟨1, _⟩ => ⟨S2x224x224, .f32⟩
  | .hbm, ⟨2, _⟩ => ⟨S384x384, .f32⟩
  | .hbm, ⟨3, _⟩ => ⟨S384x768, .f32⟩
  | .hbm, ⟨4, _⟩ => ⟨S384x384, .f32⟩
  | .hbm, ⟨5, _⟩ => ⟨S384, .f32⟩
  | .hbm, ⟨6, _⟩ => ⟨S384x1152, .f32⟩
  | .hbm, ⟨7, _⟩ => ⟨S384x384, .f32⟩
  | .hbm, ⟨8, _⟩ => ⟨S384, .f32⟩
  | .hbm, ⟨9, _⟩ => ⟨S384x1152, .f32⟩
  | .hbm, ⟨10, _⟩ => ⟨S384x384, .f32⟩
  | .hbm, ⟨11, _⟩ => ⟨S384, .f32⟩
  | .hbm, ⟨12, _⟩ => ⟨S2x28x28, .f32⟩
  | .hbm, ⟨13, _⟩ => ⟨S2x784, .f32⟩
  | .hbm, ⟨14, _⟩ => ⟨S2x235, .f32⟩
  | .hbm, ⟨15, _⟩ => ⟨S2x235, .i32⟩
  | .hbm, ⟨16, _⟩ => ⟨S_, .i32⟩
  | .hbm, ⟨17, _⟩ => ⟨S_, .i32⟩
  | .hbm, ⟨18, _⟩ => ⟨S2x235, .i32⟩
  | .hbm, ⟨19, _⟩ => ⟨S2x235, .i32⟩
  | .hbm, ⟨20, _⟩ => ⟨S2x235, .i32⟩
  | .hbm, ⟨21, _⟩ => ⟨S_, .i32⟩
  | .hbm, ⟨22, _⟩ => ⟨S2x235, .i32⟩
  | .hbm, ⟨23, _⟩ => ⟨S2x235, .i1⟩
  | .hbm, ⟨24, _⟩ => ⟨S2x235, .i32⟩
  | .hbm, ⟨25, _⟩ => ⟨S2x235, .i32⟩
  | .hbm, ⟨26, _⟩ => ⟨S_, .i32⟩
  | .hbm, ⟨27, _⟩ => ⟨S2x235, .i32⟩
  | .hbm, ⟨28, _⟩ => ⟨S2x235, .i1⟩
  | .hbm, ⟨29, _⟩ => ⟨S2x235, .i1⟩
  | .hbm, ⟨30, _⟩ => ⟨S_, .i32⟩
  | .hbm, ⟨31, _⟩ => ⟨S2x235, .i32⟩
  | .hbm, ⟨32, _⟩ => ⟨S2x235, .i32⟩
  | .hbm, ⟨33, _⟩ => ⟨S2x235, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S2x235, .i32⟩
  | .hbm, ⟨41, _⟩ => ⟨S2x235, .i32⟩
  | .hbm, ⟨42, _⟩ => ⟨S_, .i32⟩
  | .hbm, ⟨43, _⟩ => ⟨S2x235, .i32⟩
  | .hbm, ⟨44, _⟩ => ⟨S2x235, .i1⟩
  | .hbm, ⟨45, _⟩ => ⟨S_, .i32⟩
  | .hbm, ⟨46, _⟩ => ⟨S2x235, .i32⟩
  | .hbm, ⟨47, _⟩ => ⟨S2x235, .i1⟩
  | .hbm, ⟨48, _⟩ => ⟨S_, .i32⟩
  | .hbm, ⟨49, _⟩ => ⟨S_, .i1⟩
  | .hbm, ⟨50, _⟩ => ⟨S2x235, .i1⟩
  | .hbm, ⟨51, _⟩ => ⟨S2x235, .i1⟩
  | .hbm, ⟨52, _⟩ => ⟨S2x235, .i1⟩
  | .hbm, ⟨53, _⟩ => ⟨S2x235, .i32⟩
  | .hbm, ⟨54, _⟩ => ⟨S2x235, .i32⟩
  | .hbm, ⟨55, _⟩ => ⟨S2x235, .i32⟩
  | .hbm, ⟨56, _⟩ => ⟨S2, .i32⟩
  | .hbm, ⟨57, _⟩ => ⟨S2x235, .i32⟩
  | .hbm, ⟨58, _⟩ => ⟨S2x384x50176, .f32⟩
  | .hbm, ⟨59, _⟩ => ⟨S2x50176x384, .f32⟩
  | .hbm, ⟨60, _⟩ => ⟨S2x8x8x384, .f32⟩
  | .hbm, ⟨61, _⟩ => ⟨S2x64x768, .f32⟩
  | .hbm, ⟨62, _⟩ => ⟨S2x28x8x28x8x384, .f32⟩
  | .hbm, ⟨63, _⟩ => ⟨S384x384, .bf16⟩
  | .hbm, ⟨64, _⟩ => ⟨S384x384, .bf16⟩
  | .hbm, ⟨65, _⟩ => ⟨S1x384, .f32⟩
  | .hbm, ⟨66, _⟩ => ⟨S384x1152, .bf16⟩
  | .hbm, ⟨67, _⟩ => ⟨S384x384, .bf16⟩
  | .hbm, ⟨68, _⟩ => ⟨S1x384, .f32⟩
  | .hbm, ⟨69, _⟩ => ⟨S384x1152, .bf16⟩
  | .hbm, ⟨70, _⟩ => ⟨S384x384, .bf16⟩
  | .hbm, ⟨71, _⟩ => ⟨S1x384, .f32⟩
  | .hbm, ⟨72, _⟩ => ⟨S94x320x384, .f32⟩
  | .hbm, ⟨73, _⟩ => ⟨S_, .f32⟩
  | .hbm, ⟨74, _⟩ => ⟨S2x28x8x28x8x384, .f32⟩
  | .hbm, ⟨75, _⟩ => ⟨S2x28x8x28x8x384, .f32⟩
  | .hbm, ⟨76, _⟩ => ⟨S470x8x8x384, .f32⟩
  | .hbm, ⟨77, _⟩ => ⟨S2x28x8x28x8x384, .f32⟩
  | .hbm, ⟨78, _⟩ => ⟨S2x50176x384, .f32⟩
  | .hbm, ⟨79, _⟩ => ⟨S2x384x50176, .f32⟩
  | .hbm, ⟨80, _⟩ => ⟨S2x384x224x224, .f32⟩
  | .local _ .vmem, ⟨0, _⟩ => ⟨S1x224x224, .f32⟩
  | .local _ .vmem, ⟨1, _⟩ => ⟨S1x224x224, .f32⟩
  | .local _ .vmem, ⟨2, _⟩ => ⟨S1x28x28, .f32⟩
  | .local _ .vmem, ⟨3, _⟩ => ⟨S1x28x28, .f32⟩
  | .local _ .vmem, ⟨4, _⟩ => ⟨S1x128x6272, .f32⟩
  | .local _ .vmem, ⟨5, _⟩ => ⟨S1x128x6272, .f32⟩
  | .local _ .vmem, ⟨6, _⟩ => ⟨S1x6272x128, .f32⟩
  | .local _ .vmem, ⟨7, _⟩ => ⟨S1x6272x128, .f32⟩
  | .local _ .vmem, ⟨8, _⟩ => ⟨S1x1x8x128, .f32⟩
  | .local _ .vmem, ⟨9, _⟩ => ⟨S1x1x8x128, .f32⟩
  | .local _ .vmem, ⟨10, _⟩ => ⟨S2x8x8x384, .f32⟩
  | .local _ .vmem, ⟨11, _⟩ => ⟨S384x768, .f32⟩
  | .local _ .vmem, ⟨12, _⟩ => ⟨S2x64x768, .f32⟩
  | .local _ .vmem, ⟨13, _⟩ => ⟨S1x1x8x1x8x384, .f32⟩
  | .local _ .vmem, ⟨14, _⟩ => ⟨S1x1x8x1x8x384, .f32⟩
  | .local _ .vmem, ⟨15, _⟩ => ⟨S1x1x8x1x8x384, .f32⟩
  | .local _ .vmem, ⟨16, _⟩ => ⟨S1x1x8x1x8x384, .f32⟩
  | .local _ .vmem, ⟨17, _⟩ => ⟨S1x1x8x1x8x384, .f32⟩
  | .local _ .vmem, ⟨18, _⟩ => ⟨S1x1x8x1x8x384, .f32⟩
  | .local _ .vmem, ⟨19, _⟩ => ⟨S1x1x8x1x8x384, .f32⟩
  | .local _ .vmem, ⟨20, _⟩ => ⟨S1x1x8x1x8x384, .f32⟩
  | .local _ .vmem, ⟨21, _⟩ => ⟨S1x1x8x1x8x384, .f32⟩
  | .local _ .vmem, ⟨22, _⟩ => ⟨S1x1x8x1x8x384, .f32⟩
  | .local _ .vmem, ⟨23, _⟩ => ⟨S1x64x768, .f32⟩
  | .local _ .vmem, ⟨24, _⟩ => ⟨S1x64x768, .f32⟩
  | .local _ .vmem, ⟨25, _⟩ => ⟨S384x384, .bf16⟩
  | .local _ .vmem, ⟨26, _⟩ => ⟨S384x384, .bf16⟩
  | .local _ .vmem, ⟨27, _⟩ => ⟨S1x384, .f32⟩
  | .local _ .vmem, ⟨28, _⟩ => ⟨S384x1152, .bf16⟩
  | .local _ .vmem, ⟨29, _⟩ => ⟨S384x384, .bf16⟩
  | .local _ .vmem, ⟨30, _⟩ => ⟨S1x384, .f32⟩
  | .local _ .vmem, ⟨31, _⟩ => ⟨S384x1152, .bf16⟩
  | .local _ .vmem, ⟨32, _⟩ => ⟨S384x384, .bf16⟩
  | .local _ .vmem, ⟨33, _⟩ => ⟨S1x384, .f32⟩
  | .local _ .vmem, ⟨34, _⟩ => ⟨S1x320x384, .f32⟩
  | .local _ .vmem, ⟨35, _⟩ => ⟨S1x320x384, .f32⟩
  | .local _ .vmem, ⟨36, _⟩ => ⟨S1x8x8x384, .f32⟩
  | .local _ .vmem, ⟨37, _⟩ => ⟨S1x8x8x384, .f32⟩
  | .local _ .vmem, ⟨38, _⟩ => ⟨S1x1x8x1x8x384, .f32⟩
  | .local _ .vmem, ⟨39, _⟩ => ⟨S1x1x8x1x8x384, .f32⟩
  | .local _ .vmem, ⟨40, _⟩ => ⟨S1x6272x128, .f32⟩
  | .local _ .vmem, ⟨41, _⟩ => ⟨S1x6272x128, .f32⟩
  | .local _ .vmem, ⟨42, _⟩ => ⟨S1x128x6272, .f32⟩
  | .local _ .vmem, ⟨43, _⟩ => ⟨S1x128x6272, .f32⟩
  | .local _ .smem, ⟨0, _⟩ => ⟨S470, .i32⟩
  | .local _ .smem, ⟨1, _⟩ => ⟨S470, .i32⟩
  | .local _ .smem, ⟨2, _⟩ => ⟨S470, .i32⟩
  | _, _ => ⟨S2x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v2 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v4 : Ref sig .tc := ⟨.hbm, 55, rfl⟩
abbrev main_v6 : Ref sig .tc := ⟨.hbm, 56, rfl⟩
abbrev main_v7 : Ref sig .tc := ⟨.hbm, 57, rfl⟩
abbrev main_v9 : Ref sig .tc := ⟨.hbm, 58, rfl⟩
abbrev main_v10_0 : Ref sig .tc := ⟨.hbm, 59, rfl⟩
abbrev main_v10_1 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v8 : Ref sig .tc := ⟨.smem, 0, rfl⟩
abbrev main_v3 : Ref sig .tc := ⟨.smem, 1, rfl⟩
abbrev main_v5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg10_0 : Ref sig .tc := ⟨.vmem, 29, rfl⟩
abbrev cc3_stg11_0 : Ref sig .tc := ⟨.vmem, 30, rfl⟩
abbrev cc3_stg12_0 : Ref sig .tc := ⟨.vmem, 31, rfl⟩
abbrev cc3_stg13_0 : Ref sig .tc := ⟨.vmem, 32, rfl⟩
abbrev cc3_stg14_0 : Ref sig .tc := ⟨.vmem, 33, rfl⟩
abbrev cc3_stg15_0 : Ref sig .tc := ⟨.vmem, 34, rfl⟩
abbrev cc3_stg15_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem7_0 : DmaSem sig := 26
abbrev cc3_sem8_0 : DmaSem sig := 27
abbrev cc3_sem9_0 : DmaSem sig := 28
abbrev cc3_sem10_0 : DmaSem sig := 29
abbrev cc3_sem11_0 : DmaSem sig := 30
abbrev cc3_sem12_0 : DmaSem sig := 31
abbrev cc3_sem13_0 : DmaSem sig := 32
abbrev cc3_sem14_0 : DmaSem sig := 33
abbrev cc3_sem15_0 : DmaSem sig := 34
abbrev cc3_sem15_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc5_sem0_0 : DmaSem sig := 40
abbrev cc5_sem0_1 : DmaSem sig := 41
abbrev cc5_sem1_0 : DmaSem sig := 42
abbrev cc5_sem1_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 3, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage1_0 : Fin 2 → Memref sig .tc .vmem S1x128x6272 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x6272x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := .none

abbrev stage2_0 : Fin 1 → Memref sig .tc .vmem S2x8x8x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S384x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x64x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![94], ![false]⟩

abbrev pre3 : Pipeline.Prefetch sig := ⟨3, ![main_v8.idx, main_v3.idx, main_v5.idx], fun | 0 => main_v8.names | 1 => main_v3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) (c0_i32 : BitVec 32) : Fin 1 → Nat :=
  let c5_i32 : BitVec 32 := 5#32
  let arg0 : BitVec 32 := BitVec.ofNat 32 (i 0).val
  let v0 : BitVec 32 := Scalar.muli c5_i32 arg0
  let v1 : BitVec 32 := Scalar.addi v0 c0_i32
  let v2 : Index := Scalar.indexCast v1
  ![v2.toNat]
def k3_off2 (i : grid3.Coords) : Fin 1 → Nat :=
  let c5_i32 : BitVec 32 := 5#32
  let arg0 : BitVec 32 := BitVec.ofNat 32 (i 0).val
  let v0 : BitVec 32 := Scalar.muli c5_i32 arg0
  let v1 : Index := Scalar.indexCast v0
  ![v1.toNat]
def cc3_transform_0 (k3_off1_inb : ∀ i : grid3.Coords, ∀ (r : Fin 5), ∀ a, (k3_off1 i (BitVec.ofNat 32 r.val)) a + S1.size a ≤ S470.size a) (numel1_S1 : S1.numel = 1) (pf : pre3.Contents (Elt F)) (i : grid3.Coords) : Fin 6 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let v2 : Index := Scalar.indexCast v1
  let v3 : BitVec 32 := pf.at 0 (Rect.unit (s := S470) ![v2.toNat] S1.size (k3_off1_inb i 0)) numel1_S1
  let c5_i32_0 : BitVec 32 := 5#32
  let v4 : BitVec 32 := Scalar.muli c5_i32_0 arg0
  let c0_i32_1 : BitVec 32 := 0#32
  let v5 : BitVec 32 := Scalar.addi v4 c0_i32_1
  let v6 : Index := Scalar.indexCast v5
  let v7 : BitVec 32 := pf.at 1 (Rect.unit (s := S470) ![v6.toNat] S1.size (k3_off1_inb i 0)) numel1_S1
  let c5_i32_2 : BitVec 32 := 5#32
  let v8 : BitVec 32 := Scalar.muli c5_i32_2 arg0
  let c0_i32_3 : BitVec 32 := 0#32
  let v9 : BitVec 32 := Scalar.addi v8 c0_i32_3
  let v10 : Index := Scalar.indexCast v9
  let v11 : BitVec 32 := pf.at 2 (Rect.unit (s := S470) ![v10.toNat] S1.size (k3_off1_inb i 0)) numel1_S1
  let c0_i32_4 : BitVec 32 := 0#32
  let c0_i32_5 : BitVec 32 := 0#32
  let c0_i32_6 : BitVec 32 := 0#32
  let c0_i32_7 : BitVec 32 := 0#32
  ![v3.toNat, v7.toNat, c0_i32_4.toNat, v11.toNat, c0_i32_5.toNat, c0_i32_6.toNat]

def cc3_transform_1 (k3_off1_inb : ∀ i : grid3.Coords, ∀ (r : Fin 5), ∀ a, (k3_off1 i (BitVec.ofNat 32 r.val)) a + S1.size a ≤ S470.size a) (numel1_S1 : S1.numel = 1) (pf : pre3.Contents (Elt F)) (i : grid3.Coords) : Fin 6 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let v2 : Index := Scalar.indexCast v1
  let v3 : BitVec 32 := pf.at 0 (Rect.unit (s := S470) ![v2.toNat] S1.size (k3_off1_inb i 1)) numel1_S1
  let c5_i32_0 : BitVec 32 := 5#32
  let v4 : BitVec 32 := Scalar.muli c5_i32_0 arg0
  let c1_i32_1 : BitVec 32 := 1#32
  let v5 : BitVec 32 := Scalar.addi v4 c1_i32_1
  let v6 : Index := Scalar.indexCast v5
  let v7 : BitVec 32 := pf.at 1 (Rect.unit (s := S470) ![v6.toNat] S1.size (k3_off1_inb i 1)) numel1_S1
  let c5_i32_2 : BitVec 32 := 5#32
  let v8 : BitVec 32 := Scalar.muli c5_i32_2 arg0
  let c1_i32_3 : BitVec 32 := 1#32
  let v9 : BitVec 32 := Scalar.addi v8 c1_i32_3
  let v10 : Index := Scalar.indexCast v9
  let v11 : BitVec 32 := pf.at 2 (Rect.unit (s := S470) ![v10.toNat] S1.size (k3_off1_inb i 1)) numel1_S1
  let c0_i32 : BitVec 32 := 0#32
  let c0_i32_4 : BitVec 32 := 0#32
  let c0_i32_5 : BitVec 32 := 0#32
  let c0_i32_6 : BitVec 32 := 0#32
  ![v3.toNat, v7.toNat, c0_i32.toNat, v11.toNat, c0_i32_4.toNat, c0_i32_5.toNat]

def cc3_transform_2 (k3_off1_inb : ∀ i : grid3.Coords, ∀ (r : Fin 5), ∀ a, (k3_off1 i (BitVec.ofNat 32 r.val)) a + S1.size a ≤ S470.size a) (numel1_S1 : S1.numel = 1) (pf : pre3.Contents (Elt F)) (i : grid3.Coords) : Fin 6 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let v2 : Index := Scalar.indexCast v1
  let v3 : BitVec 32 := pf.at 0 (Rect.unit (s := S470) ![v2.toNat] S1.size (k3_off1_inb i 2)) numel1_S1
  let c5_i32_0 : BitVec 32 := 5#32
  let v4 : BitVec 32 := Scalar.muli c5_i32_0 arg0
  let c2_i32_1 : BitVec 32 := 2#32
  let v5 : BitVec 32 := Scalar.addi v4 c2_i32_1
  let v6 : Index := Scalar.indexCast v5
  let v7 : BitVec 32 := pf.at 1 (Rect.unit (s := S470) ![v6.toNat] S1.size (k3_off1_inb i 2)) numel1_S1
  let c5_i32_2 : BitVec 32 := 5#32
  let v8 : BitVec 32 := Scalar.muli c5_i32_2 arg0
  let c2_i32_3 : BitVec 32 := 2#32
  let v9 : BitVec 32 := Scalar.addi v8 c2_i32_3
  let v10 : Index := Scalar.indexCast v9
  let v11 : BitVec 32 := pf.at 2 (Rect.unit (s := S470) ![v10.toNat] S1.size (k3_off1_inb i 2)) numel1_S1
  let c0_i32 : BitVec 32 := 0#32
  let c0_i32_4 : BitVec 32 := 0#32
  let c0_i32_5 : BitVec 32 := 0#32
  let c0_i32_6 : BitVec 32 := 0#32
  ![v3.toNat, v7.toNat, c0_i32.toNat, v11.toNat, c0_i32_4.toNat, c0_i32_5.toNat]

def cc3_transform_3 (k3_off1_inb : ∀ i : grid3.Coords, ∀ (r : Fin 5), ∀ a, (k3_off1 i (BitVec.ofNat 32 r.val)) a + S1.size a ≤ S470.size a) (numel1_S1 : S1.numel = 1) (pf : pre3.Contents (Elt F)) (i : grid3.Coords) : Fin 6 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let v2 : Index := Scalar.indexCast v1
  let v3 : BitVec 32 := pf.at 0 (Rect.unit (s := S470) ![v2.toNat] S1.size (k3_off1_inb i 3)) numel1_S1
  let c5_i32_0 : BitVec 32 := 5#32
  let v4 : BitVec 32 := Scalar.muli c5_i32_0 arg0
  let c3_i32_1 : BitVec 32 := 3#32
  let v5 : BitVec 32 := Scalar.addi v4 c3_i32_1
  let v6 : Index := Scalar.indexCast v5
  let v7 : BitVec 32 := pf.at 1 (Rect.unit (s := S470) ![v6.toNat] S1.size (k3_off1_inb i 3)) numel1_S1
  let c5_i32_2 : BitVec 32 := 5#32
  let v8 : BitVec 32 := Scalar.muli c5_i32_2 arg0
  let c3_i32_3 : BitVec 32 := 3#32
  let v9 : BitVec 32 := Scalar.addi v8 c3_i32_3
  let v10 : Index := Scalar.indexCast v9
  let v11 : BitVec 32 := pf.at 2 (Rect.unit (s := S470) ![v10.toNat] S1.size (k3_off1_inb i 3)) numel1_S1
  let c0_i32 : BitVec 32 := 0#32
  let c0_i32_4 : BitVec 32 := 0#32
  let c0_i32_5 : BitVec 32 := 0#32
  let c0_i32_6 : BitVec 32 := 0#32
  ![v3.toNat, v7.toNat, c0_i32.toNat, v11.toNat, c0_i32_4.toNat, c0_i32_5.toNat]

def cc3_transform_4 (k3_off1_inb : ∀ i : grid3.Coords, ∀ (r : Fin 5), ∀ a, (k3_off1 i (BitVec.ofNat 32 r.val)) a + S1.size a ≤ S470.size a) (numel1_S1 : S1.numel = 1) (pf : pre3.Contents (Elt F)) (i : grid3.Coords) : Fin 6 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let v2 : Index := Scalar.indexCast v1
  let v3 : BitVec 32 := pf.at 0 (Rect.unit (s := S470) ![v2.toNat] S1.size (k3_off1_inb i 4)) numel1_S1
  let c5_i32_0 : BitVec 32 := 5#32
  let v4 : BitVec 32 := Scalar.muli c5_i32_0 arg0
  let c4_i32_1 : BitVec 32 := 4#32
  let v5 : BitVec 32 := Scalar.addi v4 c4_i32_1
  let v6 : Index := Scalar.indexCast v5
  let v7 : BitVec 32 := pf.at 1 (Rect.unit (s := S470) ![v6.toNat] S1.size (k3_off1_inb i 4)) numel1_S1
  let c5_i32_2 : BitVec 32 := 5#32
  let v8 : BitVec 32 := Scalar.muli c5_i32_2 arg0
  let c4_i32_3 : BitVec 32 := 4#32
  let v9 : BitVec 32 := Scalar.addi v8 c4_i32_3
  let v10 : Index := Scalar.indexCast v9
  let v11 : BitVec 32 := pf.at 2 (Rect.unit (s := S470) ![v10.toNat] S1.size (k3_off1_inb i 4)) numel1_S1
  let c0_i32 : BitVec 32 := 0#32
  let c0_i32_4 : BitVec 32 := 0#32
  let c0_i32_5 : BitVec 32 := 0#32
  let c0_i32_6 : BitVec 32 := 0#32
  ![v3.toNat, v7.toNat, c0_i32.toNat, v11.toNat, c0_i32_4.toNat, c0_i32_5.toNat]

def cc3_transform_5 (k3_off2_inb : ∀ i : grid3.Coords, ∀ a, (k3_off2 i) a + S1.size a ≤ S470.size a) (numel1_S1 : S1.numel = 1) (pf : pre3.Contents (Elt F)) (i : grid3.Coords) : Fin 3 → Nat :=
  let arg0 : BitVec 32 := BitVec.ofNat 32 (i 0).val
  let c5_i32 : BitVec 32 := 5#32
  let v0 : BitVec 32 := Scalar.muli c5_i32 arg0
  let v1 : Index := Scalar.indexCast v0
  let v2 : BitVec 32 := pf.at 0 (Rect.unit (s := S470) ![v1.toNat] S1.size (k3_off2_inb i)) numel1_S1
  let c0_i32 : BitVec 32 := 0#32
  let c0_i32_0 : BitVec 32 := 0#32
  let c0_i32_1 : BitVec 32 := 0#32
  ![v2.toNat, c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x8x1x8x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x8x1x8x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x8x1x8x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x8x1x8x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x8x1x8x384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S384x384 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S384x384 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x384 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S384x1152 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S384x384 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x384 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S384x1152 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S384x384 .bf16 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x384 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S1x320x384 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![470], ![false]⟩

abbrev pre4 : Pipeline.Prefetch sig := ⟨3, ![main_v8.idx, main_v3.idx, main_v5.idx], fun | 0 => main_v8.names | 1 => main_v3.names | 2 => main_v5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (k4_off1_inb : ∀ i : grid4.Coords, ∀ a, (k4_off1 i) a + S1.size a ≤ S470.size a) (numel1_S1 : S1.numel = 1) (pf : pre4.Contents (Elt F)) (i : grid4.Coords) : Fin 6 → Nat :=
  let arg0 : BitVec 32 := BitVec.ofNat 32 (i 0).val
  let v0 : Index := Scalar.indexCast arg0
  let v1 : BitVec 32 := pf.at 0 (Rect.unit (s := S470) ![v0.toNat] S1.size (k4_off1_inb i)) numel1_S1
  let v2 : Index := Scalar.indexCast arg0
  let v3 : BitVec 32 := pf.at 1 (Rect.unit (s := S470) ![v2.toNat] S1.size (k4_off1_inb i)) numel1_S1
  let v4 : Index := Scalar.indexCast arg0
  let v5 : BitVec 32 := pf.at 2 (Rect.unit (s := S470) ![v4.toNat] S1.size (k4_off1_inb i)) numel1_S1
  let c0_i32 : BitVec 32 := 0#32
  let c0_i32_0 : BitVec 32 := 0#32
  let c0_i32_1 : BitVec 32 := 0#32
  let c0_i32_2 : BitVec 32 := 0#32
  ![v1.toNat, v3.toNat, c0_i32.toNat, v5.toNat, c0_i32_0.toNat, c0_i32_1.toNat]

abbrev stage4_0 : Fin 2 → Memref sig .tc .vmem S1x8x8x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x8x1x8x384 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨3, ![2, 3, 8], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage5_0 : Fin 2 → Memref sig .tc .vmem S1x6272x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S1x128x6272 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, true]
-- ==== KernelIdeal.lean ====
variable {F : FTy → Type} [FloatOps F] [Named F]
def κ : String → Option EReal := fun
  | "mask" => some ⊥
  | "pool_inv" => some ((784⁻¹ : ℝ) : EReal)
  | _ => none
-- ==== ReferenceIdeal.lean ====
abbrev S2x384x224x224 : Shape := ⟨4, ![2, 384, 224, 224]⟩
abbrev S2x224x224 : Shape := ⟨3, ![2, 224, 224]⟩
abbrev S384x384 : Shape := ⟨2, ![384, 384]⟩
abbrev S384x768 : Shape := ⟨2, ![384, 768]⟩
abbrev S384 : Shape := ⟨1, ![384]⟩
abbrev S384x1152 : Shape := ⟨2, ![384, 1152]⟩
abbrev S2x28x8x28x8 : Shape := ⟨5, ![2, 28, 8, 28, 8]⟩
abbrev S2x28x28x8x8 : Shape := ⟨5, ![2, 28, 28, 8, 8]⟩
abbrev S2x784x64 : Shape := ⟨3, ![2, 784, 64]⟩
abbrev S2x224x224x384 : Shape := ⟨4, ![2, 224, 224, 384]⟩
abbrev S2x28x8x28x8x384 : Shape := ⟨6, ![2, 28, 8, 28, 8, 384]⟩
abbrev S2x28x28x8x8x384 : Shape := ⟨6, ![2, 28, 28, 8, 8, 384]⟩
abbrev S1568x64x384 : Shape := ⟨3, ![1568, 64, 384]⟩
abbrev S_ : Shape := ⟨0, ![]⟩
abbrev S2x784 : Shape := ⟨2, ![2, 784]⟩
abbrev S2x235 : Shape := ⟨2, ![2, 235]⟩
abbrev S2 : Shape := ⟨1, ![2]⟩
abbrev S2x1 : Shape := ⟨2, ![2, 1]⟩
abbrev S470 : Shape := ⟨1, ![470]⟩
abbrev S470x1 : Shape := ⟨2, ![470, 1]⟩
abbrev S1 : Shape := ⟨1, ![1]⟩
abbrev S1x1 : Shape := ⟨2, ![1, 1]⟩
abbrev S470x64x384 : Shape := ⟨3, ![470, 64, 384]⟩
abbrev S2x384x8x28x8x28 : Shape := ⟨6, ![2, 384, 8, 28, 8, 28]⟩
abbrev S2x384x8x8 : Shape := ⟨4, ![2, 384, 8, 8]⟩
abbrev S2x15040x384 : Shape := ⟨3, ![2, 15040, 384]⟩
abbrev S2x384x64 : Shape := ⟨3, ![2, 384, 64]⟩
abbrev S2x64x384 : Shape := ⟨3, ![2, 64, 384]⟩
abbrev S2x64x768 : Shape := ⟨3, ![2, 64, 768]⟩
abbrev S2x64x2x384 : Shape := ⟨4, ![2, 64, 2, 384]⟩
abbrev S2x64x1x384 : Shape := ⟨4, ![2, 64, 1, 384]⟩
abbrev S2x15040x64 : Shape := ⟨3, ![2, 15040, 64]⟩
abbrev S2x15040 : Shape := ⟨2, ![2, 15040]⟩
abbrev S2x15040x1 : Shape := ⟨3, ![2, 15040, 1]⟩
abbrev S1x1x384 : Shape := ⟨3, ![1, 1, 384]⟩
abbrev S470x64x1152 : Shape := ⟨3, ![470, 64, 1152]⟩
abbrev S470x64x3x384 : Shape := ⟨4, ![470, 64, 3, 384]⟩
abbrev S470x64x1x384 : Shape := ⟨4, ![470, 64, 1, 384]⟩
abbrev S470x384x64 : Shape := ⟨3, ![470, 384, 64]⟩
abbrev S470x64x64 : Shape := ⟨3, ![470, 64, 64]⟩
abbrev S470x64 : Shape := ⟨2, ![470, 64]⟩
abbrev S470x64x1 : Shape := ⟨3, ![470, 64, 1]⟩

abbrev nBuf : Space → Nat
  | .hbm => 215
  | .vmem => 0
  | .smem => 0
  | _ => 0

abbrev hbmTy0_0 (i : Nat) : BufTy := match i % 128 with
  | 0 => ⟨S2x384x224x224, .f32⟩
  | 1 => ⟨S2x224x224, .f32⟩
  | 2 => ⟨S384x384, .f32⟩
  | 3 => ⟨S384x768, .f32⟩
  | 4 => ⟨S384x384, .f32⟩
  | 5 => ⟨S384, .f32⟩
  | 6 => ⟨S384x1152, .f32⟩
  | 7 => ⟨S384x384, .f32⟩
  | 8 => ⟨S384, .f32⟩
  | 9 => ⟨S384x1152, .f32⟩
  | 10 => ⟨S384x384, .f32⟩
  | 11 => ⟨S384, .f32⟩
  | 12 => ⟨S2x28x8x28x8, .f32⟩
  | 13 => ⟨S2x28x28x8x8, .f32⟩
  | 14 => ⟨S2x784x64, .f32⟩
  | 15 => ⟨S2x224x224x384, .f32⟩
  | 16 => ⟨S2x28x8x28x8x384, .f32⟩
  | 17 => ⟨S2x28x28x8x8x384, .f32⟩
  | 18 => ⟨S1568x64x384, .f32⟩
  | 19 => ⟨S_, .f32⟩
  | 20 => ⟨S2x784, .f32⟩
  | 21 => ⟨S_, .f32⟩
  | 22 => ⟨S2x784, .f32⟩
  | 23 => ⟨S2x784, .f32⟩
  | 24 => ⟨S2x235, .f32⟩
  | 25 => ⟨S2x235, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2x1, .i32⟩
  | 34 => ⟨S2x235, .i32⟩
  | 35 => ⟨S2x235, .i32⟩
  | 36 => ⟨S470, .i32⟩
  | 37 => ⟨S_, .i32⟩
  | 38 => ⟨S470, .i32⟩
  | 39 => ⟨S470, .i1⟩
  | 40 => ⟨S_, .i32⟩
  | 41 => ⟨S470, .i32⟩
  | 42 => ⟨S470, .i32⟩
  | 43 => ⟨S470, .i32⟩
  | 44 => ⟨S470x1, .i32⟩
  | 45 => ⟨S1, .i32⟩
  | 46 => ⟨S_, .i32⟩
  | 47 => ⟨S470x1, .i32⟩
  | 48 => ⟨S470x1, .i1⟩
  | 49 => ⟨S1x1, .i32⟩
  | 50 => ⟨S470x1, .i32⟩
  | 51 => ⟨S470x1, .i1⟩
  | 52 => ⟨S470x1, .i1⟩
  | 53 => ⟨S_, .i1⟩
  | 54 => ⟨S470, .i1⟩
  | 55 => ⟨S470x64x384, .f32⟩
  | 56 => ⟨S470x64x384, .i1⟩
  | 57 => ⟨S_, .f32⟩
  | 58 => ⟨S470x64x384, .f32⟩
  | 59 => ⟨S470x64x384, .f32⟩
  | 60 => ⟨S2x384x8x28x8x28, .f32⟩
  | 61 => ⟨S_, .f32⟩
  | 62 => ⟨S2x384x8x8, .f32⟩
  | 63 => ⟨S_, .f32⟩
  | 64 => ⟨S2x384x8x8, .f32⟩
  | 65 => ⟨S2x384x8x8, .f32⟩
  | 66 => ⟨S470x64x384, .f32⟩
  | 67 => ⟨S2x15040x384, .f32⟩
  | 68 => ⟨S2x384x64, .f32⟩
  | 69 => ⟨S2x64x384, .f32⟩
  | 70 => ⟨S2x64x768, .f32⟩
  | 71 => ⟨S2x64x2x384, .f32⟩
  | 72 => ⟨S2x64x1x384, .f32⟩
  | 73 => ⟨S2x64x384, .f32⟩
  | 74 => ⟨S2x64x1x384, .f32⟩
  | 75 => ⟨S2x64x384, .f32⟩
  | 76 => ⟨S2x384x64, .f32⟩
  | 77 => ⟨S2x15040x64, .f32⟩
  | 78 => ⟨S_, .f32⟩
  | 79 => ⟨S2x15040x64, .f32⟩
  | 80 => ⟨S2x15040x64, .f32⟩
  | 81 => ⟨S_, .f32⟩
  | 82 => ⟨S2x15040, .f32⟩
  | 83 => ⟨S_, .f32⟩
  | 84 => ⟨S2x15040, .f32⟩
  | 85 => ⟨S2x15040, .f32⟩
  | 86 => ⟨S2x15040x1, .f32⟩
  | 87 => ⟨S2x15040x64, .f32⟩
  | 88 => ⟨S2x15040x64, .f32⟩
  | 89 => ⟨S2x15040x64, .f32⟩
  | 90 => ⟨S_, .f32⟩
  | 91 => ⟨S2x15040, .f32⟩
  | 92 => ⟨S2x15040x1, .f32⟩
  | 93 => ⟨S2x15040x64, .f32⟩
  | 94 => ⟨S2x15040x64, .f32⟩
  | 95 => ⟨S2x15040x384, .f32⟩
  | 96 => ⟨S470x64x384, .f32⟩
  | 97 => ⟨S470x64x384, .f32⟩
  | 98 => ⟨S470x64x384, .f32⟩
  | 99 => ⟨S1x1x384, .f32⟩
  | 100 => ⟨S470x64x384, .f32⟩
  | 101 => ⟨S470x64x384, .f32⟩
  | 102 => ⟨S_, .f32⟩
  | 103 => ⟨S470x64x384, .f32⟩
  | 104 => ⟨S470x64x384, .f32⟩
  | 105 => ⟨S470x64x384, .f32⟩
  | 106 => ⟨S_, .f32⟩
  | 107 => ⟨S470x64x384, .f32⟩
  | 108 => ⟨S470x64x384, .f32⟩
  | 109 => ⟨S470x64x384, .f32⟩
  | 110 => ⟨S470x64x384, .f32⟩
  | 111 => ⟨S470x64x384, .f32⟩
  | 112 => ⟨S470x64x1152, .f32⟩
  | 113 => ⟨S470x64x3x384, .f32⟩
  | 114 => ⟨S470x64x1x384, .f32⟩
  | 115 => ⟨S470x64x384, .f32⟩
  | 116 => ⟨S470x64x1x384, .f32⟩
  | 117 => ⟨S470x64x384, .f32⟩
  | 118 => ⟨S470x64x1x384, .f32⟩
  | 119 => ⟨S470x64x384, .f32⟩
  | 120 => ⟨S470x384x64, .f32⟩
  | 121 => ⟨S470x64x64, .f32⟩
  | 122 => ⟨S_, .f32⟩
  | 123 => ⟨S470x64x64, .f32⟩
  | 124 => ⟨S470x64x64, .f32⟩
  | 125 => ⟨S_, .f32⟩
  | 126 => ⟨S470x64, .f32⟩
  | 127 => ⟨S_, .f32⟩
  | _ => ⟨S2x384x224x224, .f32⟩

abbrev hbmTy0_1 (i : Nat) : BufTy := match i % 128 with
  | 0 => ⟨S470x64, .f32⟩
  | 1 => ⟨S470x64, .f32⟩
  | 2 => ⟨S470x64x1, .f32⟩
  | 3 => ⟨S470x64x64, .f32⟩
  | 4 => ⟨S470x64x64, .f32⟩
  | 5 => ⟨S470x64x64, .f32⟩
  | 6 => ⟨S_, .f32⟩
  | 7 => ⟨S470x64, .f32⟩
  | 8 => ⟨S470x64x1, .f32⟩
  | 9 => ⟨S470x64x64, .f32⟩
  | 10 => ⟨S470x64x64, .f32⟩
  | 11 => ⟨S470x64x384, .f32⟩
  | 12 => ⟨S470x384x64, .f32⟩
  | 13 => ⟨S470x64x384, .f32⟩
  | 14 => ⟨S470x64x384, .f32⟩
  | 15 => ⟨S470x64x384, .f32⟩
  | 16 => ⟨S1x1x384, .f32⟩
  | 17 => ⟨S470x64x384, .f32⟩
  | 18 => ⟨S470x64x384, .f32⟩
  | 19 => ⟨S_, .f32⟩
  | 20 => ⟨S470x64x384, .f32⟩
  | 21 => ⟨S470x64x384, .f32⟩
  | 22 => ⟨S470x64x384, .f32⟩
  | 23 => ⟨S_, .f32⟩
  | 24 => ⟨S470x64x384, .f32⟩
  | 25 => ⟨S470x64x384, .f32⟩
  | 26 => ⟨S470x64x384, .f32⟩
  | 27 => ⟨S470x64x384, .f32⟩
  | 28 => ⟨S470x64x384, .f32⟩
  | 29 => ⟨S470x64x1152, .f32⟩
  | 30 => ⟨S470x64x3x384, .f32⟩
  | 31 => ⟨S470x64x1x384, .f32⟩
  | 32 => ⟨S470x64x384, .f32⟩
  | 33 => ⟨S470x64x1x384, .f32⟩
  | 34 => ⟨S470x64x384, .f32⟩
  | 35 => ⟨S470x64x1x384, .f32⟩
  | 36 => ⟨S470x64x384, .f32⟩
  | 37 => ⟨S470x384x64, .f32⟩
  | 38 => ⟨S470x64x64, .f32⟩
  | 39 => ⟨S_, .f32⟩
  | 40 => ⟨S470x64x64, .f32⟩
  | 41 => ⟨S470x64x64, .f32⟩
  | 42 => ⟨S_, .f32⟩
  | 43 => ⟨S470x64, .f32⟩
  | 44 => ⟨S_, .f32⟩
  | 45 => ⟨S470x64, .f32⟩
  | 46 => ⟨S470x64, .f32⟩
  | 47 => ⟨S470x64x1, .f32⟩
  | 48 => ⟨S470x64x64, .f32⟩
  | 49 => ⟨S470x64x64, .f32⟩
  | 50 => ⟨S470x64x64, .f32⟩
  | 51 => ⟨S_, .f32⟩
  | 52 => ⟨S470x64, .f32⟩
  | 53 => ⟨S470x64x1, .f32⟩
  | 54 => ⟨S470x64x64, .f32⟩
  | 55 => ⟨S470x64x64, .f32⟩
  | 56 => ⟨S470x64x384, .f32⟩
  | 57 => ⟨S470x384x64, .f32⟩
  | 58 => ⟨S470x64x384, .f32⟩
  | 59 => ⟨S470x64x384, .f32⟩
  | 60 => ⟨S470x64x384, .f32⟩
  | 61 => ⟨S1x1x384, .f32⟩
  | 62 => ⟨S470x64x384, .f32⟩
  | 63 => ⟨S470x64x384, .f32⟩
  | 64 => ⟨S_, .f32⟩
  | 65 => ⟨S470x64x384, .f32⟩
  | 66 => ⟨S470x64x384, .f32⟩
  | 67 => ⟨S470x64x384, .f32⟩
  | 68 => ⟨S_, .f32⟩
  | 69 => ⟨S470x64x384, .f32⟩
  | 70 => ⟨S470x64x384, .f32⟩
  | 71 => ⟨S470x64x384, .f32⟩
  | 72 => ⟨S470x64x384, .f32⟩
  | 73 => ⟨S470x64x384, .f32⟩
  | 74 => ⟨S_, .i32⟩
  | 75 => ⟨S470, .i32⟩
  | 76 => ⟨S470, .i1⟩
  | 77 => ⟨S_, .i32⟩
  | 78 => ⟨S470, .i32⟩
  | 79 => ⟨S470, .i32⟩
  | 80 => ⟨S470, .i32⟩
  | 81 => ⟨S470x1, .i32⟩
  | 82 => ⟨S1568x64x384, .f32⟩
  | 83 => ⟨S2x28x28x8x8x384, .f32⟩
  | 84 => ⟨S2x28x8x28x8x384, .f32⟩
  | 85 => ⟨S2x224x224x384, .f32⟩
  | 86 => ⟨S2x384x224x224, .f32⟩
  | _ => ⟨S2x384x224x224, .f32⟩

abbrev hbmTy (i : Nat) : BufTy := match i / 128 with
  | 0 => hbmTy0_0 i
  | 1 => hbmTy0_1 i
  | _ => ⟨S2x384x224x224, .f32⟩

abbrev bufTy : (tb : Table) → Fin (tcTables nBuf tb) → BufTy
  | .hbm, ⟨i, _⟩ => hbmTy i
  | _, _ => ⟨S2x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_values : Ref sig .tc := ⟨.hbm, 24, rfl⟩
abbrev main_indices : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v19 : Ref sig .tc := ⟨.hbm, 59, rfl⟩
abbrev main_v20 : Ref sig .tc := ⟨.hbm, 60, rfl⟩
abbrev main_cst_2 : Ref sig .tc := ⟨.hbm, 61, rfl⟩
abbrev main_v21 : Ref sig .tc := ⟨.hbm, 62, rfl⟩
abbrev main_cst_3 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_4 : Ref sig .tc := ⟨.hbm, 78, rfl⟩
abbrev main_v36 : Ref sig .tc := ⟨.hbm, 79, rfl⟩
abbrev main_v37 : Ref sig .tc := ⟨.hbm, 80, rfl⟩
abbrev main_cst_5 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_7 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_8 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_9 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_10 : Ref sig .tc := ⟨.hbm, 122, rfl⟩
abbrev main_v74 : Ref sig .tc := ⟨.hbm, 123, rfl⟩
abbrev main_v75 : Ref sig .tc := ⟨.hbm, 124, rfl⟩
abbrev main_cst_11 : Ref sig .tc := ⟨.hbm, 125, rfl⟩
abbrev main_v76 : Ref sig .tc := ⟨.hbm, 126, rfl⟩
abbrev main_cst_12 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_13 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_14 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_15 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_16 : Ref sig .tc := ⟨.hbm, 167, rfl⟩
abbrev main_v113 : Ref sig .tc := ⟨.hbm, 168, rfl⟩
abbrev main_v114 : Ref sig .tc := ⟨.hbm, 169, rfl⟩
abbrev main_cst_17 : Ref sig .tc := ⟨.hbm, 170, rfl⟩
abbrev main_v115 : Ref sig .tc := ⟨.hbm, 171, rfl⟩
abbrev main_cst_18 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_19 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_20 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_21 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_c_22 : Ref sig .tc := ⟨.hbm, 202, rfl⟩
abbrev main_v142 : Ref sig .tc := ⟨.hbm, 203, rfl⟩
abbrev main_v143 : Ref sig .tc := ⟨.hbm, 204, rfl⟩
abbrev main_c_23 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩

abbrev nD : Nat := 1
abbrev τ : Topo := Topo.v7x

variable {F : FTy → Type} [FloatOps F]
-- ==== Proof.KI.Base.lean ====
/- What the six calls' proofs share: one wait index, every level zero, no debt, and the buffers' valuation of a core. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameTail
public import Idealize.ShloMosaic.Lib.Pipeline.RegionArraysS
public import Idealize.ShloMosaic.Lib.Pipeline.RegionArraysTS
public import Idealize.ShloMosaic.Lib.Pipeline.RegionsLoop
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Run

open Idealize.ShloMosaic Idealize.ShloMosaic.TcCoe
open Idealize.SL Idealize.SL.Sem
open Cert.KernelIdeal.Gen

/-- Every cell of a TensorCore may be waited at under the one index, no other cell. -/
abbrev L : GSem nD τ sig → Finset Unit := fun g => if g.1.2 = .tc then {()} else ∅
/-- Every level is zero: no core owes anything while it waits. -/
abbrev lv : GSem nD τ sig → Unit → ℕ := fun _ _ => 0
/-- What a core owes between the calls: nothing. -/
abbrev D : Dev nD → CellTallies nD τ sig Unit := fun _ => 0

variable {F : FTy → Type} [FloatOps F] [Named F]

/-- No call's waits meet a debt. -/
theorem cut (a : (p : Fin 6) → (pcfgs (F := F) p).Adm) (p : Fin 6) :
    Pipeline.LevelCut (pcfgs (F := F)) a () L lv p D (fun _ => (0 : ℕ)) where
  hι := fun _ _ _ => by simp [L]
  hιb := fun _ _ _ => le_refl _
  hD := fun _ _ _ h => absurd h (lt_irrefl _)

end Cert.KernelIdeal.Run

end
-- ==== Proof.KI.Tables.lean ====
/- The three tables the two table-driven calls read: a window's batch entry, its row of windows and its column. -/
module

public import proofs.«01_k».proof.Proof.KI.Base
public import proofs.«01_k».proof.Proof.Gen.KernelIdeal.Regions
public import Idealize.ShloMosaic.Lib.SortFacts
public import Idealize.ShloMosaic.Lib.WordArith
public import Idealize.ShloMosaic.Lib.StableHlo.ReadAt

@[expose] public section

set_option maxRecDepth 16384

noncomputable section

namespace Cert.KernelIdeal.Run.Tab

open Idealize.ShloMosaic Idealize.ShloMosaic.TcCoe Idealize.ShloMosaic.Tactic
open Idealize.SL Idealize.SL.Sem
open Cert.KernelIdeal.Gen

variable {F : FTy → Type} [FloatOps F] [Named F]

/-- A window's block lies inside the map when its batch entry, row and column of windows are in range. -/
theorem block_ok {f : Fin 6 → ℕ} {b y x : ℕ} (hf : f = ![b, y, 0, x, 0, 0]) (hb : b < 2) (hy : y < 28) (hx : x < 28) :
    ∃ h : (∀ a, (f a + 1) * S1x1x8x1x8x384.size a ≤ S2x28x8x28x8x384.size a), EltTy.bits .f32 = 32 ∨
      (Rect.block (s := S2x28x8x28x8x384) S1x1x8x1x8x384.size f h).WholeWords (EltTy.packing .f32) := by
  subst hf
  refine ⟨fun a => ?_, Or.inl rfl⟩
  fin_cases a <;> simp [Shape.size] <;> omega

/-- The first table-driven call's blocks lie inside their arrays when the tables' entries are in range. -/
theorem ok3_of (pf : pre3.Contents (Elt F)) (hb : ∀ j, BitVec.toNat (pf 0 j) < 2) (hy : ∀ j, BitVec.toNat (pf 1 j) < 28)
    (hx : ∀ j, BitVec.toNat (pf 2 j) < 28) : ok3 pf := by
  refine ⟨fun i => ?_, fun i => ?_, fun i => ?_, fun i => ?_, fun i => ?_, fun i => ⟨fun a => ?_, Or.inl rfl⟩⟩
  iterate 5 exact block_ok rfl (hb _) (hy _) (hx _)
  have h := hb (Rect.emb (Rect.unit (s := S470) (k3_off2 i) S1.size (k3_off2_inb i)) (Shape.Idx.first (numel1_S1.symm ▸ Nat.one_pos)))
  fin_cases a
  · exact (by omega : ∀ n : ℕ, n < 2 → (n + 1) * 1 ≤ 2) _ h
  · exact (by decide : (0 + 1) * 64 ≤ 64)
  · exact (by decide : (0 + 1) * 768 ≤ 768)

theorem ok4_of (pf : pre4.Contents (Elt F)) (hb : ∀ j, BitVec.toNat (pf 0 j) < 2) (hy : ∀ j, BitVec.toNat (pf 1 j) < 28)
    (hx : ∀ j, BitVec.toNat (pf 2 j) < 28) : ok4 pf :=
  fun i => block_ok rfl (hb _) (hy _) (hx _)

/-- The word the floor division of a window's number by 28 comes to. -/
def divWord (w d : BitVec 32) : BitVec 32 :=
  Scalar.select
      (IntOp.andi
        (IntOp.cmpi CmpIPredicate.ne (if w = 0 then (0 : BitVec 32) else if BitVec.msb w = true then -1 else 1)
          (if d = 0 then (0 : BitVec 32) else if BitVec.msb d = true then -1 else 1))
        (IntOp.cmpi CmpIPredicate.ne (IntOp.remsi ArithUnit.host w d) 0#32))
      (IntOp.subi (IntOp.divsi ArithUnit.host w d) 1#32) (IntOp.divsi ArithUnit.host w d)

/-- The divisor of the remainder: one in place of zero. -/
def modDen (d : BitVec 32) : BitVec 32 := Scalar.select (IntOp.cmpi CmpIPredicate.eq d 0#32) (1#32) d

/-- The word the remainder of a window's number by 28 comes to. -/
def modWord (w d : BitVec 32) : BitVec 32 :=
  Scalar.select
      (IntOp.andi
        (IntOp.cmpi CmpIPredicate.ne (IntOp.cmpi CmpIPredicate.slt (IntOp.remsi ArithUnit.host w (modDen d)) 0#32)
          (IntOp.cmpi CmpIPredicate.slt (modDen d) 0#32))
        (IntOp.cmpi CmpIPredicate.ne (IntOp.remsi ArithUnit.host w (modDen d)) 0#32))
      (IntOp.addi (IntOp.remsi ArithUnit.host w (modDen d)) (modDen d)) (IntOp.remsi ArithUnit.host w (modDen d))

theorem divWord_eq (n : Fin 784) : divWord (BitVec.ofNat 32 n.val) 28#32 = BitVec.ofNat 32 (n.val / 28) := by
  revert n; decide +kernel
theorem modWord_eq (n : Fin 784) : modWord (BitVec.ofNat 32 n.val) 28#32 = BitVec.ofNat 32 (n.val % 28) := by
  revert n; decide +kernel

/-- The order a row's stable sort, greater first, puts its positions in. -/
def order {α : Type} {r n : ℕ} (gt : α → α → BitVec 1) (x : (⟨2, ![r, n]⟩ : Shape).Idx → α) (b : Fin r) (k : Fin n) : Fin n :=
  sortedFrom (fun k k' : Fin n => gt (x (ix2 b k)) (x (ix2 b k')) == 1#1) k

theorem along_row {r n : ℕ} (J : (⟨2, ![r, n]⟩ : Shape).Idx) (k : Fin n) :
    J.along (1 : Fin 2) (k : Fin ((⟨2, ![r, n]⟩ : Shape).size (1 : Fin 2))) = (ix2 (J 0) k : (⟨2, ![r, n]⟩ : Shape).Idx) := by
  funext a; fin_cases a <;> rfl

/-- The second result of a sort of a row with its positions. -/
theorem sorted_positions {α : Type} {r n : ℕ} (gt : α → α → BitVec 1) (x : (⟨2, ![r, n]⟩ : Shape).Idx → α) (J : (⟨2, ![r, n]⟩ : Shape).Idx) :
    (Host.sort2 ⟨2, ![r, n]⟩ 1 (fun l r : α × BitVec 32 => gt l.1 r.1) x
      (fun i => if hd : 1 < (⟨2, ![r, n]⟩ : Shape).rank then iotaInDim ⟨2, ![r, n]⟩ 32 ⟨1, hd⟩ i else 0#32)).2 J
        = BitVec.ofNat 32 (order gt x (J 0) (J 1)).val := by
  have h : (fun k k' : Fin n => gt (x (J.along (1 : Fin 2) (k : Fin ((⟨2, ![r, n]⟩ : Shape).size (1 : Fin 2)))))
        (x (J.along (1 : Fin 2) (k' : Fin ((⟨2, ![r, n]⟩ : Shape).size (1 : Fin 2))))) == 1#1)
      = fun k k' => gt (x (ix2 (J 0) k)) (x (ix2 (J 0) k')) == 1#1 := by
    funext k k'; exact congrArg₂ (fun p q => gt (x p) (x q) == 1#1) (along_row J k) (along_row J k')
  exact congrArg (fun f => BitVec.ofNat 32 (sortedFrom f (J 1)).val) h

/-- The positions a row's `k` greatest elements stand at. -/
theorem topK_positions {α : Type} {r n k : ℕ} (hk : k ≤ n) (gt : α → α → BitVec 1) (x : (⟨2, ![r, n]⟩ : Shape).Idx → α)
    (h : (⟨2, ![r, n]⟩ : Shape).Slices (fun _ => 0) ⟨2, ![r, k]⟩) (j : (⟨2, ![r, k]⟩ : Shape).Idx) :
    (Host.topK ⟨2, ![r, k]⟩ 1 gt x h).2 j = BitVec.ofNat 32 (order gt x (j 0) ⟨(j 1).val, lt_of_lt_of_le (j 1).isLt hk⟩).val := by
  have hJ : (fun a => ⟨0 + (j (a.cast h.1.symm)).val, Nat.lt_of_lt_of_le (Nat.add_lt_add_left (j _).isLt _) (h.2 a)⟩ : (⟨2, ![r, n]⟩ : Shape).Idx)
      = ix2 (j 0) ⟨(j 1).val, lt_of_lt_of_le (j 1).isLt hk⟩ := by
    funext a; fin_cases a <;> exact Fin.ext (Nat.zero_add _)
  exact (sorted_positions gt x _).trans (congrArg (fun J : (⟨2, ![r, n]⟩ : Shape).Idx => BitVec.ofNat 32 (order gt x (J 0) (J 1)).val) hJ)

/-- The place in the score order: which window of batch entry `b` is the `k`-th greatest. -/
abbrev rank (x : Vec F S2x784 .f32) (b : Fin 2) (k : Fin 784) : Fin 784 := order (FloatOps.cmpfTotal .gt) x b k

theorem rank_inj (x : Vec F S2x784 .f32) (b : Fin 2) : Function.Injective (rank x b) := sortedFrom_injective _

/-- A position of the sliced order, as one of the whole. -/
abbrev pos (k : Fin 235) : Fin 784 := ⟨k.val, lt_of_lt_of_le k.isLt (by norm_num)⟩

theorem topK_apply (x : Vec F S2x784 .f32) (j : S2x235.Idx) :
    (Host.topK S2x235 1 (FloatOps.cmpfTotal .gt) x sliceFits_S2x784_S2x235).2 j = BitVec.ofNat 32 (rank x (j 0) (pos (j 1))).val :=
  topK_positions (by norm_num) _ x _ j

/-- The scores as one row per batch entry. -/
abbrev row (x : Vec F S2x28x28 .f32) : Vec F S2x784 .f32 :=
  fun i => x (Idealize.ShloMosaic.ix3 (i 0) ⟨(i 1).val / 28, by have := (i 1).isLt; simp at this; omega⟩ ⟨(i 1).val % 28, by omega⟩)

section
variable (V : Valuation τ sig (Elt F))

theorem quot_at (j : S2x235.Idx) : (StableHlo.after hostOps1_1 V (Proc.devRef .tc main_v2) : IVec S2x235 32) j
    = divWord (V (Proc.devRef .tc main_indices) j) (V (Proc.devRef .tc main_c) ix0) := by
  after_reads_at
  rfl
theorem rem_at (j : S2x235.Idx) : (StableHlo.after hostOps1_3 V (Proc.devRef .tc main_v4) : IVec S2x235 32) j
    = modWord (V (Proc.devRef .tc main_indices) j) (V (Proc.devRef .tc main_c_0) ix0) := by
  after_reads_at
  rfl
theorem indices_at (j : S2x235.Idx) : (StableHlo.after hostOps1 V (Proc.devRef .tc main_indices) : IVec S2x235 32) j
    = BitVec.ofNat 32 (rank (row (V (Proc.devRef .tc main_v0))) (j 0) (pos (j 1))).val := by
  after_reads_at
  exact topK_apply _ _
theorem c_at (j : S_.Idx) : (StableHlo.after hostOps1 V (Proc.devRef .tc main_c) : IVec S_ 32) j = 28#32 := by
  after_reads_at
theorem c0_at (j : S_.Idx) : (StableHlo.after hostOps1_2 V (Proc.devRef .tc main_c_0) : IVec S_ 32) j = 28#32 := by
  after_reads_at
theorem v3_at (j : S470.Idx) : (StableHlo.after hostOps1_2 V (Proc.devRef .tc main_v3) : IVec S470 32) j
    = V (Proc.devRef .tc main_v2) (ix2 ⟨(j 0).val / 235, by have := (j 0).isLt; simp at this; omega⟩ ⟨(j 0).val % 235, by omega⟩) := by
  after_reads_at
theorem v8_at (j : S470.Idx) : (StableHlo.after hostOps1_4 V (Proc.devRef .tc main_v8) : IVec S470 32) j = BitVec.ofNat 32 ((j 0).val / 235) := by
  after_reads_at
theorem v5_at (j : S470.Idx) : (StableHlo.after hostOps1_4 V (Proc.devRef .tc main_v5) : IVec S470 32) j
    = V (Proc.devRef .tc main_v4) (ix2 ⟨(j 0).val / 235, by have := (j 0).isLt; simp at this; omega⟩ ⟨(j 0).val % 235, by omega⟩) := by
  after_reads_at
end

/-! ## The tables as the calls find them -/

variable (m : (ℓ : Loc nD τ sig) → Buf (Elt F) ℓ) (outs : Outs (F := F)) (c : Dev nD)

/-- The window, among its batch entry's 784, that is computed at place `n`. -/
def win (n : Fin 470) : Fin 784 := rank (row (outs 1 main_v0 c)) ⟨n.val / 235, by omega⟩ (pos ⟨n.val % 235, by omega⟩)

theorem tbl_b (j : S470.Idx) : (V9 m outs c main_v8 : IVec S470 32) j = BitVec.ofNat 32 ((j 0).val / 235) := by
  rw [V9_of m outs c main_v8 (by decide), V8_of m outs c main_v8 (by decide), V7_of m outs c main_v8 (by decide)]
  exact v8_at _ j

theorem tbl_y (j : S470.Idx) : (V9 m outs c main_v3 : IVec S470 32) j = BitVec.ofNat 32 ((win outs c (j 0)).val / 28) := by
  rw [V9_of m outs c main_v3 (by decide), V8_of m outs c main_v3 (by decide), V7_of m outs c main_v3 (by decide),
    V6_of m outs c main_v3 (by decide), V5_of m outs c main_v3 (by decide)]
  refine (v3_at _ j).trans ((quot_at _ _).trans ?_)
  rw [show (V2 m outs c main_indices : IVec S2x235 32) _ = _ from indices_at _ _, show (V2 m outs c main_c : IVec S_ 32) _ = _ from c_at _ _]
  rw [divWord_eq, V1, Function.update_self]
  rfl

theorem tbl_x (j : S470.Idx) : (V9 m outs c main_v5 : IVec S470 32) j = BitVec.ofNat 32 ((win outs c (j 0)).val % 28) := by
  rw [V9_of m outs c main_v5 (by decide), V8_of m outs c main_v5 (by decide), V7_of m outs c main_v5 (by decide)]
  refine (v5_at _ j).trans ((rem_at _ _).trans ?_)
  rw [V4_of m outs c main_indices (by decide), V3_of m outs c main_indices (by decide)]
  rw [show (V2 m outs c main_indices : IVec S2x235 32) _ = _ from indices_at _ _, show (V4 m outs c main_c_0 : IVec S_ 32) _ = _ from c0_at _ _]
  rw [modWord_eq, V1, Function.update_self]
  rfl

theorem toNat_lt {n k : ℕ} (h : n < k) (hk : k ≤ 1000) : (BitVec.ofNat 32 n).toNat < k := by
  rw [BitVec.toNat_ofNat]; omega

theorem b_lt (j : S470.Idx) : BitVec.toNat ((V9 m outs c main_v8 : IVec S470 32) j) < 2 := by
  rw [tbl_b]; exact toNat_lt (by have := (j 0).isLt; simp at this; omega) (by norm_num)
theorem y_lt (j : S470.Idx) : BitVec.toNat ((V9 m outs c main_v3 : IVec S470 32) j) < 28 := by
  rw [tbl_y]; exact toNat_lt (by have := (win outs c (j 0)).isLt; omega) (by norm_num)
theorem x_lt (j : S470.Idx) : BitVec.toNat ((V9 m outs c main_v5 : IVec S470 32) j) < 28 := by
  rw [tbl_x]; exact toNat_lt (by omega) (by norm_num)

end Cert.KernelIdeal.Run.Tab

end
-- ==== Proof.KI.Reg0.lean ====
/- The score call: each batch entry's uncertainty map summed over every 8 × 8 window. -/
module

public import proofs.«01_k».proof.Proof.KI.Base

@[expose] public section

-- membership in a rectangle of the call's extents recurses once per coordinate of the long axes
set_option maxRecDepth 16384

noncomputable section

namespace Cert.KernelIdeal.Run.Score

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem cover (p0 : Vec F S1x28x28 .f32) (y : S1x28x28.Idx) :
    ∃ pc ∈ ([⟨Rect.unit (s := S1x28x28) ![0, 0, 0] S1x28x28.size inb_S1x28x28_S1x28x28_0_0_0, p0⟩] : List (View.Piece (Elt F) S1x28x28 .f32)), y ∈ pc.1.set :=
  View.cover_of_tiled [⟨Rect.unit (s := S1x28x28) ![0, 0, 0] S1x28x28.size inb_S1x28x28_S1x28x28_0_0_0, p0⟩] S1x28x28.size (by rfl) y

theorem zero3 : (![0, 0, 0] : Fin 3 → Nat) = fun _ => 0 := by decide

/-- The body on whole buffers: the input's as it was, the output's at the payload of the input block. -/
theorem sound_kernel (c : Dev nD) (E : Set ℕ) (i : grid0.Coords) (arg1 : Memref sig .tc .vmem S1x224x224 .f32) (harg1 : arg1.IsWhole)
    (arg2 : Memref sig .tc .vmem S1x28x28 .f32) (harg2 : arg2.IsWhole)
    (x0 : Vec F S1x224x224 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__score_body i arg1 harg1 arg2 harg2) K := by
  simp only [cc0__score_body_eq_skeleton]; unfold cc0__score_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover _)).trans ?_
  rw [View.canon_unit_zero zero3]
  exact congrArg k0_pay1 (View.ld_unit_zero zero3 _ _)

/-- The call's proof data on core `c`: the arrays as found; after a body the input's buffer at its block, the output's at the payload. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => k0_pay1 (iblk W c 0 t)
  Φ _ := Pipeline.scopedRest spec0 c
  q _ := fullShare
  owed _ := 0

theorem A_eq (c : Dev nD) (w : Fin cfg0.W) : (dat W c).A w = W c (Proc.devRef .tc (Pipeline.arrRef spec0 w)) := by
  dsimp only [dat]
theorem after_0 (c : Dev nD) (t : Fin cfg0.N) : (dat W c).after 0 t = iblk W c 0 t := by dsimp only [dat]
theorem after_1 (c : Dev nD) (t : Fin cfg0.N) : (dat W c).after 1 t = k0_pay1 (iblk W c 0 t) := by dsimp only [dat]

theorem before_0 (c : Dev nD) (t : Fin cfg0.N) (d) : (dat W c).before 0 t d = iblk W c 0 t :=
  ((dat W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem sound_body (c : Dev nD) (t : Fin cfg0.N) :
    iprop((dat W c).Φ t.castSucc ∗ (dat W c).owesAt () t.castSucc
      ∗ (∃ d, owns (c : Thread nD τ) (st0_0 t) fullShare ((dat W c).before 0 t d))
      ∗ (∃ d, owns (c : Thread nD τ) (st0_1 t) fullShare ((dat W c).before 1 t d)))
    ⊢ wp frame (wpE (defs₀ (F := F)) Variants.none c none) Set.univ (bodyAt0 t) (fun _ =>
      iprop((dat W c).Φ t.succ ∗ (dat W c).owesAt () t.succ
        ∗ owns (c : Thread nD τ) (st0_0 t) fullShare ((dat W c).after 0 t)
        ∗ owns (c : Thread nD τ) (st0_1 t) fullShare ((dat W c).after 1 t))) := by
  unfold bodyAt0
  simp only [before_0]
  rw [show (dat W c).Φ t.succ = (dat W c).Φ t.castSucc from rfl,
    show (dat W c).owesAt () t.succ = (dat W c).owesAt () t.castSucc from rfl, after_0, after_1]
  iintro ⟨HΦ, Ho, ⟨%d0, H0⟩, ⟨%d1, H1⟩⟩
  iapply (sound_kernel c Set.univ (grid0.coords t) _ _ _ _ (iblk W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Run.Score

end
-- ==== Proof.KI.Reg1.lean ====
/- The transposing call: each band of the map transposed to pixels by channels, and its rows and its 28-pixel stretches summed. -/
module

public import proofs.«01_k».proof.Proof.KI.Base

@[expose] public section

-- membership in a rectangle of the call's extents recurses once per coordinate of the long axes
set_option maxRecDepth 16384

noncomputable section

namespace Cert.KernelIdeal.Run.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

abbrev rO : Rect S1x6272x128 := Rect.unit (s := S1x6272x128) ![0, 0, 0] S1x6272x128.size inb_S1x6272x128_S1x6272x128_0_0_0
abbrev rP : Rect S1x1x8x128 := Rect.unit (s := S1x1x8x128) ![0, 0, 0, 0] S1x1x8x128.size inb_S1x1x8x128_S1x1x8x128_0_0_0_0

theorem coverO (p0 : Vec F S1x6272x128 .f32) (y : S1x6272x128.Idx) :
    ∃ pc ∈ ([⟨rO, p0⟩] : List (View.Piece (Elt F) S1x6272x128 .f32)), y ∈ pc.1.set :=
  View.cover_of_tiled [⟨rO, p0⟩] S1x6272x128.size (by rfl) y
theorem coverP (p0 : Vec F S1x1x8x128 .f32) (y : S1x1x8x128.Idx) :
    ∃ pc ∈ ([⟨rP, p0⟩] : List (View.Piece (Elt F) S1x1x8x128 .f32)), y ∈ pc.1.set :=
  View.cover_of_tiled [⟨rP, p0⟩] S1x1x8x128.size (by rfl) y

theorem zero3 : (![0, 0, 0] : Fin 3 → Nat) = fun _ => 0 := by decide
theorem zero4 : (![0, 0, 0, 0] : Fin 4 → Nat) = fun _ => 0 := by decide

set_option maxHeartbeats 1000000 in
/-- The body on whole buffers: the input's as it was, the outputs' at the payloads of the input block. -/
theorem sound_kernel (c : Dev nD) (E : Set ℕ) (i : grid1.Coords) (arg3 : Memref sig .tc .vmem S1x128x6272 .f32) (harg3 : arg3.IsWhole)
    (arg4 : Memref sig .tc .vmem S1x6272x128 .f32) (harg4 : arg4.IsWhole) (arg5 : Memref sig .tc .vmem S1x1x8x128 .f32) (harg5 : arg5.IsWhole)
    (x0 : Vec F S1x128x6272 .f32) (K : PUnit → sProp 𝕄) :
    iprop(owns (c : Thread nD τ) arg3 fullShare x0 ∗ (∃ d, owns (c : Thread nD τ) arg4 fullShare d) ∗ (∃ d, owns (c : Thread nD τ) arg5 fullShare d)
        ∗ (iprop(owns (c : Thread nD τ) arg3 fullShare x0 ∗ owns (c : Thread nD τ) arg4 fullShare (k1_pay2 x0)
            ∗ owns (c : Thread nD τ) arg5 fullShare (k1_pay3 x0)) -∗ K ⟨⟩))
      ⊢ wp frame (wpE (defs₀ (F := F)) Variants.none c none) E (cc1__t_pool_body i arg3 harg3 arg4 harg4 arg5 harg5) K := by
  simp only [cc1__t_pool_body_eq_skeleton]; unfold cc1__t_pool_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (coverO _)).trans ?_
    rw [View.canon_unit_zero zero3]
    exact congrArg k1_pay2 (View.ld_unit_zero zero3 _ _)
  iexists _; isplitr
  swap; · iexact H2
  ipureintro
  refine (View.read_writes_eq_canon _ _ _ (coverP _)).trans ?_
  rw [View.canon_unit_zero zero4]
  exact congrArg k1_pay3 (View.ld_unit_zero zero3 _ _)

/-- The call's proof data on core `c`: the arrays as found; after a body the input's buffer at its block, the outputs' at the payloads. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => k1_pay2 (iblk W c 0 t)
    | ⟨2, _⟩ => k1_pay3 (iblk W c 0 t)
  Φ _ := Pipeline.scopedRest spec1 c
  q _ := fullShare
  owed _ := 0

theorem A_eq (c : Dev nD) (w : Fin cfg1.W) : (dat W c).A w = W c (Proc.devRef .tc (Pipeline.arrRef spec1 w)) := by
  dsimp only [dat]
theorem after_0 (c : Dev nD) (t : Fin cfg1.N) : (dat W c).after 0 t = iblk W c 0 t := by dsimp only [dat]
theorem after_1 (c : Dev nD) (t : Fin cfg1.N) : (dat W c).after 1 t = k1_pay2 (iblk W c 0 t) := by dsimp only [dat]
theorem after_2 (c : Dev nD) (t : Fin cfg1.N) : (dat W c).after 2 t = k1_pay3 (iblk W c 0 t) := by dsimp only [dat]

theorem before_0 (c : Dev nD) (t : Fin cfg1.N) (d) : (dat W c).before 0 t d = iblk W c 0 t :=
  ((dat W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem sound_body (c : Dev nD) (t : Fin cfg1.N) :
    iprop((dat W c).Φ t.castSucc ∗ (dat W c).owesAt () t.castSucc
      ∗ (∃ d, owns (c : Thread nD τ) (st1_0 t) fullShare ((dat W c).before 0 t d))
      ∗ (∃ d, owns (c : Thread nD τ) (st1_1 t) fullShare ((dat W c).before 1 t d))
      ∗ (∃ d, owns (c : Thread nD τ) (st1_2 t) fullShare ((dat W c).before 2 t d)))
    ⊢ wp frame (wpE (defs₀ (F := F)) Variants.none c none) Set.univ (bodyAt1 t) (fun _ =>
      iprop((dat W c).Φ t.succ ∗ (dat W c).owesAt () t.succ
        ∗ owns (c : Thread nD τ) (st1_0 t) fullShare ((dat W c).after 0 t)
        ∗ owns (c : Thread nD τ) (st1_1 t) fullShare ((dat W c).after 1 t)
        ∗ owns (c : Thread nD τ) (st1_2 t) fullShare ((dat W c).after 2 t))) := by
  unfold bodyAt1
  simp only [before_0]
  rw [show (dat W c).Φ t.succ = (dat W c).Φ t.castSucc from rfl,
    show (dat W c).owesAt () t.succ = (dat W c).owesAt () t.castSucc from rfl, after_0, after_1, after_2]
  iintro ⟨HΦ, Ho, ⟨%d0, H0⟩, ⟨%d1, H1⟩, ⟨%d2, H2⟩⟩
  iapply (sound_kernel c Set.univ (grid1.coords t) _ _ _ _ _ _ (iblk W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Run.Pool

end
-- ==== Proof.KI.Reg2.lean ====
/- The keys and values: the pooled tokens scaled and multiplied with the weights, batch entry by batch entry. -/
module

public import proofs.«01_k».proof.Proof.KI.Base

@[expose] public section

-- membership in a rectangle of the call's extents recurses once per coordinate of the long axes
set_option maxRecDepth 16384

noncomputable section

namespace Cert.KernelIdeal.Run.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

abbrev r0 : Rect S2x64x768 := Rect.unit (s := S2x64x768) ![0, 0, 0] S1x64x768.size inb_S2x64x768_S1x64x768_0_0_0
abbrev r1 : Rect S2x64x768 := Rect.unit (s := S2x64x768) ![1, 0, 0] S1x64x768.size inb_S2x64x768_S1x64x768_1_0_0

/-- The output's buffer after the body: row 1 stored last, row 0 before it. -/
def out (x0 : Vec F S2x8x8x384 .f32) (x1 : Vec F S384x768 .f32) : Vec F S2x64x768 .f32 :=
  View.canon [⟨r1, k2_pay3 x0 x1⟩, ⟨r0, k2_pay2 x0 x1⟩]

theorem cover (p1 p0 : Vec F S1x64x768 .f32) (y : S2x64x768.Idx) :
    ∃ pc ∈ ([⟨r1, p1⟩, ⟨r0, p0⟩] : List (View.Piece (Elt F) S2x64x768 .f32)), y ∈ pc.1.set :=
  View.cover_of_tiled [⟨r1, p1⟩, ⟨r0, p0⟩] S1x64x768.size (by rfl) y

theorem zero2 : (![0, 0] : Fin 2 → Nat) = fun _ => 0 := by decide
theorem zero4 : (![0, 0, 0, 0] : Fin 4 → Nat) = fun _ => 0 := by decide

set_option maxHeartbeats 1000000 in
/-- The body on whole buffers: the inputs' as they were, the output's at `out` of the input blocks. -/
theorem sound_kernel (c : Dev nD) (E : Set ℕ) (arg0 : Memref sig .tc .vmem S2x8x8x384 .f32) (harg0 : arg0.IsWhole)
    (arg1 : Memref sig .tc .vmem S384x768 .f32) (harg1 : arg1.IsWhole) (arg2 : Memref sig .tc .vmem S2x64x768 .f32) (harg2 : arg2.IsWhole)
    (x0 : Vec F S2x8x8x384 .f32) (x1 : Vec F S384x768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out x0 x1)) -∗ K ⟨⟩))
      ⊢ wp frame (wpE (defs₀ (F := F)) Variants.none c none) E (cc2__kv_body arg0 harg0 arg1 harg1 arg2 harg2) K := by
  simp only [cc2__kv_body_eq_skeleton]; unfold cc2__kv_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [← View.ld_unit_zero zero4 inb_S2x8x8x384_S2x8x8x384_0_0_0_0 (View.read (Elt F) arg0.view f0),
    ← View.ld_unit_zero zero2 inb_S384x768_S384x768_0_0 (View.read (Elt F) arg1.view f1)]
  exact View.read_writes_eq_canon _ _ _ (cover _ _)

/-- The call's proof data on core `c`: the arrays as found; after a body the inputs' buffers at their blocks, the output's at `out`. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => out (iblk W c 0 t) (iblk W c 1 t)
  Φ _ := Pipeline.scopedRest spec2 c
  q _ := fullShare
  owed _ := 0

theorem A_eq (c : Dev nD) (w : Fin cfg2.W) : (dat W c).A w = W c (Proc.devRef .tc (Pipeline.arrRef spec2 w)) := by
  dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = out (iblk W c 0 t) (iblk W c 1 t) := by dsimp only [dat]

theorem before_0 (c : Dev nD) (t : Fin cfg2.N) (d) : (dat W c).before 0 t d = iblk W c 0 t :=
  ((dat W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg2.N) (d) : (dat W c).before 1 t d = iblk W c 1 t :=
  ((dat W c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem sound_body (c : Dev nD) (t : Fin cfg2.N) :
    iprop((dat W c).Φ t.castSucc ∗ (dat W c).owesAt () t.castSucc
      ∗ (∃ d, owns (c : Thread nD τ) (st2_0 t) fullShare ((dat W c).before 0 t d))
      ∗ (∃ d, owns (c : Thread nD τ) (st2_1 t) fullShare ((dat W c).before 1 t d))
      ∗ (∃ d, owns (c : Thread nD τ) (st2_2 t) fullShare ((dat W c).before 2 t d)))
    ⊢ wp frame (wpE (defs₀ (F := F)) Variants.none c none) Set.univ (bodyAt2 t) (fun _ =>
      iprop((dat W c).Φ t.succ ∗ (dat W c).owesAt () t.succ
        ∗ owns (c : Thread nD τ) (st2_0 t) fullShare ((dat W c).after 0 t)
        ∗ owns (c : Thread nD τ) (st2_1 t) fullShare ((dat W c).after 1 t)
        ∗ owns (c : Thread nD τ) (st2_2 t) fullShare ((dat W c).after 2 t))) := by
  unfold bodyAt2
  simp only [before_0, before_1]
  rw [show (dat W c).Φ t.succ = (dat W c).Φ t.castSucc from rfl,
    show (dat W c).owesAt () t.succ = (dat W c).owesAt () t.castSucc from rfl, after_0, after_1, after_2]
  iintro ⟨HΦ, Ho, ⟨%d0, H0⟩, ⟨%d1, H1⟩, ⟨%d2, H2⟩⟩
  iapply (sound_kernel c Set.univ _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) W c) (defs₀ (F := F)) Variants.none () Set.univ := fun t => by
  rw [bigSep_W2, bigSep_W2, defs₀_row]
  exact triple_restated (sound_body W c t) rfl .rfl fun _ => .rfl

end Cert.KernelIdeal.Run.Kv

end
-- ==== Proof.KI.Reg3.lean ====
/- The window computation: five windows at a time through the global attention, the linear layers and the two local attentions. -/
module

public import proofs.«01_k».proof.Proof.KI.Base

@[expose] public section

-- membership in a rectangle of the call's extents recurses once per coordinate of the long axes
set_option maxRecDepth 16384

noncomputable section

namespace Cert.KernelIdeal.Run.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The masks that carry a window's 64 rows to the columns they are read from, one per residue. -/
abbrev rowsI : IVec S64x384 32 := iota .tc S64x384 32 [0] iota_S64x384_d0_w32
abbrev colsI : IVec S64x384 32 := iota .tc S64x384 32 [1] iota_S64x384_d1_w32
def sel0 : FVec F S64x384 .bf16 := k3_pay7 rowsI colsI k3_pay6
def sel1 : FVec F S64x384 .bf16 := k3_pay8 rowsI colsI
def sel2 : FVec F S64x384 .bf16 := k3_pay9 rowsI colsI
def sel3 : FVec F S64x384 .bf16 := k3_pay10 rowsI colsI
def sel4 : FVec F S64x384 .bf16 := k3_pay11 rowsI colsI
def sel5 : FVec F S64x384 .bf16 := k3_pay12 rowsI colsI
/-- The mask that keeps a window's attention inside the window. -/
def mask : FVec F S320x320 .f32 :=
  k3_pay17 (k3_pay13 (iota .tc S320x320 32 [0] iota_S320x320_d0_w32)) (k3_pay14 (iota .tc S320x320 32 [1] iota_S320x320_d1_w32))
    (k3_pay15 (iota .tc S320x320 32 [1] iota_S320x320_d1_w32)) k3_pay16

/-- The five windows after the attention against the pooled tokens. -/
def glob (xin : FVec F S320x384 .f32) (kv : Vec F S1x64x768 .f32) (wq : Vec F S384x384 .bf16) : FVec F S320x384 .f32 :=
  k3_pay18 xin (k3_pay4 kv) (k3_pay5 kv) wq
/-- One half of what the first linear layer's activation is. -/
def half0 (xin : FVec F S320x384 .f32) (kv : Vec F S1x64x768 .f32) (wq w : Vec F S384x384 .bf16) (b : Vec F S1x384 .f32) : FVec F S320x384 .f32 :=
  k3_pay20 xin (k3_pay4 kv) (k3_pay5 kv) wq w b
/-- The other half. -/
def erf0 (xin : FVec F S320x384 .f32) (kv : Vec F S1x64x768 .f32) (wq w : Vec F S384x384 .bf16) (b : Vec F S1x384 .f32) : FVec F S320x384 .f32 :=
  k3_pay21 xin (k3_pay4 kv) (k3_pay5 kv) wq w b
/-- The first local attention and its linear layer, from the global stage's three values. -/
def loc1 (g h e : FVec F S320x384 .f32) (wqkv : Vec F S384x1152 .bf16) (w : Vec F S384x384 .bf16) (b : Vec F S1x384 .f32) : FVec F S320x384 .f32 :=
  k3_pay31 (k3_pay22 g h e) (k3_pay24 sel0 mask g h e wqkv) (k3_pay25 sel1 mask g h e wqkv) (k3_pay26 sel2 mask g h e wqkv)
    (k3_pay27 sel3 mask g h e wqkv) (k3_pay28 sel4 mask g h e wqkv) (k3_pay29 sel5 mask g h e wqkv)
    (k3_pay30 sel0 sel1 sel2 sel3 sel4 sel5 mask g h e wqkv) w b
/-- The same, as the second local attention reads it. -/
def loc1b (g h e : FVec F S320x384 .f32) (wqkv : Vec F S384x1152 .bf16) (w : Vec F S384x384 .bf16) (b : Vec F S1x384 .f32) : FVec F S320x384 .bf16 :=
  k3_pay32 (k3_pay22 g h e) (k3_pay24 sel0 mask g h e wqkv) (k3_pay25 sel1 mask g h e wqkv) (k3_pay26 sel2 mask g h e wqkv)
    (k3_pay27 sel3 mask g h e wqkv) (k3_pay28 sel4 mask g h e wqkv) (k3_pay29 sel5 mask g h e wqkv)
    (k3_pay30 sel0 sel1 sel2 sel3 sel4 sel5 mask g h e wqkv) w b
/-- The second local attention and its linear layer. -/
def loc2 (y : FVec F S320x384 .f32) (yb : FVec F S320x384 .bf16) (wqkv : Vec F S384x1152 .bf16) (w : Vec F S384x384 .bf16) (b : Vec F S1x384 .f32) : FVec F S320x384 .f32 :=
  k3_pay43 y (k3_pay35 sel0 mask yb (k3_pay33 wqkv)) (k3_pay36 sel1 mask yb (k3_pay33 wqkv)) (k3_pay37 sel2 mask yb (k3_pay33 wqkv))
    (k3_pay38 sel3 mask yb (k3_pay33 wqkv)) (k3_pay39 sel4 mask yb (k3_pay33 wqkv)) (k3_pay40 sel5 mask yb (k3_pay33 wqkv))
    (k3_pay41 sel0 sel1 sel2 sel3 sel4 sel5 mask yb (k3_pay33 wqkv)) (k3_pay42 sel0 sel1 sel2 sel3 sel4 sel5 mask yb (k3_pay33 wqkv)) w b

/-- What the body leaves in the output's buffer, of the fifteen input blocks. -/
def out (x0 x1 x2 x3 x4 : Vec F S1x1x8x1x8x384 .f32) (x5 : Vec F S1x64x768 .f32) (x6 x7 : Vec F S384x384 .bf16) (x8 : Vec F S1x384 .f32)
    (x9 : Vec F S384x1152 .bf16) (x10 : Vec F S384x384 .bf16) (x11 : Vec F S1x384 .f32) (x12 : Vec F S384x1152 .bf16)
    (x13 : Vec F S384x384 .bf16) (x14 : Vec F S1x384 .f32) : FVec F S1x320x384 .f32 :=
  k3_pay1 (loc2
    (loc1 (glob (k3_pay2 x0 x1 x2 x3 x4) x5 x6) (half0 (k3_pay2 x0 x1 x2 x3 x4) x5 x6 x7 x8) (erf0 (k3_pay2 x0 x1 x2 x3 x4) x5 x6 x7 x8) x9 x10 x11)
    (loc1b (glob (k3_pay2 x0 x1 x2 x3 x4) x5 x6) (half0 (k3_pay2 x0 x1 x2 x3 x4) x5 x6 x7 x8) (erf0 (k3_pay2 x0 x1 x2 x3 x4) x5 x6 x7 x8) x9 x10 x11)
    x12 x13 x14)

theorem cover (p0 : Vec F S1x320x384 .f32) (y : S1x320x384.Idx) :
    ∃ pc ∈ ([⟨Rect.unit (s := S1x320x384) ![0, 0, 0] S1x320x384.size inb_S1x320x384_S1x320x384_0_0_0, p0⟩] :
      List (View.Piece (Elt F) S1x320x384 .f32)), y ∈ pc.1.set :=
  View.cover_of_tiled [⟨Rect.unit (s := S1x320x384) ![0, 0, 0] S1x320x384.size inb_S1x320x384_S1x320x384_0_0_0, p0⟩]
    S1x320x384.size (by rfl) y

theorem zero2 : (![0, 0] : Fin 2 → Nat) = fun _ => 0 := by decide
theorem zero3 : (![0, 0, 0] : Fin 3 → Nat) = fun _ => 0 := by decide
theorem zero6 : (![0, 0, 0, 0, 0, 0] : Fin 6 → Nat) = fun _ => 0 := by decide

set_option maxHeartbeats 2000000 in
/-- The body on whole buffers: the inputs' as they were, the output's at `out` of the input blocks. -/
theorem sound_kernel (c : Dev nD) (E : Set ℕ) (i : grid3.Coords) (arg1 : Memref sig .tc .smem S470 .i32) (harg1 : arg1.IsWhole)
    (arg2 : Memref sig .tc .smem S470 .i32) (harg2 : arg2.IsWhole) (arg3 : Memref sig .tc .smem S470 .i32) (harg3 : arg3.IsWhole)
    (arg4 : Memref sig .tc .vmem S1x1x8x1x8x384 .f32) (harg4 : arg4.IsWhole)
    (arg5 : Memref sig .tc .vmem S1x1x8x1x8x384 .f32) (harg5 : arg5.IsWhole)
    (arg6 : Memref sig .tc .vmem S1x1x8x1x8x384 .f32) (harg6 : arg6.IsWhole)
    (arg7 : Memref sig .tc .vmem S1x1x8x1x8x384 .f32) (harg7 : arg7.IsWhole)
    (arg8 : Memref sig .tc .vmem S1x1x8x1x8x384 .f32) (harg8 : arg8.IsWhole)
    (arg9 : Memref sig .tc .vmem S1x64x768 .f32) (harg9 : arg9.IsWhole)
    (arg10 : Memref sig .tc .vmem S384x384 .bf16) (harg10 : arg10.IsWhole)
    (arg11 : Memref sig .tc .vmem S384x384 .bf16) (harg11 : arg11.IsWhole)
    (arg12 : Memref sig .tc .vmem S1x384 .f32) (harg12 : arg12.IsWhole)
    (arg13 : Memref sig .tc .vmem S384x1152 .bf16) (harg13 : arg13.IsWhole)
    (arg14 : Memref sig .tc .vmem S384x384 .bf16) (harg14 : arg14.IsWhole)
    (arg15 : Memref sig .tc .vmem S1x384 .f32) (harg15 : arg15.IsWhole)
    (arg16 : Memref sig .tc .vmem S384x1152 .bf16) (harg16 : arg16.IsWhole)
    (arg17 : Memref sig .tc .vmem S384x384 .bf16) (harg17 : arg17.IsWhole)
    (arg18 : Memref sig .tc .vmem S1x384 .f32) (harg18 : arg18.IsWhole)
    (arg19 : Memref sig .tc .vmem S1x320x384 .f32) (harg19 : arg19.IsWhole)
    (x0 : Vec F S1x1x8x1x8x384 .f32) (x1 : Vec F S1x1x8x1x8x384 .f32) (x2 : Vec F S1x1x8x1x8x384 .f32) (x3 : Vec F S1x1x8x1x8x384 .f32) (x4 : Vec F S1x1x8x1x8x384 .f32) (x5 : Vec F S1x64x768 .f32) (x6 : Vec F S384x384 .bf16) (x7 : Vec F S384x384 .bf16) (x8 : Vec F S1x384 .f32) (x9 : Vec F S384x1152 .bf16) (x10 : Vec F S384x384 .bf16) (x11 : Vec F S1x384 .f32) (x12 : Vec F S384x1152 .bf16) (x13 : Vec F S384x384 .bf16) (x14 : Vec F S1x384 .f32)
    (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ (∃ d, owns (c : Thread nD τ) arg19 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare (out x0 x1 x2 x3 x4 x5 x6 x7 x8 x9 x10 x11 x12 x13 x14)) -∗ K ⟨⟩))
      ⊢ wp frame (wpE (defs₀ (F := F)) Variants.none c none) E
        (cc3__win_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc3__win_body_eq_skeleton]; unfold cc3__win_body_skel
  simp only [k3_part1_eq_skeleton, k3_part2_eq_skeleton, k3_part3_eq_skeleton, k3_part4_eq_skeleton, k3_part5_eq_skeleton, k3_part6_eq_skeleton, k3_part7_eq_skeleton, k3_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  refine (View.read_writes_eq_canon _ _ _ (cover _)).trans ?_
  rw [View.canon_unit_zero zero3]
  rw [← View.ld_unit_zero zero6 inb_S1x1x8x1x8x384_S1x1x8x1x8x384_0_0_0_0_0_0 (View.read (Elt F) arg4.view f0),
    ← View.ld_unit_zero zero6 inb_S1x1x8x1x8x384_S1x1x8x1x8x384_0_0_0_0_0_0 (View.read (Elt F) arg5.view f1),
    ← View.ld_unit_zero zero6 inb_S1x1x8x1x8x384_S1x1x8x1x8x384_0_0_0_0_0_0 (View.read (Elt F) arg6.view f2),
    ← View.ld_unit_zero zero6 inb_S1x1x8x1x8x384_S1x1x8x1x8x384_0_0_0_0_0_0 (View.read (Elt F) arg7.view f3),
    ← View.ld_unit_zero zero6 inb_S1x1x8x1x8x384_S1x1x8x1x8x384_0_0_0_0_0_0 (View.read (Elt F) arg8.view f4),
    ← View.ld_unit_zero zero3 inb_S1x64x768_S1x64x768_0_0_0 (View.read (Elt F) arg9.view f5),
    ← View.ld_unit_zero zero2 inb_S384x384_S384x384_0_0 (View.read (Elt F) arg10.view f6),
    ← View.ld_unit_zero zero2 inb_S384x384_S384x384_0_0 (View.read (Elt F) arg11.view f7),
    ← View.ld_unit_zero zero2 inb_S1x384_S1x384_0_0 (View.read (Elt F) arg12.view f8),
    ← View.ld_unit_zero zero2 inb_S384x1152_S384x1152_0_0 (View.read (Elt F) arg13.view f9),
    ← View.ld_unit_zero zero2 inb_S384x384_S384x384_0_0 (View.read (Elt F) arg14.view f10),
    ← View.ld_unit_zero zero2 inb_S1x384_S1x384_0_0 (View.read (Elt F) arg15.view f11),
    ← View.ld_unit_zero zero2 inb_S384x1152_S384x1152_0_0 (View.read (Elt F) arg16.view f12),
    ← View.ld_unit_zero zero2 inb_S384x384_S384x384_0_0 (View.read (Elt F) arg17.view f13),
    ← View.ld_unit_zero zero2 inb_S1x384_S1x384_0_0 (View.read (Elt F) arg18.view f14)]
  rfl

variable (a : (pcfg3 (F := F)).Adm) (W : Dev nD → Valuation τ sig (Elt F))

/-- Window `w`'s block at point `t`, read off its array as the call finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (W c (Proc.devRef .tc (Pipeline.arrRef spec3 w)))

/-- The body at point `t`: the tables are handed over unread. -/
abbrev bodyAt3 (t : Fin (cfg3 a).N) : Prog (TpuEff nD τ sig (Elt F) Λ₀ .tc) PUnit :=
  cc3__win_body (grid3.coords t) (Memref.whole main_v8) (Memref.isWhole_whole _) (Memref.whole main_v3) (Memref.isWhole_whole _)
    (Memref.whole main_v5) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))
    (spec3_3.stage ((cfg3 a).slots t 3)) (hstage3_3 (((cfg3 a).slots t 3).cast nbuf3_3))
    (spec3_4.stage ((cfg3 a).slots t 4)) (hstage3_4 (((cfg3 a).slots t 4).cast nbuf3_4))
    (spec3_5.stage ((cfg3 a).slots t 5)) (hstage3_5 (((cfg3 a).slots t 5).cast nbuf3_5))
    (spec3_6.stage ((cfg3 a).slots t 6)) (hstage3_6 (((cfg3 a).slots t 6).cast nbuf3_6))
    (spec3_7.stage ((cfg3 a).slots t 7)) (hstage3_7 (((cfg3 a).slots t 7).cast nbuf3_7))
    (spec3_8.stage ((cfg3 a).slots t 8)) (hstage3_8 (((cfg3 a).slots t 8).cast nbuf3_8))
    (spec3_9.stage ((cfg3 a).slots t 9)) (hstage3_9 (((cfg3 a).slots t 9).cast nbuf3_9))
    (spec3_10.stage ((cfg3 a).slots t 10)) (hstage3_10 (((cfg3 a).slots t 10).cast nbuf3_10))
    (spec3_11.stage ((cfg3 a).slots t 11)) (hstage3_11 (((cfg3 a).slots t 11).cast nbuf3_11))
    (spec3_12.stage ((cfg3 a).slots t 12)) (hstage3_12 (((cfg3 a).slots t 12).cast nbuf3_12))
    (spec3_13.stage ((cfg3 a).slots t 13)) (hstage3_13 (((cfg3 a).slots t 13).cast nbuf3_13))
    (spec3_14.stage ((cfg3 a).slots t 14)) (hstage3_14 (((cfg3 a).slots t 14).cast nbuf3_14))
    (spec3_15.stage ((cfg3 a).slots t 15)) (hstage3_15 (((cfg3 a).slots t 15).cast nbuf3_15))

/-- The output's block after point `t`. -/
def outAt (c : Dev nD) (t : Fin (cfg3 a).N) : FVec F S1x320x384 .f32 :=
  out (iblk a W c 0 t) (iblk a W c 1 t) (iblk a W c 2 t) (iblk a W c 3 t) (iblk a W c 4 t) (iblk a W c 5 t) (iblk a W c 6 t) (iblk a W c 7 t) (iblk a W c 8 t) (iblk a W c 9 t) (iblk a W c 10 t) (iblk a W c 11 t) (iblk a W c 12 t) (iblk a W c 13 t) (iblk a W c 14 t)

/-- The call's proof data on core `c`: the arrays as found, the windows of one array sharing it; after a body the inputs' buffers
    at their blocks, the output's at `outAt`. -/
def dat (c : Dev nD) : Dat τ (Elt F) Unit ℕ (UR sig nD τ) ℕ (cfg3 a) c where
  A w := W c (Proc.devRef .tc (Pipeline.arrRef spec3 w))
  after w t := match w with
    | ⟨0, _⟩ => iblk a W c 0 t
    | ⟨1, _⟩ => iblk a W c 1 t
    | ⟨2, _⟩ => iblk a W c 2 t
    | ⟨3, _⟩ => iblk a W c 3 t
    | ⟨4, _⟩ => iblk a W c 4 t
    | ⟨5, _⟩ => iblk a W c 5 t
    | ⟨6, _⟩ => iblk a W c 6 t
    | ⟨7, _⟩ => iblk a W c 7 t
    | ⟨8, _⟩ => iblk a W c 8 t
    | ⟨9, _⟩ => iblk a W c 9 t
    | ⟨10, _⟩ => iblk a W c 10 t
    | ⟨11, _⟩ => iblk a W c 11 t
    | ⟨12, _⟩ => iblk a W c 12 t
    | ⟨13, _⟩ => iblk a W c 13 t
    | ⟨14, _⟩ => iblk a W c 14 t
    | ⟨15, _⟩ => outAt a W c t
    | ⟨_ + 16, h⟩ => absurd h (Nat.not_lt.2 (Nat.le_add_left _ _))
  Φ _ := iprop(Pipeline.scopedRest spec3 c ∗ Pipeline.prefHeld pre3 c (fun _ => fullShare) a.1)
  q w := Pipeline.shareOf spec3 w
  owed _ := 0

theorem A_eq (c : Dev nD) (w : Fin (cfg3 a).W) : (dat a W c).A w = W c (Proc.devRef .tc (Pipeline.arrRef spec3 w)) := by
  dsimp only [dat]
theorem after_15 (c : Dev nD) (t : Fin (cfg3 a).N) : (dat a W c).after 15 t = outAt a W c t := by dsimp only [dat]; try rfl

theorem after_0 (c : Dev nD) (t : Fin (cfg3 a).N) : (dat a W c).after 0 t = iblk a W c 0 t := by dsimp only [dat]; try rfl
theorem before_0 (c : Dev nD) (t : Fin (cfg3 a).N) (d) : (dat a W c).before 0 t d = iblk a W c 0 t :=
  ((dat a W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem after_1 (c : Dev nD) (t : Fin (cfg3 a).N) : (dat a W c).after 1 t = iblk a W c 1 t := by dsimp only [dat]; try rfl
theorem before_1 (c : Dev nD) (t : Fin (cfg3 a).N) (d) : (dat a W c).before 1 t d = iblk a W c 1 t :=
  ((dat a W c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem after_2 (c : Dev nD) (t : Fin (cfg3 a).N) : (dat a W c).after 2 t = iblk a W c 2 t := by dsimp only [dat]; try rfl
theorem before_2 (c : Dev nD) (t : Fin (cfg3 a).N) (d) : (dat a W c).before 2 t d = iblk a W c 2 t :=
  ((dat a W c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

theorem after_3 (c : Dev nD) (t : Fin (cfg3 a).N) : (dat a W c).after 3 t = iblk a W c 3 t := by dsimp only [dat]; try rfl
theorem before_3 (c : Dev nD) (t : Fin (cfg3 a).N) (d) : (dat a W c).before 3 t d = iblk a W c 3 t :=
  ((dat a W c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

theorem after_4 (c : Dev nD) (t : Fin (cfg3 a).N) : (dat a W c).after 4 t = iblk a W c 4 t := by dsimp only [dat]; try rfl
theorem before_4 (c : Dev nD) (t : Fin (cfg3 a).N) (d) : (dat a W c).before 4 t d = iblk a W c 4 t :=
  ((dat a W c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

theorem after_5 (c : Dev nD) (t : Fin (cfg3 a).N) : (dat a W c).after 5 t = iblk a W c 5 t := by dsimp only [dat]; try rfl
theorem before_5 (c : Dev nD) (t : Fin (cfg3 a).N) (d) : (dat a W c).before 5 t d = iblk a W c 5 t :=
  ((dat a W c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)

theorem after_6 (c : Dev nD) (t : Fin (cfg3 a).N) : (dat a W c).after 6 t = iblk a W c 6 t := by dsimp only [dat]; try rfl
theorem before_6 (c : Dev nD) (t : Fin (cfg3 a).N) (d) : (dat a W c).before 6 t d = iblk a W c 6 t :=
  ((dat a W c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

theorem after_7 (c : Dev nD) (t : Fin (cfg3 a).N) : (dat a W c).after 7 t = iblk a W c 7 t := by dsimp only [dat]; try rfl
theorem before_7 (c : Dev nD) (t : Fin (cfg3 a).N) (d) : (dat a W c).before 7 t d = iblk a W c 7 t :=
  ((dat a W c).before_in_eq_fetched 7 rfl (fun _ => rfl) (fun _ _ _ => rfl)
      (fun t => by rw [after_7]; unfold Dat.blockOf iblk; rw [A_eq]; try rfl) t d).trans
    (by unfold Dat.fetched Dat.blockOf iblk; rw [A_eq]; try rfl)

theorem after_8 (c : Dev nD) (t : Fin (cfg3 a).N) : (dat a W c).after 8 t = iblk a W c 8 t := by dsimp only [dat]; try rfl
theorem before_8 (c : Dev nD) (t : Fin (cfg3 a).N) (d) : (dat a W c).before 8 t d = iblk a W c 8 t :=
  ((dat a W c).before_in_eq_fetched 8 rfl (fun _ => rfl) (fun _ _ _ => rfl)
      (fun t => by rw [after_8]; unfold Dat.blockOf iblk; rw [A_eq]; try rfl) t d).trans
    (by unfold Dat.fetched Dat.blockOf iblk; rw [A_eq]; try rfl)

theorem after_9 (c : Dev nD) (t : Fin (cfg3 a).N) : (dat a W c).after 9 t = iblk a W c 9 t := by dsimp only [dat]; try rfl
theorem before_9 (c : Dev nD) (t : Fin (cfg3 a).N) (d) : (dat a W c).before 9 t d = iblk a W c 9 t :=
  ((dat a W c).before_in_eq_fetched 9 rfl (fun _ => rfl) (fun _ _ _ => rfl)
      (fun t => by rw [after_9]; unfold Dat.blockOf iblk; rw [A_eq]; try rfl) t d).trans
    (by unfold Dat.fetched Dat.blockOf iblk; rw [A_eq]; try rfl)

theorem after_10 (c : Dev nD) (t : Fin (cfg3 a).N) : (dat a W c).after 10 t = iblk a W c 10 t := by dsimp only [dat]; try rfl
theorem before_10 (c : Dev nD) (t : Fin (cfg3 a).N) (d) : (dat a W c).before 10 t d = iblk a W c 10 t :=
  ((dat a W c).before_in_eq_fetched 10 rfl (fun _ => rfl) (fun _ _ _ => rfl)
      (fun t => by rw [after_10]; unfold Dat.blockOf iblk; rw [A_eq]; try rfl) t d).trans
    (by unfold Dat.fetched Dat.blockOf iblk; rw [A_eq]; try rfl)

theorem after_11 (c : Dev nD) (t : Fin (cfg3 a).N) : (dat a W c).after 11 t = iblk a W c 11 t := by dsimp only [dat]; try rfl
theorem before_11 (c : Dev nD) (t : Fin (cfg3 a).N) (d) : (dat a W c).before 11 t d = iblk a W c 11 t :=
  ((dat a W c).before_in_eq_fetched 11 rfl (fun _ => rfl) (fun _ _ _ => rfl)
      (fun t => by rw [after_11]; unfold Dat.blockOf iblk; rw [A_eq]; try rfl) t d).trans
    (by unfold Dat.fetched Dat.blockOf iblk; rw [A_eq]; try rfl)

theorem after_12 (c : Dev nD) (t : Fin (cfg3 a).N) : (dat a W c).after 12 t = iblk a W c 12 t := by dsimp only [dat]; try rfl
theorem before_12 (c : Dev nD) (t : Fin (cfg3 a).N) (d) : (dat a W c).before 12 t d = iblk a W c 12 t :=
  ((dat a W c).before_in_eq_fetched 12 rfl (fun _ => rfl) (fun _ _ _ => rfl)
      (fun t => by rw [after_12]; unfold Dat.blockOf iblk; rw [A_eq]; try rfl) t d).trans
    (by unfold Dat.fetched Dat.blockOf iblk; rw [A_eq]; try rfl)

theorem after_13 (c : Dev nD) (t : Fin (cfg3 a).N) : (dat a W c).after 13 t = iblk a W c 13 t := by dsimp only [dat]; try rfl
theorem before_13 (c : Dev nD) (t : Fin (cfg3 a).N) (d) : (dat a W c).before 13 t d = iblk a W c 13 t :=
  ((dat a W c).before_in_eq_fetched 13 rfl (fun _ => rfl) (fun _ _ _ => rfl)
      (fun t => by rw [after_13]; unfold Dat.blockOf iblk; rw [A_eq]; try rfl) t d).trans
    (by unfold Dat.fetched Dat.blockOf iblk; rw [A_eq]; try rfl)

theorem after_14 (c : Dev nD) (t : Fin (cfg3 a).N) : (dat a W c).after 14 t = iblk a W c 14 t := by dsimp only [dat]; try rfl
theorem before_14 (c : Dev nD) (t : Fin (cfg3 a).N) (d) : (dat a W c).before 14 t d = iblk a W c 14 t :=
  ((dat a W c).before_in_eq_fetched 14 rfl (fun _ => rfl) (fun _ _ _ => rfl)
      (fun t => by rw [after_14]; unfold Dat.blockOf iblk; rw [A_eq]; try rfl) t d).trans
    (by unfold Dat.fetched Dat.blockOf iblk; rw [A_eq]; try rfl)

theorem sound_body (c : Dev nD) (t : Fin (cfg3 a).N) :
    iprop((dat a W c).Φ t.castSucc ∗ (dat a W c).owesAt () t.castSucc
      ∗ (∃ d, owns (c : Thread nD τ) (spec3_0.stage ((cfg3 a).slots t 0)) fullShare ((dat a W c).before 0 t d))
      ∗ (∃ d, owns (c : Thread nD τ) (spec3_1.stage ((cfg3 a).slots t 1)) fullShare ((dat a W c).before 1 t d))
      ∗ (∃ d, owns (c : Thread nD τ) (spec3_2.stage ((cfg3 a).slots t 2)) fullShare ((dat a W c).before 2 t d))
      ∗ (∃ d, owns (c : Thread nD τ) (spec3_3.stage ((cfg3 a).slots t 3)) fullShare ((dat a W c).before 3 t d))
      ∗ (∃ d, owns (c : Thread nD τ) (spec3_4.stage ((cfg3 a).slots t 4)) fullShare ((dat a W c).before 4 t d))
      ∗ (∃ d, owns (c : Thread nD τ) (spec3_5.stage ((cfg3 a).slots t 5)) fullShare ((dat a W c).before 5 t d))
      ∗ (∃ d, owns (c : Thread nD τ) (spec3_6.stage ((cfg3 a).slots t 6)) fullShare ((dat a W c).before 6 t d))
      ∗ (∃ d, owns (c : Thread nD τ) (spec3_7.stage ((cfg3 a).slots t 7)) fullShare ((dat a W c).before 7 t d))
      ∗ (∃ d, owns (c : Thread nD τ) (spec3_8.stage ((cfg3 a).slots t 8)) fullShare ((dat a W c).before 8 t d))
      ∗ (∃ d, owns (c : Thread nD τ) (spec3_9.stage ((cfg3 a).slots t 9)) fullShare ((dat a W c).before 9 t d))
      ∗ (∃ d, owns (c : Thread nD τ) (spec3_10.stage ((cfg3 a).slots t 10)) fullShare ((dat a W c).before 10 t d))
      ∗ (∃ d, owns (c : Thread nD τ) (spec3_11.stage ((cfg3 a).slots t 11)) fullShare ((dat a W c).before 11 t d))
      ∗ (∃ d, owns (c : Thread nD τ) (spec3_12.stage ((cfg3 a).slots t 12)) fullShare ((dat a W c).before 12 t d))
      ∗ (∃ d, owns (c : Thread nD τ) (spec3_13.stage ((cfg3 a).slots t 13)) fullShare ((dat a W c).before 13 t d))
      ∗ (∃ d, owns (c : Thread nD τ) (spec3_14.stage ((cfg3 a).slots t 14)) fullShare ((dat a W c).before 14 t d))
      ∗ (∃ d, owns (c : Thread nD τ) (spec3_15.stage ((cfg3 a).slots t 15)) fullShare ((dat a W c).before 15 t d)))
    ⊢ wp frame (wpE (defs₀ (F := F)) Variants.none c none) Set.univ (bodyAt3 a t) (fun _ =>
      iprop((dat a W c).Φ t.succ ∗ (dat a W c).owesAt () t.succ
        ∗ owns (c : Thread nD τ) (spec3_0.stage ((cfg3 a).slots t 0)) fullShare ((dat a W c).after 0 t)
        ∗ owns (c : Thread nD τ) (spec3_1.stage ((cfg3 a).slots t 1)) fullShare ((dat a W c).after 1 t)
        ∗ owns (c : Thread nD τ) (spec3_2.stage ((cfg3 a).slots t 2)) fullShare ((dat a W c).after 2 t)
        ∗ owns (c : Thread nD τ) (spec3_3.stage ((cfg3 a).slots t 3)) fullShare ((dat a W c).after 3 t)
        ∗ owns (c : Thread nD τ) (spec3_4.stage ((cfg3 a).slots t 4)) fullShare ((dat a W c).after 4 t)
        ∗ owns (c : Thread nD τ) (spec3_5.stage ((cfg3 a).slots t 5)) fullShare ((dat a W c).after 5 t)
        ∗ owns (c : Thread nD τ) (spec3_6.stage ((cfg3 a).slots t 6)) fullShare ((dat a W c).after 6 t)
        ∗ owns (c : Thread nD τ) (spec3_7.stage ((cfg3 a).slots t 7)) fullShare ((dat a W c).after 7 t)
        ∗ owns (c : Thread nD τ) (spec3_8.stage ((cfg3 a).slots t 8)) fullShare ((dat a W c).after 8 t)
        ∗ owns (c : Thread nD τ) (spec3_9.stage ((cfg3 a).slots t 9)) fullShare ((dat a W c).after 9 t)
        ∗ owns (c : Thread nD τ) (spec3_10.stage ((cfg3 a).slots t 10)) fullShare ((dat a W c).after 10 t)
        ∗ owns (c : Thread nD τ) (spec3_11.stage ((cfg3 a).slots t 11)) fullShare ((dat a W c).after 11 t)
        ∗ owns (c : Thread nD τ) (spec3_12.stage ((cfg3 a).slots t 12)) fullShare ((dat a W c).after 12 t)
        ∗ owns (c : Thread nD τ) (spec3_13.stage ((cfg3 a).slots t 13)) fullShare ((dat a W c).after 13 t)
        ∗ owns (c : Thread nD τ) (spec3_14.stage ((cfg3 a).slots t 14)) fullShare ((dat a W c).after 14 t)
        ∗ owns (c : Thread nD τ) (spec3_15.stage ((cfg3 a).slots t 15)) fullShare ((dat a W c).after 15 t))) := by
  unfold bodyAt3
  simp only [before_0, before_1, before_2, before_3, before_4, before_5, before_6, before_7, before_8, before_9, before_10, before_11, before_12, before_13, before_14]
  rw [show (dat a W c).Φ t.succ = (dat a W c).Φ t.castSucc from rfl,
    show (dat a W c).owesAt () t.succ = (dat a W c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid3.coords t) _ _ _ _ _ _ _ _ _ _ _ _ _ _ _ _ _ _ _ _ _ _ _ _ _ _ _ _ _ _ _ _ _ _ _ _ _ _ (iblk a W c 0 t) (iblk a W c 1 t) (iblk a W c 2 t) (iblk a W c 3 t) (iblk a W c 4 t) (iblk a W c 5 t) (iblk a W c 6 t) (iblk a W c 7 t) (iblk a W c 8 t) (iblk a W c 9 t) (iblk a W c 10 t) (iblk a W c 11 t) (iblk a W c 12 t) (iblk a W c 13 t) (iblk a W c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin (cfg3 a).N) :
    defs₀ (F := F) .tc (cfg3 a).body ((cfg3 a).bodyArgs t ((cfg3 a).slots t)) = bodyAt3 a t := by
  unfold defs₀; rw [Defs.onTc_tc]

theorem body_obligation (c : Dev nD) : BodyObligation (dat (F := F) a W c) (defs₀ (F := F)) Variants.none () Set.univ := fun t => by
  rw [bigSep_W3, bigSep_W3, defs₀_row a]
  exact triple_restated (sound_body a W c t) rfl .rfl fun _ => .rfl

end Cert.KernelIdeal.Run.Win

end
-- ==== Proof.KI.Reg4.lean ====
/- The scattering call: at each point one computed window is written over the window of the map that the tables name. -/
module

public import proofs.«01_k».proof.Proof.KI.Base

@[expose] public section

-- membership in a rectangle of the call's extents recurses once per coordinate of the long axes
set_option maxRecDepth 16384

noncomputable section

namespace Cert.KernelIdeal.Run.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (a : (pcfg4 (F := F)).Adm) (W : Dev nD → Valuation τ sig (Elt F))

/-- Window `w`'s block at point `t`, read off its array as the call finds it. -/
def iblk (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (W c (Proc.devRef .tc (Pipeline.arrRef spec4 w)))

/-- The body at point `t`: the tables and the aliased operand are handed over unread. -/
abbrev bodyAt4 (t : Fin (cfg4 a).N) : Prog (TpuEff nD τ sig (Elt F) Λ₀ .tc) PUnit :=
  cc4__scatter_body (grid4.coords t) (Memref.whole main_v8) (Memref.isWhole_whole _) (Memref.whole main_v3) (Memref.isWhole_whole _)
    (Memref.whole main_v5) (Memref.isWhole_whole _) (spec4_0.stage ((cfg4 a).slots t 0)) (hstage4_0 (((cfg4 a).slots t 0).cast nbuf4_0))
    (Memref.whole main_v24) (Memref.isWhole_whole _) (spec4_1.stage ((cfg4 a).slots t 1)) (hstage4_1 (((cfg4 a).slots t 1).cast nbuf4_1))

theorem cover (p0 : Vec F S1x1x8x1x8x384 .f32) (y : S1x1x8x1x8x384.Idx) :
    ∃ pc ∈ ([⟨Rect.unit (s := S1x1x8x1x8x384) ![0, 0, 0, 0, 0, 0] S1x1x8x1x8x384.size inb_S1x1x8x1x8x384_S1x1x8x1x8x384_0_0_0_0_0_0, p0⟩] :
      List (View.Piece (Elt F) S1x1x8x1x8x384 .f32)), y ∈ pc.1.set :=
  View.cover_of_tiled [⟨Rect.unit (s := S1x1x8x1x8x384) ![0, 0, 0, 0, 0, 0] S1x1x8x1x8x384.size inb_S1x1x8x1x8x384_S1x1x8x1x8x384_0_0_0_0_0_0, p0⟩]
    S1x1x8x1x8x384.size (by rfl) y

theorem zero4 : (![0, 0, 0, 0] : Fin 4 → Nat) = fun _ => 0 := by decide
theorem zero6 : (![0, 0, 0, 0, 0, 0] : Fin 6 → Nat) = fun _ => 0 := by decide

/-- The body on whole buffers: the input's as it was, the output's at the payload of the input block. -/
theorem sound_kernel (c : Dev nD) (E : Set ℕ) (i : grid4.Coords) (arg1 : Memref sig .tc .smem S470 .i32) (harg1 : arg1.IsWhole)
    (arg2 : Memref sig .tc .smem S470 .i32) (harg2 : arg2.IsWhole) (arg3 : Memref sig .tc .smem S470 .i32) (harg3 : arg3.IsWhole)
    (arg4 : Memref sig .tc .vmem S1x8x8x384 .f32) (harg4 : arg4.IsWhole) (arg5 : Memref sig .tc .hbm S2x28x8x28x8x384 .f32) (harg5 : arg5.IsWhole)
    (arg6 : Memref sig .tc .vmem S1x1x8x1x8x384 .f32) (harg6 : arg6.IsWhole)
    (x0 : Vec F S1x8x8x384 .f32) (K : PUnit → sProp 𝕄) :
    iprop(owns (c : Thread nD τ) arg4 fullShare x0 ∗ (∃ d, owns (c : Thread nD τ) arg6 fullShare d)
        ∗ (iprop(owns (c : Thread nD τ) arg4 fullShare x0 ∗ owns (c : Thread nD τ) arg6 fullShare (k4_pay1 x0)) -∗ K ⟨⟩))
      ⊢ wp frame (wpE (defs₀ (F := F)) Variants.none c none) E
        (cc4__scatter_body i arg1 harg1 arg2 harg2 arg3 harg3 arg4 harg4 arg5 harg5 arg6 harg6) K := by
  simp only [cc4__scatter_body_eq_skeleton]; unfold cc4__scatter_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover _)).trans ?_
  rw [View.canon_unit_zero zero6]
  exact congrArg k4_pay1 (View.ld_unit_zero zero4 _ _)

/-- The call's proof data on core `c`: the arrays as found; after a body the input's buffer at its block, the output's at the payload. -/
def dat (c : Dev nD) : Dat τ (Elt F) Unit ℕ (UR sig nD τ) ℕ (cfg4 a) c where
  A w := W c (Proc.devRef .tc (Pipeline.arrRef spec4 w))
  after w t := match w with
    | ⟨0, _⟩ => iblk a W c 0 t
    | ⟨1, _⟩ => k4_pay1 (iblk a W c 0 t)
  Φ _ := iprop(Pipeline.scopedRest spec4 c ∗ Pipeline.prefHeld pre4 c (fun _ => fullShare) a.1)
  q _ := fullShare
  owed _ := 0

theorem A_eq (c : Dev nD) (w : Fin (cfg4 a).W) : (dat a W c).A w = W c (Proc.devRef .tc (Pipeline.arrRef spec4 w)) := by
  dsimp only [dat]
theorem after_0 (c : Dev nD) (t : Fin (cfg4 a).N) : (dat a W c).after 0 t = iblk a W c 0 t := by dsimp only [dat]; try rfl
theorem after_1 (c : Dev nD) (t : Fin (cfg4 a).N) : (dat a W c).after 1 t = k4_pay1 (iblk a W c 0 t) := by dsimp only [dat]; try rfl

theorem before_0 (c : Dev nD) (t : Fin (cfg4 a).N) (d) : (dat a W c).before 0 t d = iblk a W c 0 t :=
  ((dat a W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem sound_body (c : Dev nD) (t : Fin (cfg4 a).N) :
    iprop((dat a W c).Φ t.castSucc ∗ (dat a W c).owesAt () t.castSucc
      ∗ (∃ d, owns (c : Thread nD τ) (spec4_0.stage ((cfg4 a).slots t 0)) fullShare ((dat a W c).before 0 t d))
      ∗ (∃ d, owns (c : Thread nD τ) (spec4_1.stage ((cfg4 a).slots t 1)) fullShare ((dat a W c).before 1 t d)))
    ⊢ wp frame (wpE (defs₀ (F := F)) Variants.none c none) Set.univ (bodyAt4 a t) (fun _ =>
      iprop((dat a W c).Φ t.succ ∗ (dat a W c).owesAt () t.succ
        ∗ owns (c : Thread nD τ) (spec4_0.stage ((cfg4 a).slots t 0)) fullShare ((dat a W c).after 0 t)
        ∗ owns (c : Thread nD τ) (spec4_1.stage ((cfg4 a).slots t 1)) fullShare ((dat a W c).after 1 t))) := by
  unfold bodyAt4
  simp only [before_0]
  rw [show (dat a W c).Φ t.succ = (dat a W c).Φ t.castSucc from rfl,
    show (dat a W c).owesAt () t.succ = (dat a W c).owesAt () t.castSucc from rfl, after_0, after_1]
  iintro ⟨HΦ, Ho, ⟨%d0, H0⟩, ⟨%d1, H1⟩⟩
  iapply (sound_kernel c Set.univ (grid4.coords t) _ _ _ _ _ _ _ _ _ _ _ _ (iblk a W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin (cfg4 a).N) :
    defs₀ (F := F) .tc (cfg4 a).body ((cfg4 a).bodyArgs t ((cfg4 a).slots t)) = bodyAt4 a t := by
  unfold defs₀; rw [Defs.onTc_tc]

theorem body_obligation (c : Dev nD) : BodyObligation (dat (F := F) a W c) (defs₀ (F := F)) Variants.none () Set.univ := fun t => by
  rw [bigSep_W4, bigSep_W4, defs₀_row a]
  exact triple_restated (sound_body a W c t) rfl .rfl fun _ => .rfl

end Cert.KernelIdeal.Run.Scatter

end
-- ==== Proof.KI.Reg5.lean ====
/- The last call: each block of pixels by channels transposed to channels by pixels. -/
module

public import proofs.«01_k».proof.Proof.KI.Base

@[expose] public section

-- membership in a rectangle of the call's extents recurses once per coordinate of the long axes
set_option maxRecDepth 16384

noncomputable section

namespace Cert.KernelIdeal.Run.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the call finds it. -/
def iblk (c : Dev nD) (w : Fin cfg5.W) (t : Fin cfg5.N) : ((cfg5.win w).xblock (cfg5.grid.coords t)).Idx → Elt F (cfg5.win w).elt :=
  ((cfg5.win w).blk t).view.read (Elt F) (W c (Proc.devRef .tc (Pipeline.arrRef spec5 w)))

theorem cover (p0 : Vec F S1x128x6272 .f32) (y : S1x128x6272.Idx) :
    ∃ pc ∈ ([⟨Rect.unit (s := S1x128x6272) ![0, 0, 0] S1x128x6272.size inb_S1x128x6272_S1x128x6272_0_0_0, p0⟩] : List (View.Piece (Elt F) S1x128x6272 .f32)), y ∈ pc.1.set :=
  View.cover_of_tiled [⟨Rect.unit (s := S1x128x6272) ![0, 0, 0] S1x128x6272.size inb_S1x128x6272_S1x128x6272_0_0_0, p0⟩] S1x128x6272.size (by rfl) y

theorem zero3 : (![0, 0, 0] : Fin 3 → Nat) = fun _ => 0 := by decide

/-- The body on whole buffers: the input's as it was, the output's at the payload of the input block. -/
theorem sound_kernel (c : Dev nD) (E : Set ℕ) (i : grid5.Coords) (arg1 : Memref sig .tc .vmem S1x6272x128 .f32) (harg1 : arg1.IsWhole)
    (arg2 : Memref sig .tc .vmem S1x128x6272 .f32) (harg2 : arg2.IsWhole)
    (x0 : Vec F S1x6272x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k5_pay1 x0)) -∗ K ⟨⟩))
      ⊢ wp frame (wpE (defs₀ (F := F)) Variants.none c none) E (cc5__t_back_body i arg1 harg1 arg2 harg2) K := by
  simp only [cc5__t_back_body_eq_skeleton]; unfold cc5__t_back_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover _)).trans ?_
  rw [View.canon_unit_zero zero3]
  exact congrArg k5_pay1 (View.ld_unit_zero zero3 _ _)

/-- The call's proof data on core `c`: the arrays as found; after a body the input's buffer at its block, the output's at the payload. -/
def dat (c : Dev nD) : Dat τ (Elt F) Unit ℕ (UR sig nD τ) ℕ cfg5 c where
  A w := W c (Proc.devRef .tc (Pipeline.arrRef spec5 w))
  after w t := match w with
    | ⟨0, _⟩ => iblk W c 0 t
    | ⟨1, _⟩ => k5_pay1 (iblk W c 0 t)
  Φ _ := Pipeline.scopedRest spec5 c
  q _ := fullShare
  owed _ := 0

theorem A_eq (c : Dev nD) (w : Fin cfg5.W) : (dat W c).A w = W c (Proc.devRef .tc (Pipeline.arrRef spec5 w)) := by
  dsimp only [dat]
theorem after_0 (c : Dev nD) (t : Fin cfg5.N) : (dat W c).after 0 t = iblk W c 0 t := by dsimp only [dat]
theorem after_1 (c : Dev nD) (t : Fin cfg5.N) : (dat W c).after 1 t = k5_pay1 (iblk W c 0 t) := by dsimp only [dat]

theorem before_0 (c : Dev nD) (t : Fin cfg5.N) (d) : (dat W c).before 0 t d = iblk W c 0 t :=
  ((dat W c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem sound_body (c : Dev nD) (t : Fin cfg5.N) :
    iprop((dat W c).Φ t.castSucc ∗ (dat W c).owesAt () t.castSucc
      ∗ (∃ d, owns (c : Thread nD τ) (st5_0 t) fullShare ((dat W c).before 0 t d))
      ∗ (∃ d, owns (c : Thread nD τ) (st5_1 t) fullShare ((dat W c).before 1 t d)))
    ⊢ wp frame (wpE (defs₀ (F := F)) Variants.none c none) Set.univ (bodyAt5 t) (fun _ =>
      iprop((dat W c).Φ t.succ ∗ (dat W c).owesAt () t.succ
        ∗ owns (c : Thread nD τ) (st5_0 t) fullShare ((dat W c).after 0 t)
        ∗ owns (c : Thread nD τ) (st5_1 t) fullShare ((dat W c).after 1 t))) := by
  unfold bodyAt5
  simp only [before_0]
  rw [show (dat W c).Φ t.succ = (dat W c).Φ t.castSucc from rfl,
    show (dat W c).owesAt () t.succ = (dat W c).owesAt () t.castSucc from rfl, after_0, after_1]
  iintro ⟨HΦ, Ho, ⟨%d0, H0⟩, ⟨%d1, H1⟩⟩
  iapply (sound_kernel c Set.univ (grid5.coords t) _ _ _ _ (iblk W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg5.N) :
    defs₀ (F := F) .tc cfg5.body (cfg5.bodyArgs t (cfg5.slots t)) = bodyAt5 t := by
  unfold defs₀; rw [Defs.onTc_tc]

theorem body_obligation (c : Dev nD) : BodyObligation (dat (F := F) W c) (defs₀ (F := F)) Variants.none () Set.univ := fun t => by
  rw [bigSep_W5, bigSep_W5, defs₀_row]
  exact triple_restated (sound_body W c t) rfl .rfl fun _ => .rfl

end Cert.KernelIdeal.Run.Back

end
-- ==== Proof.KI.Leaves.lean ====
/- What each call leaves in its results, and the tables the table-driven calls run at, one after the other. -/
module

public import proofs.«01_k».proof.Proof.KI.Tables
public import proofs.«01_k».proof.Proof.KI.Reg0
public import proofs.«01_k».proof.Proof.KI.Reg1
public import proofs.«01_k».proof.Proof.KI.Reg2
public import proofs.«01_k».proof.Proof.KI.Reg3
public import proofs.«01_k».proof.Proof.KI.Reg4
public import proofs.«01_k».proof.Proof.KI.Reg5

@[expose] public section

noncomputable section

namespace Cert.KernelIdeal.Run

open Idealize.ShloMosaic Idealize.ShloMosaic.TcCoe
open Idealize.SL Idealize.SL.Sem
open Cert.KernelIdeal.Gen

variable {F : FTy → Type} [FloatOps F] [Named F]

/-- What the calls leave in their results (`outs`, by the place of the call among the program's items) and the tables the
    table-driven calls run at (`a`): each result the write-backs of the call over the buffers as it finds them. -/
structure Leaves (m : (ℓ : Loc nD τ sig) → Buf (Elt F) ℓ) (outs : Outs (F := F)) (a3 : (pcfg3 (F := F)).Adm) (a4 : (pcfg4 (F := F)).Adm) : Prop where
  o1 : ∀ c, outs 1 main_v0 c = (Score.dat (V0 m) c).arrAt 1 cfg0.N
  o7a : ∀ c, outs 7 main_v10_0 c = (Pool.dat (V6 m outs) c).arrAt 1 cfg1.N
  o7b : ∀ c, outs 7 main_v10_1 c = (Pool.dat (V6 m outs) c).arrAt 2 cfg1.N
  o8 : ∀ c, outs 8 main_v11 c = (Kv.dat (V7 m outs) c).arrAt 2 cfg2.N
  t3 : ∀ c k, a3.1 k = V9 m outs c (Proc.devRef .tc (pre3.ref k))
  o10 : ∀ c, outs 10 main_v22 c = (Win.dat a3 (V9 m outs) c).arrAt 15 (cfg3 a3).N
  t4 : ∀ c k, a4.1 k = V11 m outs c (Proc.devRef .tc (pre4.ref k))
  o12 : ∀ c, outs 12 main_v26 c = (Scatter.dat a4 (V11 m outs) c).arrAt 1 (cfg4 a4).N
  o12' : ∀ c, outs 12 main_v24 c = V11 m outs c main_v24
  o14 : ∀ c, outs 14 main_v28 c = (Back.dat (V13 m outs) c).arrAt 1 cfg5.N

/-! ## They exist: the valuations one after the other -/

section
variable (m : (ℓ : Loc nD τ sig) → Buf (Elt F) ℓ)

/-- The buffers after the first call, -/
def W1 (c : Dev nD) : Valuation τ sig (Elt F) := Function.update (V0 m c) main_v0 ((Score.dat (V0 m) c).arrAt 1 cfg0.N)
/-- as the second finds them, -/
def W6 (c : Dev nD) : Valuation τ sig (Elt F) :=
  StableHlo.after hostOps1_4 (StableHlo.after hostOps1_3 (StableHlo.after hostOps1_2 (StableHlo.after hostOps1_1 (StableHlo.after hostOps1 (W1 m c)))))
/-- as it leaves them, -/
def W7 (c : Dev nD) : Valuation τ sig (Elt F) :=
  Function.update (Function.update (W6 m c) main_v10_0 ((Pool.dat (W6 m) c).arrAt 1 cfg1.N)) main_v10_1 ((Pool.dat (W6 m) c).arrAt 2 cfg1.N)
/-- after the third, -/
def W8 (c : Dev nD) : Valuation τ sig (Elt F) := Function.update (W7 m c) main_v11 ((Kv.dat (W7 m) c).arrAt 2 cfg2.N)
/-- as the fourth finds them. -/
def W9 (c : Dev nD) : Valuation τ sig (Elt F) := StableHlo.after hostOps3 (W8 m c)

/-- The first three calls' results; elsewhere anything. -/
def outs0 : Outs (F := F) := fun J r c => match J with
  | 1 => W1 m c r | 7 => W7 m c r | _ => W8 m c r

/-- An update by what the updated valuation holds is the updated valuation. -/
theorem upd_self (V : Valuation τ sig (Elt F)) (b : DevRef τ sig) (x) : Function.update V b (Function.update V b x b) = Function.update V b x := by
  rw [Function.update_self]

theorem upd_pair (V : Valuation τ sig (Elt F)) {b b' : DevRef τ sig} (h : b ≠ b') (x x') (y y')
    (hy : y = Function.update (Function.update V b x) b' x' b) (hy' : y' = Function.update (Function.update V b x) b' x' b') :
    Function.update (Function.update V b y) b' y' = Function.update (Function.update V b x) b' x' := by
  rw [hy, hy', Function.update_self, Function.update_of_ne h, Function.update_self]

variable {m} in
theorem V1_W {outs : Outs (F := F)} (h : ∀ r c, outs 1 r c = W1 m c r) : V1 m outs = W1 m := by
  funext c; unfold V1; rw [h]; exact upd_self _ _ _
variable {m} in
theorem V6_W {outs : Outs (F := F)} (h : ∀ r c, outs 1 r c = W1 m c r) : V6 m outs = W6 m := by
  funext c; unfold V6 V5 V4 V3 V2 W6; rw [V1_W h]
variable {m} in
theorem V7_W {outs : Outs (F := F)} (h : ∀ r c, outs 1 r c = W1 m c r) (h7 : ∀ r c, outs 7 r c = W7 m c r) : V7 m outs = W7 m := by
  funext c; unfold V7; rw [V6_W h]
  exact upd_pair _ (by decide) _ _ _ _ (h7 _ _) (h7 _ _)
variable {m} in
theorem V9_W {outs : Outs (F := F)} (h : ∀ r c, outs 1 r c = W1 m c r) (h7 : ∀ r c, outs 7 r c = W7 m c r) (h8 : ∀ r c, outs 8 r c = W8 m c r) :
    V9 m outs = W9 m := by
  funext c; unfold V9 V8 W9; rw [V7_W h h7, h8]; exact congrArg _ (upd_self _ _ _)

theorem W9_eq : W9 m = V9 m (outs0 m) := (V9_W (fun _ _ => rfl) (fun _ _ => rfl) fun _ _ => rfl).symm

/-- The tables' buffers as valuations: they are as the fourth call finds them, the entries in range. -/
theorem W9_b (c : Dev nD) (j : S470.Idx) : BitVec.toNat ((W9 m c main_v8 : IVec S470 32) j) < 2 := by rw [W9_eq]; exact Tab.b_lt m (outs0 m) c j
theorem W9_y (c : Dev nD) (j : S470.Idx) : BitVec.toNat ((W9 m c main_v3 : IVec S470 32) j) < 28 := by rw [W9_eq]; exact Tab.y_lt m (outs0 m) c j
theorem W9_x (c : Dev nD) (j : S470.Idx) : BitVec.toNat ((W9 m c main_v5 : IVec S470 32) j) < 28 := by rw [W9_eq]; exact Tab.x_lt m (outs0 m) c j

/-- The tables the fourth call runs at. -/
def tbl3 : (pcfg3 (F := F)).Adm := ⟨fun k => W9 m 0 (Proc.devRef .tc (pre3.ref k)), Tab.ok3_of _ (W9_b m 0) (W9_y m 0) (W9_x m 0)⟩

/-- The buffers after the fourth call, -/
def W10 (c : Dev nD) : Valuation τ sig (Elt F) := Function.update (W9 m c) main_v22 ((Win.dat (tbl3 m) (W9 m) c).arrAt 15 (cfg3 (tbl3 m)).N)
/-- as the fifth finds them. -/
def W11 (c : Dev nD) : Valuation τ sig (Elt F) := StableHlo.after hostOps4 (W10 m c)

theorem W11_of (c : Dev nD) (r : Ref sig .tc) (h : r ∉ hostOps4_W) (h' : r ≠ main_v22) : W11 m c r = W9 m c r :=
  (StableHlo.after_of_writes_sub hostOps4 _ hostOps4_writes h).trans (Function.update_of_ne (StableHlo.devRef_ne_of_ne h') _ _)

/-- The tables the fifth call runs at. -/
def tbl4 : (pcfg4 (F := F)).Adm := ⟨fun k => W11 m 0 (Proc.devRef .tc (pre4.ref k)), Tab.ok4_of _
  (fun j => (congrFun (W11_of m 0 main_v8 (by decide) (by decide)) j).symm ▸ W9_b m 0 j)
  (fun j => (congrFun (W11_of m 0 main_v3 (by decide) (by decide)) j).symm ▸ W9_y m 0 j)
  (fun j => (congrFun (W11_of m 0 main_v5 (by decide) (by decide)) j).symm ▸ W9_x m 0 j)⟩

/-- The buffers after the fifth call, -/
def W12 (c : Dev nD) : Valuation τ sig (Elt F) :=
  Function.update (Function.update (W11 m c) main_v26 ((Scatter.dat (tbl4 m) (W11 m) c).arrAt 1 (cfg4 (tbl4 m)).N)) main_v24 (W11 m c main_v24)
/-- as the sixth finds them, -/
def W13 (c : Dev nD) : Valuation τ sig (Elt F) := StableHlo.after hostOps5 (W12 m c)
/-- and as it leaves them. -/
def W14 (c : Dev nD) : Valuation τ sig (Elt F) := Function.update (W13 m c) main_v28 ((Back.dat (W13 m) c).arrAt 1 cfg5.N)

/-- What every call leaves in its results; elsewhere anything. -/
def outs : Outs (F := F) := fun J r c => match J with
  | 1 => W1 m c r | 7 => W7 m c r | 8 => W8 m c r | 10 => W10 m c r | 12 => W12 m c r | _ => W14 m c r

theorem V9_outs : V9 m (outs m) = W9 m := V9_W (fun _ _ => rfl) (fun _ _ => rfl) fun _ _ => rfl
variable {m} in
theorem V11_W {outs : Outs (F := F)} (h : V9 m outs = W9 m) (h10 : ∀ r c, outs 10 r c = W10 m c r) : V11 m outs = W11 m := by
  have h' : V10 m outs = W10 m := by
    funext c; unfold V10; rw [h, h10]; unfold W10; exact upd_self _ _ _
  funext c; unfold V11 W11; rw [h']
theorem V11_outs : V11 m (outs m) = W11 m := V11_W (V9_outs m) fun _ _ => rfl
variable {m} in
theorem V13_W {outs : Outs (F := F)} (h : V11 m outs = W11 m) (h12 : ∀ r c, outs 12 r c = W12 m c r) : V13 m outs = W13 m := by
  have h' : V12 m outs = W12 m := by
    funext c; unfold V12 W12; rw [h]
    refine upd_pair (W11 m c) (StableHlo.devRef_ne_of_ne (by decide)) _ _ _ _ ?_ ?_
    · rw [h12]; unfold W12; rfl
    · rw [h12]; unfold W12; rfl
  funext c; unfold V13 W13; rw [h']
theorem V13_outs : V13 m (outs m) = W13 m := V13_W (V11_outs m) fun _ _ => rfl

theorem W1_v0 (c : Dev nD) : W1 m c main_v0 = (Score.dat (V0 m) c).arrAt 1 cfg0.N := by unfold W1; exact Function.update_self _ _ _
theorem W7_v10_0 (c : Dev nD) : W7 m c main_v10_0 = (Pool.dat (W6 m) c).arrAt 1 cfg1.N := by
  unfold W7; exact (Function.update_of_ne (StableHlo.devRef_ne_of_ne (by decide)) _ _).trans (Function.update_self _ _ _)
theorem W7_v10_1 (c : Dev nD) : W7 m c main_v10_1 = (Pool.dat (W6 m) c).arrAt 2 cfg1.N := by unfold W7; exact Function.update_self _ _ _
theorem W8_v11 (c : Dev nD) : W8 m c main_v11 = (Kv.dat (W7 m) c).arrAt 2 cfg2.N := by unfold W8; exact Function.update_self _ _ _
theorem W10_v22 (c : Dev nD) : W10 m c main_v22 = (Win.dat (tbl3 m) (W9 m) c).arrAt 15 (cfg3 (tbl3 m)).N := by unfold W10; exact Function.update_self _ _ _
theorem W12_v26 (c : Dev nD) : W12 m c main_v26 = (Scatter.dat (tbl4 m) (W11 m) c).arrAt 1 (cfg4 (tbl4 m)).N := by
  unfold W12; exact (Function.update_of_ne (StableHlo.devRef_ne_of_ne (by decide)) _ _).trans (Function.update_self _ _ _)
theorem W12_v24 (c : Dev nD) : W12 m c main_v24 = W11 m c main_v24 := by unfold W12; exact Function.update_self _ _ _
theorem W14_v28 (c : Dev nD) : W14 m c main_v28 = (Back.dat (W13 m) c).arrAt 1 cfg5.N := by unfold W14; exact Function.update_self _ _ _

/-- The results and tables above are what the calls leave and run at. -/
theorem leaves : Leaves m (outs m) (tbl3 m) (tbl4 m) where
  o1 c := W1_v0 m c
  o7a c := by rw [V6_W fun _ _ => rfl]; exact W7_v10_0 m c
  o7b c := by rw [V6_W fun _ _ => rfl]; exact W7_v10_1 m c
  o8 c := by rw [V7_W (fun _ _ => rfl) fun _ _ => rfl]; exact W8_v11 m c
  t3 c k := by rw [V9_outs, Subsingleton.elim c 0]; rfl
  o10 c := by rw [V9_outs]; exact W10_v22 m c
  t4 c k := by rw [V11_outs, Subsingleton.elim c 0]; rfl
  o12 c := by rw [V11_outs]; exact W12_v26 m c
  o12' c := by rw [V11_outs]; exact W12_v24 m c
  o14 c := by rw [V13_outs]; exact W14_v28 m c

end

end Cert.KernelIdeal.Run

end
-- ==== Proof.KI.Launch.lean ====
/- The program's run: the six calls and the host operations between them, one after the other. -/
module

public import proofs.«01_k».proof.Proof.KI.Leaves
public import Idealize.ShloMosaic.Lib.Pipeline.RegionArraysT
public import Idealize.ShloMosaic.Lib.Pipeline.RegionArraysTS
public import Idealize.ShloMosaic.Lib.Claim

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg afterRegion)
open Cert.KernelIdeal.Gen

variable {F : FTy → Type} [FloatOps F] [Named F]

local notation "𝕄" => MT nD τ sig Unit (Elt F) ℕ (UR sig nD τ) ℕ

/-- What a core holds beside its buffers between the items: a record that it owes nothing. -/
abbrev E (c : Dev nD) : sProp 𝕄 := iprop(∃ W, owes (c : Thread nD τ) (D c) W)

/-- A core's buffers at a valuation, with that record. -/
abbrev Hd (V : Dev nD → Valuation τ sig (Elt F)) (c : Dev nD) : sProp 𝕄 :=
  iprop(StableHlo.held (c.tc : Thread nD τ) (Pipeline.ucRefs τ sig) (V c) ∗ E c)

/-- A region's arrays' final contents and the buffers it does not name give the valuation it leaves. -/
theorem afterRegion_eq {cfg : Cfg sig Λ₀} {c : Dev nD} (dat : Dat τ (Elt F) Unit ℕ (UR sig nD τ) ℕ cfg c) (V V' : Valuation τ sig (Elt F))
    (hinj : Function.Injective (Pipeline.arrRef cfg.spec))
    (hF : ∀ w, dat.arrAt w cfg.N = V' (Proc.devRef .tc (Pipeline.arrRef cfg.spec w)))
    (hoff : ∀ b : DevRef τ sig, (∀ w, b ≠ Proc.devRef .tc (Pipeline.arrRef cfg.spec w)) → V' b = V b) : afterRegion dat V = V' := by
  funext b
  by_cases h : ∃ w, b = Proc.devRef .tc (Pipeline.arrRef cfg.spec w)
  · obtain ⟨w, rfl⟩ := h
    exact (Pipeline.afterRegion_arr dat V hinj w).trans (hF w)
  · unfold afterRegion
    rw [dif_neg h]
    exact (hoff b fun w e => h ⟨w, e⟩).symm

/-- An update by what is already there changes nothing. -/
theorem upd_same (V : Valuation τ sig (Elt F)) {b b' : DevRef τ sig} (h : b ≠ b') (x) :
    Function.update (Function.update V b x) b' (V b') = Function.update V b x := by
  rw [Function.update_eq_self_iff, Function.update_of_ne h.symm]

section
variable (m : (ℓ : Loc nD τ sig) → Buf (Elt F) ℓ) (outs : Outs (F := F)) (a3 : (pcfg3 (F := F)).Adm) (a4 : (pcfg4 (F := F)).Adm)

/-- The contents of the calls' tables. -/
def adm : (p : Fin 6) → (pcfgs (F := F) p).Adm := fun
  | ⟨0, _⟩ => cfg0.toPCfg_adm | ⟨1, _⟩ => cfg1.toPCfg_adm | ⟨2, _⟩ => cfg2.toPCfg_adm | ⟨3, _⟩ => a3 | ⟨4, _⟩ => a4 | ⟨5, _⟩ => cfg5.toPCfg_adm

/-- The calls' proof data, each over the buffers as the call finds them. -/
def pdats : (p : Fin 6) → (c : Dev nD) → Dat τ (Elt F) Unit ℕ (UR sig nD τ) ℕ (Pipeline.pin (pcfgs (F := F)) (adm a3 a4) p) c := fun
  | ⟨0, _⟩ => fun c => Score.dat (V0 m) c
  | ⟨1, _⟩ => fun c => Pool.dat (V6 m outs) c
  | ⟨2, _⟩ => fun c => Kv.dat (V7 m outs) c
  | ⟨3, _⟩ => fun c => Win.dat a3 (V9 m outs) c
  | ⟨4, _⟩ => fun c => Scatter.dat a4 (V11 m outs) c
  | ⟨5, _⟩ => fun c => Back.dat (V13 m outs) c

/-- The rests the calls pass by. -/
abbrev none' : Dev nD → sProp 𝕄 := fun _ => iprop(emp)

variable {m outs a3 a4}

theorem new1 (c : Dev nD) : V1 m outs c (Proc.devRef .tc main_v0) = outs 1 main_v0 c := by unfold V1; exact Function.update_self _ _ _
theorem new7a (c : Dev nD) : V7 m outs c (Proc.devRef .tc main_v10_0) = outs 7 main_v10_0 c := by
  unfold V7; exact (Function.update_of_ne (StableHlo.devRef_ne_of_ne (by decide)) _ _).trans (Function.update_self _ _ _)
theorem new7b (c : Dev nD) : V7 m outs c (Proc.devRef .tc main_v10_1) = outs 7 main_v10_1 c := by unfold V7; exact Function.update_self _ _ _
theorem new8 (c : Dev nD) : V8 m outs c (Proc.devRef .tc main_v11) = outs 8 main_v11 c := by unfold V8; exact Function.update_self _ _ _
theorem new10 (c : Dev nD) : V10 m outs c (Proc.devRef .tc main_v22) = outs 10 main_v22 c := by unfold V10; exact Function.update_self _ _ _
theorem new12 (c : Dev nD) : V12 m outs c (Proc.devRef .tc main_v26) = outs 12 main_v26 c := by
  unfold V12; exact (Function.update_of_ne (StableHlo.devRef_ne_of_ne (by decide)) _ _).trans (Function.update_self _ _ _)
theorem new14 (c : Dev nD) : V14 m outs c (Proc.devRef .tc main_v28) = outs 14 main_v28 c := by unfold V14; exact Function.update_self _ _ _

/-- Call 0 leaves the scores. -/
theorem left0 (h : Leaves m outs a3 a4) (c : Dev nD) : afterRegion (Score.dat (V0 m) c) (V0 m c) = V1 m outs c :=
  afterRegion_eq _ _ _ (launch0 (F := F)).win.arr_inj
    (fun w => match w with
      | ⟨0, _⟩ => ((Score.dat (V0 m) c).arrAt_in 0 rfl _).trans (V1_of (F := F) m outs c (Pipeline.arrRef spec0 0) (by decide)).symm
      | ⟨1, _⟩ => (h.o1 c).symm.trans (new1 (m := m) (outs := outs) c).symm)
    fun b hb => Function.update_of_ne (hb 1) _ _

/-- Call 1 leaves the map in window order and the pooled map. -/
theorem left1 (h : Leaves m outs a3 a4) (c : Dev nD) : afterRegion (Pool.dat (V6 m outs) c) (V6 m outs c) = V7 m outs c :=
  afterRegion_eq _ _ _ (launch1 (F := F)).win.arr_inj
    (fun w => match w with
      | ⟨0, _⟩ => ((Pool.dat (V6 m outs) c).arrAt_in 0 rfl _).trans (V7_of (F := F) m outs c (Pipeline.arrRef spec1 0) (by decide)).symm
      | ⟨1, _⟩ => (h.o7a c).symm.trans (new7a (m := m) (outs := outs) c).symm
      | ⟨2, _⟩ => (h.o7b c).symm.trans (new7b (m := m) (outs := outs) c).symm)
    fun b hb => (Function.update_of_ne (hb 2) _ _).trans (Function.update_of_ne (hb 1) _ _)

/-- Call 2 leaves the keys and values. -/
theorem left2 (h : Leaves m outs a3 a4) (c : Dev nD) : afterRegion (Kv.dat (V7 m outs) c) (V7 m outs c) = V8 m outs c :=
  afterRegion_eq _ _ _ (launch2 (F := F)).win.arr_inj
    (fun w => match w with
      | ⟨0, _⟩ => ((Kv.dat (V7 m outs) c).arrAt_in 0 rfl _).trans (V8_of (F := F) m outs c (Pipeline.arrRef spec2 0) (by decide)).symm
      | ⟨1, _⟩ => ((Kv.dat (V7 m outs) c).arrAt_in 1 rfl _).trans (V8_of (F := F) m outs c (Pipeline.arrRef spec2 1) (by decide)).symm
      | ⟨2, _⟩ => (h.o8 c).symm.trans (new8 (m := m) (outs := outs) c).symm)
    fun b hb => Function.update_of_ne (hb 2) _ _

/-- Call 4 leaves the map with the computed windows in place. -/
theorem left4 (h : Leaves m outs a3 a4) (c : Dev nD) : afterRegion (Scatter.dat a4 (V11 m outs) c) (V11 m outs c) = V12 m outs c := by
  have e : V12 m outs c = Function.update (V11 m outs c) main_v26 (outs 12 main_v26 c) := by
    unfold V12; rw [h.o12', upd_same (V11 m outs c) (StableHlo.devRef_ne_of_ne (by decide))]
  refine afterRegion_eq _ _ _ (launch4 (F := F)).win.arr_inj
    (fun w => match w with
      | ⟨0, _⟩ => ((Scatter.dat a4 (V11 m outs) c).arrAt_in 0 rfl _).trans (V12_of (F := F) m outs c (Pipeline.arrRef spec4 0) (by decide)).symm
      | ⟨1, _⟩ => (h.o12 c).symm.trans (new12 (m := m) (outs := outs) c).symm)
    fun b hb => ?_
  rw [e]; exact Function.update_of_ne (hb 1) _ _

/-- Call 5 leaves the map with its channels first. -/
theorem left5 (h : Leaves m outs a3 a4) (c : Dev nD) : afterRegion (Back.dat (V13 m outs) c) (V13 m outs c) = V14 m outs c :=
  afterRegion_eq _ _ _ (launch5 (F := F)).win.arr_inj
    (fun w => match w with
      | ⟨0, _⟩ => ((Back.dat (V13 m outs) c).arrAt_in 0 rfl _).trans (V14_of (F := F) m outs c (Pipeline.arrRef spec5 0) (by decide)).symm
      | ⟨1, _⟩ => (h.o14 c).symm.trans (new14 (m := m) (outs := outs) c).symm)
    fun b hb => Function.update_of_ne (hb 1) _ _

/-- What stands before a call, with the empty rests beside it. -/
theorem enter {A P : sProp 𝕄} {c : Dev nD} (h : iprop(A ∗ (E c ∗ none' c ∗ none' c)) ⊢ P) : iprop(A ∗ E c) ⊢ P := by
  refine (show iprop(A ∗ E c) ⊢ iprop(A ∗ (E c ∗ none' c ∗ none' c)) from ?_).trans h
  iintro ⟨HA, HE⟩
  isplitl [HA]; · iexact HA
  isplitl [HE]; · iexact HE
  isplitl <;> iempintro

theorem leave {A P : sProp 𝕄} {c : Dev nD} (h : P ⊢ iprop(A ∗ (E c ∗ none' c ∗ none' c))) : P ⊢ iprop(A ∗ E c) := by
  refine h.trans ?_
  iintro ⟨HA, HE, -, -⟩
  isplitl [HA]; · iexact HA
  iexact HE

section
variable {pd : (p : Fin 6) → (c : Dev nD) → Dat τ (Elt F) Unit ℕ (UR sig nD τ) ℕ (Pipeline.pin (pcfgs (F := F)) (adm a3 a4) p) c} (p : Fin 6)
  {W W' : Dev nD → Valuation τ sig (Elt F)}

/-- A call that reads no table, as a segment of the program between two valuations of the core's buffers. -/
theorem seg_of (kit : Pipeline.PLaunchFacts (nD := nD) (τ := τ) (pcfgs (F := F)) p) (hK : (pcfgs (F := F) p).pre.K = 0)
    (hbody : ∀ c, Pipeline.BodyObligationLoose (pd p c) defs₀ Variants.none () Set.univ)
    (howed : ∀ c t, (pd p c).owed t = D c) (hrec : ∀ c, (pd p c).recorded 0 = Set.univ)
    (hshare : ∀ c w, (pd p c).share w = fullShare)
    (hin : ∀ c, Pipeline.scopedRest (Pipeline.pin (pcfgs (F := F)) (adm a3 a4) p).spec c ⊢ (pd p c).Φ 0)
    (hout : ∀ c, (pd p c).Φ (Fin.last (Pipeline.pin (pcfgs (F := F)) (adm a3 a4) p).N) ⊢ Pipeline.scopedRest (Pipeline.pin (pcfgs (F := F)) (adm a3 a4) p).spec c)
    (hW : ∀ c w, (pd p c).arrAt w 0 = W c (Proc.devRef .tc (Pipeline.arrRef (Pipeline.pin (pcfgs (F := F)) (adm a3 a4) p).spec w)))
    (hS : Pipeline.arrRefs (pcfgs (F := F) p).spec ⊆ Pipeline.ucRefs τ sig)
    (hV : ∀ c, afterRegion (pd p c) (W c) = W' c) :
    ∃ R : RegionSeg (pcfgs (F := F)) (adm a3 a4) pd () defs₀ Variants.none L lv p,
      (∀ c, Hd W c ⊢ R.pre c) ∧ ∀ c, R.post c ⊢ Hd W' c := by
  obtain rfl : (fun c => afterRegion (pd p c) (W c)) = W' := funext hV
  exact ⟨RegionSeg.ofHeldIn (pcfgs (F := F)) (adm a3 a4) pd () defs₀ Variants.none L lv p D (Pipeline.ucRefs τ sig) none' none' kit hK hbody howed hrec hshare
    (fun c => BI.sep_emp.1.trans (hin c)) (fun c => (hout c).trans BI.sep_emp.2) (fun _ => 0) (cut (adm a3 a4) p) none' W hW,
    fun c => enter (RegionSeg.ofHeldIn_pre hS c), fun c => leave (RegionSeg.ofHeldIn_post hS c)⟩

set_option maxHeartbeats 2000000 in
/-- A call that reads tables, likewise. -/
theorem seg_ofT (kit : Pipeline.PLaunchFacts (nD := nD) (τ := τ) (pcfgs (F := F)) p)
    (hbody : ∀ c, Pipeline.BodyObligationLoose (pd p c) defs₀ Variants.none () Set.univ)
    (howed : ∀ c t, (pd p c).owed t = D c) (hrec : ∀ c, (pd p c).recorded 0 = Set.univ)
    (hshare : ∀ c w, (pd p c).share w = fullShare)
    (hin : ∀ c, iprop(Pipeline.scopedRest (Pipeline.pin (pcfgs (F := F)) (adm a3 a4) p).spec c ∗ Pipeline.tablesAt (pcfgs (F := F)) (adm a3 a4) p c) ⊢ (pd p c).Φ 0)
    (hout : ∀ c, (pd p c).Φ (Fin.last (Pipeline.pin (pcfgs (F := F)) (adm a3 a4) p).N)
      ⊢ iprop(Pipeline.scopedRest (Pipeline.pin (pcfgs (F := F)) (adm a3 a4) p).spec c ∗ Pipeline.tablesAt (pcfgs (F := F)) (adm a3 a4) p c))
    (hW : ∀ c w, (pd p c).arrAt w 0 = W c (Proc.devRef .tc (Pipeline.arrRef (Pipeline.pin (pcfgs (F := F)) (adm a3 a4) p).spec w)))
    (hT : ∀ c k, (adm a3 a4 p).1 k = W c (Proc.devRef .tc ((pcfgs (F := F) p).pre.ref k)))
    (hS : Pipeline.arrRefs (pcfgs (F := F) p).spec ⊆ Pipeline.ucRefs τ sig) (hS' : Pipeline.tblRefs (τ := τ) (pcfgs (F := F) p).pre ⊆ Pipeline.ucRefs τ sig)
    (hV : ∀ c, afterRegion (pd p c) (W c) = W' c) :
    ∃ R : RegionSeg (pcfgs (F := F)) (adm a3 a4) pd () defs₀ Variants.none L lv p,
      (∀ c, Hd W c ⊢ R.pre c) ∧ ∀ c, R.post c ⊢ Hd W' c := by
  obtain rfl : (fun c => afterRegion (pd p c) (W c)) = W' := funext hV
  exact ⟨RegionSeg.ofHeldInT (pcfgs (F := F)) (adm a3 a4) pd () defs₀ Variants.none L lv p D (Pipeline.ucRefs τ sig) none' none' kit hbody howed hrec hshare
    (fun c => (sep_mono BI.sep_emp.1 .rfl).trans (hin c)) (fun c => (hout c).trans (sep_mono BI.sep_emp.2 .rfl)) (fun _ => 0) (cut (adm a3 a4) p) none' W hW hT,
    fun c => enter (RegionSeg.ofHeldInT_pre hS hS' c), fun c => leave (RegionSeg.ofHeldInT_post hS hS' c)⟩

end

set_option maxHeartbeats 4000000 in
set_option backward.isDefEq.respectTransparency.types false in
/-- Call 0 as a segment of the program. -/
theorem seg0 (h : Leaves m outs a3 a4) : ∃ R : RegionSeg (pcfgs (F := F)) (adm a3 a4) (pdats m outs a3 a4) () defs₀ Variants.none L lv 0,
    (∀ c, Hd (V0 m) c ⊢ R.pre c) ∧ ∀ c, R.post c ⊢ Hd (V1 m outs) c :=
  seg_of 0 launch0 rfl (fun c => (Score.body_obligation (V0 m) c).loose) (fun _ _ => rfl) (fun _ => rfl)
    (fun c => Dat.share_full (Score.dat (V0 m) c) fun _ => rfl) (fun c => show (Pipeline.scopedRest spec0 c : sProp 𝕄) ⊢ Pipeline.scopedRest spec0 c from .rfl) (fun c => show (Pipeline.scopedRest spec0 c : sProp 𝕄) ⊢ Pipeline.scopedRest spec0 c from .rfl) (fun _ _ => rfl)
    (Pipeline.arrRefs_sub_ucRefs spec0 (launch0 (F := F)).win.arr_unscoped) (left0 h)

set_option maxHeartbeats 4000000 in
set_option backward.isDefEq.respectTransparency.types false in
/-- Call 1 as a segment of the program. -/
theorem seg1 (h : Leaves m outs a3 a4) : ∃ R : RegionSeg (pcfgs (F := F)) (adm a3 a4) (pdats m outs a3 a4) () defs₀ Variants.none L lv 1,
    (∀ c, Hd (V6 m outs) c ⊢ R.pre c) ∧ ∀ c, R.post c ⊢ Hd (V7 m outs) c :=
  seg_of 1 launch1 rfl (fun c => (Pool.body_obligation (V6 m outs) c).loose) (fun _ _ => rfl) (fun _ => rfl)
    (fun c => Dat.share_full (Pool.dat (V6 m outs) c) fun _ => rfl) (fun c => show (Pipeline.scopedRest spec1 c : sProp 𝕄) ⊢ Pipeline.scopedRest spec1 c from .rfl) (fun c => show (Pipeline.scopedRest spec1 c : sProp 𝕄) ⊢ Pipeline.scopedRest spec1 c from .rfl) (fun _ _ => rfl)
    (Pipeline.arrRefs_sub_ucRefs spec1 (launch1 (F := F)).win.arr_unscoped) (left1 h)

set_option maxHeartbeats 4000000 in
set_option backward.isDefEq.respectTransparency.types false in
/-- Call 2 as a segment of the program. -/
theorem seg2 (h : Leaves m outs a3 a4) : ∃ R : RegionSeg (pcfgs (F := F)) (adm a3 a4) (pdats m outs a3 a4) () defs₀ Variants.none L lv 2,
    (∀ c, Hd (V7 m outs) c ⊢ R.pre c) ∧ ∀ c, R.post c ⊢ Hd (V8 m outs) c :=
  seg_of 2 launch2 rfl (fun c => (Kv.body_obligation (V7 m outs) c).loose) (fun _ _ => rfl) (fun _ => rfl)
    (fun c => Dat.share_full (Kv.dat (V7 m outs) c) fun _ => rfl) (fun c => show (Pipeline.scopedRest spec2 c : sProp 𝕄) ⊢ Pipeline.scopedRest spec2 c from .rfl) (fun c => show (Pipeline.scopedRest spec2 c : sProp 𝕄) ⊢ Pipeline.scopedRest spec2 c from .rfl) (fun _ _ => rfl)
    (Pipeline.arrRefs_sub_ucRefs spec2 (launch2 (F := F)).win.arr_unscoped) (left2 h)

set_option maxHeartbeats 4000000 in
set_option backward.isDefEq.respectTransparency.types false in
/-- Call 5 as a segment of the program. -/
theorem seg5 (h : Leaves m outs a3 a4) : ∃ R : RegionSeg (pcfgs (F := F)) (adm a3 a4) (pdats m outs a3 a4) () defs₀ Variants.none L lv 5,
    (∀ c, Hd (V13 m outs) c ⊢ R.pre c) ∧ ∀ c, R.post c ⊢ Hd (V14 m outs) c :=
  seg_of 5 launch5 rfl (fun c => (Back.body_obligation (V13 m outs) c).loose) (fun _ _ => rfl) (fun _ => rfl)
    (fun c => Dat.share_full (Back.dat (V13 m outs) c) fun _ => rfl) (fun c => show (Pipeline.scopedRest spec5 c : sProp 𝕄) ⊢ Pipeline.scopedRest spec5 c from .rfl) (fun c => show (Pipeline.scopedRest spec5 c : sProp 𝕄) ⊢ Pipeline.scopedRest spec5 c from .rfl) (fun _ _ => rfl)
    (Pipeline.arrRefs_sub_ucRefs spec5 (launch5 (F := F)).win.arr_unscoped) (left5 h)

set_option maxHeartbeats 4000000 in
set_option backward.isDefEq.respectTransparency.types false in
/-- Call 4 as a segment of the program. -/
theorem seg4 (h : Leaves m outs a3 a4) : ∃ R : RegionSeg (pcfgs (F := F)) (adm a3 a4) (pdats m outs a3 a4) () defs₀ Variants.none L lv 4,
    (∀ c, Hd (V11 m outs) c ⊢ R.pre c) ∧ ∀ c, R.post c ⊢ Hd (V12 m outs) c :=
  seg_ofT 4 launch4 (fun c => (Scatter.body_obligation a4 (V11 m outs) c).loose) (fun _ _ => rfl) (fun _ => rfl)
    (fun c => Dat.share_full (Scatter.dat a4 (V11 m outs) c) fun _ => rfl) (fun c => show (iprop(Pipeline.scopedRest spec4 c ∗ Pipeline.prefHeld pre4 c (fun _ => fullShare) a4.1) : sProp 𝕄) ⊢ iprop(Pipeline.scopedRest spec4 c ∗ Pipeline.prefHeld pre4 c (fun _ => fullShare) a4.1) from .rfl) (fun c => show (iprop(Pipeline.scopedRest spec4 c ∗ Pipeline.prefHeld pre4 c (fun _ => fullShare) a4.1) : sProp 𝕄) ⊢ iprop(Pipeline.scopedRest spec4 c ∗ Pipeline.prefHeld pre4 c (fun _ => fullShare) a4.1) from .rfl) (fun _ _ => rfl) h.t4
    (Pipeline.arrRefs_sub_ucRefs spec4 (launch4 (F := F)).win.arr_unscoped) (Pipeline.tblRefs_sub_ucRefs pre4 (by decide)) (left4 h)

/-! ## Call 3: five windows on one array -/

/-- What call 3 passes by: the buffers that are no window's array and no table. -/
abbrev rest3 (m : (ℓ : Loc nD τ sig) → Buf (Elt F) ℓ) (outs : Outs (F := F)) (c : Dev nD) : sProp 𝕄 :=
  Pipeline.unscopedRestP pre3 spec3 c (fun b => V9 m outs c (Proc.devRef .tc b))

set_option backward.isDefEq.respectTransparency.types false in
/-- Call 3, which reads the tables and one map by five windows, as a segment of the program. -/
def reg3 (h : Leaves m outs a3 a4) : RegionSeg (pcfgs (F := F)) (adm a3 a4) (pdats m outs a3 a4) () defs₀ Variants.none L lv 3 :=
  RegionSeg.ofArraysT (pcfgs (F := F)) (adm a3 a4) (pdats m outs a3 a4) () defs₀ Variants.none L lv 3 D none' none' launch₀3
    (fun c => (Win.body_obligation a3 (V9 m outs) c).loose) (fun _ _ => rfl) (fun _ => rfl)
    (fun c => show iprop(iprop(Pipeline.scopedRest spec3 c ∗ emp) ∗ Pipeline.prefHeld pre3 c (fun _ => fullShare) a3.1)
        ⊢ (iprop(Pipeline.scopedRest spec3 c ∗ Pipeline.prefHeld pre3 c (fun _ => fullShare) a3.1) : sProp 𝕄) from by
      iintro ⟨⟨H, -⟩, Ht⟩; isplitl [H] <;> iassumption)
    (fun c => show (iprop(Pipeline.scopedRest spec3 c ∗ Pipeline.prefHeld pre3 c (fun _ => fullShare) a3.1) : sProp 𝕄)
        ⊢ iprop(iprop(Pipeline.scopedRest spec3 c ∗ emp) ∗ Pipeline.prefHeld pre3 c (fun _ => fullShare) a3.1) from by
      iintro ⟨H, Ht⟩
      isplitl [H]
      · isplitl [H]; · iexact H
        iempintro
      iexact Ht)
    (fun _ => 0) (cut (adm a3 a4) 3) (rest3 m outs)

/-- Call 3's arrays at the end are the next valuation's. -/
theorem arr3 (h : Leaves m outs a3 a4) (c : Dev nD) (w : Fin 16) :
    (Win.dat a3 (V9 m outs) c).arrAt w (cfg3 a3).N = V10 m outs c (Proc.devRef .tc (Pipeline.arrRef spec3 w)) := by
  by_cases hw : (spec3 w).isOut = false
  · exact ((Win.dat a3 (V9 m outs) c).arrAt_in w hw _).trans (V10_of m outs c _ (by revert w; decide)).symm
  · obtain rfl : w = 15 := by revert w; decide
    exact (h.o10 c).symm.trans (new10 (m := m) (outs := outs) c).symm

set_option backward.isDefEq.respectTransparency.types false in
theorem pre3' (h : Leaves m outs a3 a4) (c : Dev nD) :
    Hd (V9 m outs) c ⊢ (reg3 h).pre c := by
  have hs := Pipeline.arrays_of_unscopedBufs_shared (pcfgs (F := F)) (adm a3 a4) (pdats m outs a3 a4) (p := 3) winFacts₀3 sharedIn3 arr_whole3 c
    (fun _ _ => rfl) (fun b => V9 m outs c (Proc.devRef .tc b)) (fun _ => rfl)
  rw [Pipeline.unscopedBufs_held (Ix := Unit) (Name := ℕ) (U := UR sig nD τ) (Lvl := ℕ) c (V9 m outs c)] at hs
  have ht : (Pipeline.unscopedRest spec3 c (fun b => V9 m outs c (Proc.devRef .tc b)) : sProp 𝕄)
      = iprop(Pipeline.prefHeld pre3 c (fun _ => fullShare) a3.1 ∗ rest3 m outs c) := by
    rw [show a3.1 = fun k => V9 m outs c (Proc.devRef .tc (pre3.ref k)) from funext (h.t3 c)]
    exact Pipeline.unscopedRest_split preFacts3 c _
  show _ ⊢ iprop((Win.dat a3 (V9 m outs) c).arrays ((Win.dat a3 (V9 m outs) c).arrAt · 0) ∗ Pipeline.prefHeld pre3 c (fun _ => fullShare) a3.1 ∗ none' c ∗ rest3 m outs c ∗ E c)
  iintro ⟨Hh, HE⟩
  ihave H := (hs.trans (sep_mono .rfl (Entails.of_eq ht))) $$ Hh
  icases H with ⟨Ha, Ht, Hr⟩
  isplitl [Ha]; · iexact Ha
  isplitl [Ht]; · iexact Ht
  isplitr; · iempintro
  isplitl [Hr]; · iexact Hr
  iexact HE

set_option backward.isDefEq.respectTransparency.types false in
theorem post3 (h : Leaves m outs a3 a4) (c : Dev nD) :
    (reg3 h).post c ⊢ Hd (V10 m outs) c := by
  have hs := Pipeline.unscopedBufs_of_arrays_shared (pcfgs (F := F)) (adm a3 a4) (Ix := Unit) (Name := ℕ) (U := UR sig nD τ) (Lvl := ℕ) (p := 3) winFacts₀3 sharedIn3 arr_whole3 c
    (pdats m outs a3 a4) (fun _ _ => rfl) (fun b => V9 m outs c (Proc.devRef .tc b)) (fun b => V10 m outs c (Proc.devRef .tc b))
    ((Win.dat a3 (V9 m outs) c).arrAt · (cfg3 a3).N) (arr3 h c)
    (fun b hb => Function.update_of_ne (StableHlo.devRef_ne_of_ne fun e => hb (Finset.mem_image.mpr ⟨15, Finset.mem_univ _, e.symm⟩)) _ _)
  rw [Pipeline.unscopedBufs_held (Ix := Unit) (Name := ℕ) (U := UR sig nD τ) (Lvl := ℕ) c (V10 m outs c)] at hs
  have ht : (Pipeline.unscopedRest spec3 c (fun b => V9 m outs c (Proc.devRef .tc b)) : sProp 𝕄)
      = iprop(Pipeline.prefHeld pre3 c (fun _ => fullShare) a3.1 ∗ rest3 m outs c) := by
    rw [show a3.1 = fun k => V9 m outs c (Proc.devRef .tc (pre3.ref k)) from funext (h.t3 c)]
    exact Pipeline.unscopedRest_split preFacts3 c _
  show iprop((Win.dat a3 (V9 m outs) c).arrays ((Win.dat a3 (V9 m outs) c).arrAt · (cfg3 a3).N) ∗ Pipeline.prefHeld pre3 c (fun _ => fullShare) a3.1 ∗ none' c ∗ rest3 m outs c ∗ E c) ⊢ _
  iintro ⟨Ha, Ht, -, Hr, HE⟩
  isplitr [HE]
  · iapply hs
    isplitl [Ha]; · iexact Ha
    iapply (Entails.of_eq ht.symm)
    isplitl [Ht] <;> iassumption
  iexact HE

end

/-! ## The run -/

variable (m : (ℓ : Loc nD τ sig) → Buf (Elt F) ℓ) (ρ : Dev nD → PrngReg)

set_option backward.isDefEq.respectTransparency.types false in
/-- From any memory with zero counters every weakly fair execution of the program terminates; in every final state every buffer a
    TensorCore keeps holds what the last valuation says, and every semaphore counter reads zero. -/
theorem run {outs : Outs (F := F)} {a3 a4} (h : Leaves m outs a3 a4) :
    θ_run defs (onTc (τ := τ) (main (F := F))) ⟨m, fun _ => 0, ρ⟩ (fun r => (∀ c : Dev nD, ∀ b ∈ Pipeline.ucRefs τ sig,
      r.2.mem ((c.tc : Thread nD τ).1, b) = V15 m outs c b) ∧ r.2.sem = fun _ => 0) := by
  obtain ⟨R0, pre0, post0⟩ := seg0 h
  obtain ⟨R1, pre1, post1⟩ := seg1 h
  obtain ⟨R2, pre2, post2⟩ := seg2 h
  obtain ⟨R4, pre4, post4⟩ := seg4 h
  obtain ⟨R5, pre5, post5⟩ := seg5 h
  refine Pipeline.θ_run_regions_kit_dev_sems (pcfgs (F := F)) (adm a3 a4) (pdats m outs a3 a4) () (cellOf_inj (adm a3 a4)) emb₁ defs₀ Variants.none L lv m ρ main
    (segs m outs Variants.none L lv (fun _ => E) () (adm a3 a4) (pdats m outs a3 a4) R0 R1 R2 (reg3 h) R4 R5)
    (fun c Q => by
      rewrite [main_chain c, Seg.run_eq_chain,
        show (segs m outs Variants.none L lv (fun _ => E) () (adm a3 a4) (pdats m outs a3 a4) R0 R1 R2 (reg3 h) R4 R5 c).map Seg.prog = [
          Prog.lift (.customCall (Pipeline.entry 0) ()), StableHlo.seq hostOps1, StableHlo.seq hostOps1_1, StableHlo.seq hostOps1_2,
          StableHlo.seq hostOps1_3, StableHlo.seq hostOps1_4, Prog.lift (.customCall (Pipeline.entry 1) ()),
          Prog.lift (.customCall (Pipeline.entry 2) ()), StableHlo.seq hostOps3, Prog.lift (.customCall (Pipeline.entry 3) ()),
          StableHlo.seq hostOps4, Prog.lift (.customCall (Pipeline.entry 4) ()), StableHlo.seq hostOps5,
          Prog.lift (.customCall (Pipeline.entry 5) ()), StableHlo.seq hostOps6 ] from rfl]
      dsimp (config := { failIfUnchanged := false }) only
      exact .rfl)
    (fun c => by simp only [segs, Seg.pipes_host, Seg.pipes_region, Seg.pipes_nil]; decide) 0
    (fun g hg => if_neg hg) (fun _ => iprop(emp))
    (initOf (Pipeline.cells (Pipeline.pin (pcfgs (F := F)) (adm a3 a4)) (cellOf_inj (adm a3 a4))) (Pipeline.launchToks (Pipeline.pin (pcfgs (F := F)) (adm a3 a4)) (cellOf_inj (adm a3 a4))))
    ?_
    (T₀ := fun c => Hd (V0 m) c)
    (Tₙ := fun c => StableHlo.held (c : Thread nD τ) (Pipeline.ucRefs τ sig) (V15 m outs c))
    (hch := fun c => ⟨pre0 c, post0 c, .rfl, .rfl, .rfl, .rfl, pre1 c, (post1 c).trans (pre2 c), post2 c, pre3' h c, post3 h c, pre4 c, post4 c, pre5 c, post5 c, .rfl⟩)
    (hinit := ?_) (QY := fun c s => ∀ b ∈ Pipeline.ucRefs τ sig, s.mem ((c.tc : Thread nD τ).1, b) = V15 m outs c b)
    (hfin := fun c s' => ?_) (hQ := fun _ h hz => ⟨h, funext fun g => hz g (.inr (regions_no_unscoped g.2))⟩)
  · iintro Hu; imodintro
    isplitl [Hu]
    · iapply (show (ownU (initOf (Pipeline.cells (Pipeline.pin (pcfgs (F := F)) (adm a3 a4)) (cellOf_inj (adm a3 a4))) (Pipeline.launchToks (Pipeline.pin (pcfgs (F := F)) (adm a3 a4)) (cellOf_inj (adm a3 a4)))) : sProp 𝕄)
        ⊢ BI.own (emb₁ (initOf (Pipeline.cells (Pipeline.pin (pcfgs (F := F)) (adm a3 a4)) (cellOf_inj (adm a3 a4))) (Pipeline.launchToks (Pipeline.pin (pcfgs (F := F)) (adm a3 a4)) (cellOf_inj (adm a3 a4))))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    imodintro; iexact Hr

/-- A TensorCore's unscoped reference is one of the buffers it keeps. -/
theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- Every argument ends as launched, and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_mono (run m ρ (leaves m)) fun r h => ⟨fun c => ⟨(h.1 c _ (mem_uc main_arg0 (by decide))).trans (V15_main_arg0 m (Run.outs m) c),
    (h.1 c _ (mem_uc main_arg1 (by decide))).trans (V15_main_arg1 m (Run.outs m) c),
    (h.1 c _ (mem_uc main_arg2 (by decide))).trans (V15_main_arg2 m (Run.outs m) c),
    (h.1 c _ (mem_uc main_arg3 (by decide))).trans (V15_main_arg3 m (Run.outs m) c),
    (h.1 c _ (mem_uc main_arg4 (by decide))).trans (V15_main_arg4 m (Run.outs m) c),
    (h.1 c _ (mem_uc main_arg5 (by decide))).trans (V15_main_arg5 m (Run.outs m) c),
    (h.1 c _ (mem_uc main_arg6 (by decide))).trans (V15_main_arg6 m (Run.outs m) c),
    (h.1 c _ (mem_uc main_arg7 (by decide))).trans (V15_main_arg7 m (Run.outs m) c),
    (h.1 c _ (mem_uc main_arg8 (by decide))).trans (V15_main_arg8 m (Run.outs m) c),
    (h.1 c _ (mem_uc main_arg9 (by decide))).trans (V15_main_arg9 m (Run.outs m) c),
    (h.1 c _ (mem_uc main_arg10 (by decide))).trans (V15_main_arg10 m (Run.outs m) c),
    (h.1 c _ (mem_uc main_arg11 (by decide))).trans (V15_main_arg11 m (Run.outs m) c)⟩, h.2⟩

end Cert.KernelIdeal.Run

end
-- ==== Proof.Val.Spec.lean ====
/- The mathematics of the problem on plain indices: one window through the attentions and the linear layers, and the real-number facts its masking needs. -/
module

public import Idealize.ShloMosaic.Lib.Pointwise

@[expose] public section

noncomputable section

namespace Cert.Spec

open Idealize.ShloMosaic
open scoped BigOperators

/-- The attentions' scale, the activation's inner factor and its outer one, as the programs print them. -/
def scale : EReal := Ideal.ofBits .f32 0x3D5105EC#32
def root : EReal := Ideal.ofBits .f32 0x3F3504F3#32
def half : EReal := Ideal.ofBits .f32 0x3F000000#32

/-- A matrix of extended reals. -/
abbrev Mat (m n : ℕ) := Fin m → Fin n → EReal

/-- The matrix product. -/
def mm {m k n : ℕ} (x : Mat m k) (w : Mat k n) : Mat m n := fun r c => ∑ j, x r j * w j c
/-- The greatest of a row. -/
def top {n : ℕ} (l : Fin n → EReal) : EReal := Finset.univ.fold max ⊥ l
/-- The weights of a row of scores. -/
def soft {n : ℕ} (l : Fin n → EReal) : Fin n → EReal := fun c =>
  Ideal.div (Ideal.exp (l c - top l)) (∑ k, Ideal.exp (l k - top l))
/-- The activation, by the error function. -/
def gelu (x : EReal) : EReal := half * x * (1 + Ideal.erf (x * root))
/-- The scores of the queries against the keys. -/
def score {m n d : ℕ} (q : Mat m d) (k : Mat n d) : Mat m n := fun r t => (∑ e, q r e * k t e) * scale
/-- Attention of queries against keys and values. -/
def attn {m n d e : ℕ} (q : Mat m d) (k : Mat n d) (v : Mat n e) : Mat m e := fun r c => ∑ t, soft (score q k r) t * v t c
/-- A window plus its attention against the pooled tokens. -/
def glob (x : Mat 64 384) (wq : Mat 384 384) (k v : Mat 64 384) : Mat 64 384 := fun r c => x r c + attn (mm x wq) k v r c
/-- A window plus its activated linear layer. -/
def lin (x : Mat 64 384) (w : Mat 384 384) (b : Fin 384 → EReal) : Mat 64 384 := fun r c => x r c + gelu (mm x w r c + b c)
/-- The columns that make the queries, those that make the keys and those that make the values. -/
def qcols (w : Mat 384 1152) : Mat 384 384 := fun r c => w r ⟨c, by omega⟩
def kcols (w : Mat 384 1152) : Mat 384 384 := fun r c => w r ⟨384 + c, by omega⟩
def vcols (w : Mat 384 1152) : Mat 384 384 := fun r c => w r ⟨768 + c, by omega⟩
/-- A window plus its attention to itself, read channel by channel: row `r`, column `c` gets channel `6 r + c / 64` at position `c % 64`. -/
def loc (x : Mat 64 384) (w : Mat 384 1152) : Mat 64 384 := fun r c =>
  x r c + attn (mm x (qcols w)) (mm x (kcols w)) (mm x (vcols w)) ⟨(c : ℕ) % 64, by omega⟩ ⟨6 * (r : ℕ) + (c : ℕ) / 64, by omega⟩
/-- The whole window. -/
def window (x : Mat 64 384) (wq : Mat 384 384) (k v : Mat 64 384) (w0 : Mat 384 384) (b0 : Fin 384 → EReal) (q0 : Mat 384 1152)
    (w1 : Mat 384 384) (b1 : Fin 384 → EReal) (q1 : Mat 384 1152) (wp : Mat 384 384) (bp : Fin 384 → EReal) : Mat 64 384 :=
  lin (loc (lin (loc (lin (glob x wq k v) w0 b0) q0) w1 b1) q1) wp bp

/-- The windows of a map: 28 × 28 of them, 8 × 8 each; window `w`'s pixels as rows, its channels as columns. -/
def tile (X : Fin 2 → Fin 384 → Fin 224 → Fin 224 → EReal) (b : Fin 2) (w : Fin 784) : Mat 64 384 := fun r c =>
  X b c ⟨8 * ((w : ℕ) / 28) + (r : ℕ) / 8, by omega⟩ ⟨8 * ((w : ℕ) % 28) + (r : ℕ) % 8, by omega⟩
/-- The map averaged over an 8 × 8 grid of areas, 28 × 28 pixels each. -/
def pooled (X : Fin 2 → Fin 384 → Fin 224 → Fin 224 → EReal) (b : Fin 2) : Mat 64 384 := fun t d =>
  (∑ h : Fin 28, ∑ l : Fin 28, X b d ⟨28 * ((t : ℕ) / 8) + h, by omega⟩ ⟨28 * ((t : ℕ) % 8) + l, by omega⟩) * ((784⁻¹ : ℝ) : EReal)
/-- The keys and the values of the pooled map. -/
def keys (X : Fin 2 → Fin 384 → Fin 224 → Fin 224 → EReal) (wkv : Mat 384 768) (b : Fin 2) : Mat 64 384 := fun t d =>
  mm (pooled X b) wkv t ⟨d, by omega⟩
def vals (X : Fin 2 → Fin 384 → Fin 224 → Fin 224 → EReal) (wkv : Mat 384 768) (b : Fin 2) : Mat 64 384 := fun t d =>
  mm (pooled X b) wkv t ⟨384 + d, by omega⟩
/-- A window's score: the sum of the second map over it. -/
def area (U : Fin 2 → Fin 224 → Fin 224 → EReal) (b : Fin 2) (w : Fin 784) : EReal :=
  ∑ p : Fin 8, ∑ q : Fin 8, U b ⟨8 * ((w : ℕ) / 28) + p, by omega⟩ ⟨8 * ((w : ℕ) % 28) + q, by omega⟩

/-! ### Finite values -/

/-- An extended real that is a real. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, rfl⟩
theorem IsReal.one : IsReal 1 := ⟨1, rfl⟩
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih
theorem IsReal.exp {x : EReal} : IsReal x → IsReal (Ideal.exp x) := by
  rintro ⟨a, rfl⟩; exact ⟨_, rfl⟩
theorem IsReal.erf {x : EReal} : IsReal x → IsReal (Ideal.erf x) := by
  rintro ⟨a, rfl⟩; exact ⟨_, rfl⟩
theorem IsReal.div {x y : EReal} (hx : IsReal x) : IsReal y → y ≠ 0 → IsReal (Ideal.div x y) := by
  rintro ⟨a, rfl⟩ h
  rw [Ideal.div_coe (by exact_mod_cast h)]
  exact hx.mul ⟨_, rfl⟩

theorem isReal_scale : IsReal scale := ⟨_, by
  unfold scale Ideal.ofBits Ideal.ieee; simp only []; rw [if_neg (by decide), if_neg (by decide)]⟩
theorem isReal_root : IsReal root := ⟨_, by
  unfold root Ideal.ofBits Ideal.ieee; simp only []; rw [if_neg (by decide), if_neg (by decide)]⟩
theorem isReal_half : IsReal half := ⟨_, by
  unfold half Ideal.ofBits Ideal.ieee; simp only []; rw [if_neg (by decide), if_neg (by decide)]⟩

theorem le_top {n : ℕ} (l : Fin n → EReal) (c : Fin n) : l c ≤ top l :=
  (Finset.le_fold_max (l c)).2 (Or.inr ⟨c, Finset.mem_univ _, le_rfl⟩)

theorem top_le {n : ℕ} (l : Fin n → EReal) (b : EReal) (h : ∀ c, l c ≤ b) : top l ≤ b :=
  (Finset.fold_max_le b).2 ⟨bot_le, fun c _ => h c⟩

/-- The greatest of a nonempty row of reals is a real. -/
theorem isReal_top {n : ℕ} (c : Fin n) (l : Fin n → EReal) (h : ∀ c, IsReal (l c)) : IsReal (top l) := by
  have hb : top l ≠ ⊥ := fun e => by
    obtain ⟨a, ha⟩ := h c
    have := le_top l c
    rw [e, ha] at this
    exact absurd (le_bot_iff.1 this) (EReal.coe_ne_bot a)
  have ht : top l ≠ ⊤ := by
    refine ne_of_lt ((Finset.fold_max_lt ⊤).2 ⟨bot_lt_top, fun c _ => ?_⟩)
    obtain ⟨a, ha⟩ := h c
    rw [ha]; exact EReal.coe_lt_top a
  exact ⟨(top l).toReal, (EReal.coe_toReal ht hb).symm⟩

/-- The weights' sum is not zero. -/
theorem sum_exp_pos {n : ℕ} (c : Fin n) (l : Fin n → EReal) (m : EReal) (hm : IsReal m) (h : ∀ c, IsReal (l c)) :
    (∑ k, Ideal.exp (l k - m)) ≠ 0 := by
  have hn : ∀ k, 0 < Ideal.exp (l k - m) := fun k => by
    obtain ⟨a, ha⟩ := (h k).sub hm
    rw [ha, Ideal.exp_coe]; exact_mod_cast Real.exp_pos a
  refine ne_of_gt (lt_of_lt_of_le (hn c) ?_)
  exact Finset.single_le_sum (f := fun k => Ideal.exp (l k - m)) (fun k _ => (hn k).le) (Finset.mem_univ c)

theorem isReal_soft {n : ℕ} (l : Fin n → EReal) (h : ∀ c, IsReal (l c)) (c : Fin n) : IsReal (soft l c) :=
  (((h c).sub (isReal_top c l h)).exp).div (IsReal.sum _ _ fun k => ((h k).sub (isReal_top c l h)).exp) (sum_exp_pos c l _ (isReal_top c l h) h)

/-- A matrix of reals. -/
def RealMat {m n : ℕ} (x : Mat m n) : Prop := ∀ r c, IsReal (x r c)

theorem RealMat.mm {m k n : ℕ} {x : Mat m k} {w : Mat k n} (hx : RealMat x) (hw : RealMat w) : RealMat (mm x w) :=
  fun r c => IsReal.sum _ _ fun j => (hx r j).mul (hw j c)
theorem RealMat.score {m n d : ℕ} {q : Mat m d} {k : Mat n d} (hq : RealMat q) (hk : RealMat k) : RealMat (score q k) :=
  fun r t => (IsReal.sum _ _ fun e => (hq r e).mul (hk t e)).mul isReal_scale
theorem RealMat.attn {m n d e : ℕ} {q : Mat m d} {k : Mat n d} {v : Mat n e} (hq : RealMat q) (hk : RealMat k) (hv : RealMat v) :
    RealMat (attn q k v) :=
  fun r c => IsReal.sum _ _ fun t => (isReal_soft _ (fun t => hq.score hk r t) t).mul (hv t c)
theorem isReal_gelu {x : EReal} (h : IsReal x) : IsReal (gelu x) :=
  (isReal_half.mul h).mul (IsReal.one.add (h.mul isReal_root).erf)
theorem RealMat.glob {x : Mat 64 384} {wq : Mat 384 384} {k v : Mat 64 384} (hx : RealMat x) (hw : RealMat wq) (hk : RealMat k)
    (hv : RealMat v) : RealMat (glob x wq k v) := fun r c => (hx r c).add ((hx.mm hw).attn hk hv r c)
theorem RealMat.lin {x : Mat 64 384} {w : Mat 384 384} {b : Fin 384 → EReal} (hx : RealMat x) (hw : RealMat w) (hb : ∀ c, IsReal (b c)) :
    RealMat (lin x w b) := fun r c => (hx r c).add (isReal_gelu ((hx.mm hw r c).add (hb c)))
theorem RealMat.loc {x : Mat 64 384} {w : Mat 384 1152} (hx : RealMat x) (hw : RealMat w) : RealMat (loc x w) :=
  fun r c => (hx r c).add ((hx.mm fun r c => hw r _).attn (hx.mm fun r c => hw r _) (hx.mm fun r c => hw r _) _ _)

/-! ### Five windows at once, each kept to itself by a mask -/

/-- Row `r` of window `g` among the five. -/
def at5 (g : Fin 5) (r : Fin 64) : Fin 320 := ⟨64 * (g : ℕ) + r, by omega⟩

theorem sum_at5 (f : Fin 320 → EReal) (g : Fin 5) (h : ∀ j : Fin 320, (j : ℕ) / 64 ≠ g → f j = 0) : ∑ j, f j = ∑ t, f (at5 g t) := by
  have hi : Function.Injective (at5 g) := fun a b e => by
    have := congrArg Fin.val e; simp only [at5] at this; exact Fin.ext (by omega)
  rw [← Finset.sum_image (s := Finset.univ) (g := at5 g) (f := f) (fun a _ b _ e => hi e)]
  refine (Finset.sum_subset (Finset.subset_univ _) fun j _ hj => h j fun e => hj ?_).symm
  refine Finset.mem_image.2 ⟨⟨(j : ℕ) % 64, by omega⟩, Finset.mem_univ _, Fin.ext ?_⟩
  simp only [at5]; omega

/-- A masked row of 320 scores has, on its own window, the weights of the window's own row. -/
theorem masked_row (L : Fin 320 → EReal) (g : Fin 5) (l : Fin 64 → EReal) (hl : ∀ t, IsReal (l t)) (hin : ∀ t, L (at5 g t) = l t)
    (hout : ∀ j : Fin 320, (j : ℕ) / 64 ≠ g → L j = ⊥) (v : Fin 320 → EReal) :
    ∑ j, v j * soft L j = ∑ t, soft l t * v (at5 g t) := by
  have htop : top L = top l := by
    refine le_antisymm (top_le _ _ fun j => ?_) (top_le _ _ fun t => (hin t) ▸ le_top L _)
    by_cases h : (j : ℕ) / 64 = g
    · have : j = at5 g ⟨(j : ℕ) % 64, by omega⟩ := Fin.ext (by simp only [at5]; omega)
      rw [this, hin]; exact le_top l _
    · rw [hout j h]; exact bot_le
  have hm : IsReal (top l) := isReal_top 0 l hl
  have hexp : ∀ j : Fin 320, (j : ℕ) / 64 ≠ g → Ideal.exp (L j - top l) = 0 := fun j h => by
    rw [hout j h, EReal.bot_sub]; rfl
  have hsum : (∑ j, Ideal.exp (L j - top l)) = ∑ t, Ideal.exp (l t - top l) := by
    rw [sum_at5 _ g hexp]; exact Finset.sum_congr rfl fun t _ => by rw [hin]
  have hne := sum_exp_pos 0 l _ hm hl
  rw [sum_at5 _ g fun j h => ?_]
  · refine Finset.sum_congr rfl fun t _ => ?_
    simp only [soft]
    rw [htop, hsum, hin, mul_comm]
  · simp only [soft]
    rw [htop, hsum, hexp j h, Ideal.div, if_neg hne, zero_mul, mul_zero]

/-- A row of a selection matrix picks one entry. -/
theorem pick {n : ℕ} (p : Fin n) (s f : Fin n → EReal) (h1 : s p = 1) (h0 : ∀ k, k ≠ p → s k = 0) : ∑ k, s k * f k = f p := by
  rw [Finset.sum_eq_single p (fun k _ hk => by rw [h0 k hk, zero_mul]) (fun h => absurd (Finset.mem_univ _) h), h1, one_mul]

/-- The printed minus infinity. -/
theorem neg_inf : Ideal.ofBits .f32 0xFF800000#32 = ⊥ := by
  unfold Ideal.ofBits Ideal.ieee; simp only []; rw [if_pos (by decide), if_pos (by decide), if_pos (by decide)]

/-- The activation as the reference prints it, by the complementary error function. -/
theorem gelu_erfc (x : EReal) : half * x * Ideal.erfc (-x * root) = gelu x := by
  rw [EReal.neg_mul, Ideal.erfc_neg]; rfl

end Cert.Spec
-- ==== Proof.Val.Words.lean ====
/- The numbers that some float words stand for. -/
module

public import Idealize.ShloMosaic.PureOps.Ideal
public import Idealize.ShloMosaic.Lib.Pointwise

@[expose] public section

noncomputable section

namespace Cert.Spec

open Idealize.ShloMosaic

/-- A positive normal number's word, from its exponent and its fraction. -/
theorem bits_pos (b : BitVec 32) (e f : ℕ) (h : (b.extractLsb' 31 1 == 1#1) = false) (he : (b.extractLsb' 23 8).toNat = e)
    (hf : (b.extractLsb' 0 23).toNat = f) (h1 : e ≠ 255) (h0 : e ≠ 0) :
    Ideal.ofBits .f32 b = ((((2 ^ 23 + f : ℕ) : ℝ) * (2 : ℝ) ^ ((e : ℤ) - 127 - 23) : ℝ) : EReal) := by
  subst he hf
  unfold Ideal.ofBits Ideal.ieee
  simp only [h]
  rw [if_neg (show ¬ _ = 2 ^ 8 - 1 from h1), if_neg h0]
  norm_num

theorem bits_784 : Ideal.ofBits .f32 0x44440000#32 = ((784 : ℝ) : EReal) :=
  (bits_pos _ 136 4456448 (by decide) (by decide) (by decide) (by decide) (by decide)).trans (congrArg _ (by norm_num [zpow_neg]))

theorem bits_64 : Ideal.ofBits .f32 0x42800000#32 = ((64 : ℝ) : EReal) :=
  (bits_pos _ 133 0 (by decide) (by decide) (by decide) (by decide) (by decide)).trans (congrArg _ (by norm_num [zpow_neg]))

theorem pos_inf : Ideal.ofBits .f32 0x7F800000#32 = ⊤ := by
  unfold Ideal.ofBits Ideal.ieee; simp only []; rw [if_pos (by decide), if_pos (by decide), if_neg (by decide)]

/-- Division by 64 keeps the order. -/
theorem div_64_lt (x y : EReal) : Ideal.div x (Ideal.ofBits .f32 0x42800000#32) < Ideal.div y (Ideal.ofBits .f32 0x42800000#32) ↔ x < y := by
  rw [bits_64]
  unfold Ideal.div
  rw [if_neg (by norm_num), if_neg (by norm_num)]
  exact (EReal.strictMono_div_right_of_pos (b := ((64 : ℝ) : EReal)) (by norm_num) (EReal.coe_ne_top _)).lt_iff_lt

end Cert.Spec

end
-- ==== Proof.Val.Finite.lean ====
/- What the precondition says: every entry of the arrays it names is a real number. -/
module

public import proofs.«01_k».proof.Pre_finite
public import proofs.«01_k».proof.Proof.Val.Spec
public import proofs.«01_k».proof.Proof.Val.Words
public import Idealize.ShloMosaic.Lib.ReduceAll

@[expose] public section

set_option maxRecDepth 16384

noncomputable section

namespace Cert.Pre_finite

open Idealize.ShloMosaic
open Cert.Spec (IsReal)

/-- The facts about the shapes. -/
theorem facts : Facts where
  bcast_S_S2x384x224x224 := by decide
  reducesTo_S2x384x224x224_S_d0_1_2_3 := by decide
  h_S_ := by decide
  bcast_S_S384x384 := by decide
  reducesTo_S384x384_S_d0_1 := by decide
  bcast_S_S384x768 := by decide
  reducesTo_S384x768_S_d0_1 := by decide
  bcast_S_S384 := by decide
  reducesTo_S384_S_d0 := by decide
  bcast_S_S384x1152 := by decide
  reducesTo_S384x1152_S_d0_1 := by decide

theorem real_of_lt {x : EReal} (h : max x (-x) < ⊤) : IsReal x := by
  induction x with
  | bot => simp at h
  | top => simp at h
  | coe r => exact ⟨r, rfl⟩

/-- One array's part of the condition. -/
def within {s : Shape} {axes : List (Fin s.rank)} (hb : S_.BroadcastsInDim s (![] : Fin 0 → Fin s.rank)) (hr : s.ReducesTo axes S_) (hu : 0 < S_.numel)
    (x : FVec Ideal s .f32) : IVec S_ 1 :=
  Host.reduce IntOp.andi (cmpf .olt (Host.absf x) (broadcastInDim s ![] hb (constant S_ .f32 0x7F800000#32))) (constantI S_ 1 1#1) hr hu

theorem within_real {s : Shape} {axes : List (Fin s.rank)} (hb : S_.BroadcastsInDim s (![] : Fin 0 → Fin s.rank)) (hr : s.ReducesTo axes S_) (hu : 0 < S_.numel)
    (x : FVec Ideal s .f32) (j : S_.Idx) (h : within hb hr hu x j = 1#1) (i : s.Idx) : IsReal (x i) := by
  haveI : Subsingleton S_.Idx := ⟨fun a b => funext fun k => k.elim0⟩
  have e : BitVec.ofBool (decide (max (x i) (-(x i)) < Ideal.ofBits .f32 0x7F800000#32)) = 1#1 := Host.reduce_andi_all _ _ hr hu j h i
  rw [Cert.Spec.pos_inf] at e
  refine real_of_lt ?_
  by_contra hc
  rw [decide_eq_false hc] at e
  exact absurd e (by decide)

theorem both {a b : IVec S_ 1} {j : S_.Idx} (h : andi a b j = 1#1) : a j = 1#1 ∧ b j = 1#1 := IntOp.andi_eq_one.1 h

variable [Facts]
open Facts

/-- The whole condition, array by array. -/
theorem fn_eq (x0 : FVec Ideal S2x384x224x224 .f32) (x1 : FVec Ideal S2x224x224 .f32) (x2 : FVec Ideal S384x384 .f32) (x3 : FVec Ideal S384x768 .f32)
    (x4 : FVec Ideal S384x384 .f32) (x5 : FVec Ideal S384 .f32) (x6 : FVec Ideal S384x1152 .f32) (x7 : FVec Ideal S384x384 .f32) (x8 : FVec Ideal S384 .f32)
    (x9 : FVec Ideal S384x1152 .f32) (x10 : FVec Ideal S384x384 .f32) (x11 : FVec Ideal S384 .f32) :
    fn (F := Ideal) x0 x1 x2 x3 x4 x5 x6 x7 x8 x9 x10 x11
      = andi (andi (andi (andi (andi (andi (andi (andi (within bcast_S_S2x384x224x224 reducesTo_S2x384x224x224_S_d0_1_2_3 h_S_ x0)
        (within bcast_S_S384x384 reducesTo_S384x384_S_d0_1 h_S_ x2)) (within bcast_S_S384x768 reducesTo_S384x768_S_d0_1 h_S_ x3))
        (within bcast_S_S384x384 reducesTo_S384x384_S_d0_1 h_S_ x4)) (within bcast_S_S384 reducesTo_S384_S_d0 h_S_ x5))
        (within bcast_S_S384x1152 reducesTo_S384x1152_S_d0_1 h_S_ x6)) (within bcast_S_S384x384 reducesTo_S384x384_S_d0_1 h_S_ x7))
        (within bcast_S_S384 reducesTo_S384_S_d0 h_S_ x8)) (within bcast_S_S384x1152 reducesTo_S384x1152_S_d0_1 h_S_ x9) := rfl

theorem reals (x0 : FVec Ideal S2x384x224x224 .f32) (x1 : FVec Ideal S2x224x224 .f32) (x2 : FVec Ideal S384x384 .f32) (x3 : FVec Ideal S384x768 .f32)
    (x4 : FVec Ideal S384x384 .f32) (x5 : FVec Ideal S384 .f32) (x6 : FVec Ideal S384x1152 .f32) (x7 : FVec Ideal S384x384 .f32) (x8 : FVec Ideal S384 .f32)
    (x9 : FVec Ideal S384x1152 .f32) (x10 : FVec Ideal S384x384 .f32) (x11 : FVec Ideal S384 .f32)
    (h : fn (F := Ideal) x0 x1 x2 x3 x4 x5 x6 x7 x8 x9 x10 x11 = fun _ => 1#1) :
    (∀ i, IsReal (x0 i)) ∧ (∀ i, IsReal (x2 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) := by
  have e := congrFun ((fn_eq x0 x1 x2 x3 x4 x5 x6 x7 x8 x9 x10 x11).symm.trans h) (Shape.Idx.first h_S_)
  obtain ⟨e, h9⟩ := both e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨h0, h2⟩ := both e
  exact ⟨within_real _ _ _ _ _ h0, within_real _ _ _ _ _ h2, within_real _ _ _ _ _ h3, within_real _ _ _ _ _ h4, within_real _ _ _ _ _ h5,
    within_real _ _ _ _ _ h6, within_real _ _ _ _ _ h7, within_real _ _ _ _ _ h8, within_real _ _ _ _ _ h9⟩

end Cert.Pre_finite

end
-- ==== Proof.Val.Result.lean ====
/- The whole program's mathematics: the chosen windows computed, the rest of the map kept. -/
module

public import proofs.«01_k».proof.Proof.Val.Spec

@[expose] public section

noncomputable section

namespace Cert.Spec

open Idealize.ShloMosaic

/-- The window a pixel stands in, and its place there. -/
def winOf (h w : Fin 224) : Fin 784 := ⟨28 * ((h : ℕ) / 8) + (w : ℕ) / 8, by omega⟩
def pixOf (h w : Fin 224) : Fin 64 := ⟨8 * ((h : ℕ) % 8) + (w : ℕ) % 8, by omega⟩

theorem window_congr {x x' : Mat 64 384} {wq wq' : Mat 384 384} {k k' v v' : Mat 64 384} {w0 w0' : Mat 384 384} {b0 b0' : Fin 384 → EReal} {q0 q0' : Mat 384 1152}
    {w1 w1' : Mat 384 384} {b1 b1' : Fin 384 → EReal} {q1 q1' : Mat 384 1152} {wp wp' : Mat 384 384} {bp bp' : Fin 384 → EReal}
    (hx : x = x') (hwq : wq = wq') (hk : k = k') (hv : v = v') (hw0 : w0 = w0') (hb0 : b0 = b0') (hq0 : q0 = q0') (hw1 : w1 = w1') (hb1 : b1 = b1')
    (hq1 : q1 = q1') (hwp : wp = wp') (hbp : bp = bp') (r : Fin 64) (d : Fin 384) :
    window x wq k v w0 b0 q0 w1 b1 q1 wp bp r d = window x' wq' k' v' w0' b0' q0' w1' b1' q1' wp' bp' r d := by
  subst hx hwq hk hv hw0 hb0 hq0 hw1 hb1 hq1 hwp hbp
  rfl

/-- The map with its chosen windows, `ch b` of batch entry `b`, replaced by their computation. -/
def result (X : Fin 2 → Fin 384 → Fin 224 → Fin 224 → EReal) (ch : Fin 2 → Fin 235 → Fin 784) (wq : Mat 384 384) (wkv : Mat 384 768)
    (w0 : Mat 384 384) (b0 : Fin 384 → EReal) (q0 : Mat 384 1152) (w1 : Mat 384 384) (b1 : Fin 384 → EReal) (q1 : Mat 384 1152)
    (wp : Mat 384 384) (bp : Fin 384 → EReal) (b : Fin 2) (d : Fin 384) (h w : Fin 224) : EReal :=
  if ∃ k, ch b k = winOf h w then
    window (tile X b (winOf h w)) wq (keys X wkv b) (vals X wkv b) w0 b0 q0 w1 b1 q1 wp bp (pixOf h w) d
  else X b d h w

/-- The arrays as plain functions of their coordinates. -/
def img (a : FVec Ideal ⟨4, ![2, 384, 224, 224]⟩ .f32) : Fin 2 → Fin 384 → Fin 224 → Fin 224 → EReal := fun b d h w => a (ix4 b d h w)
def plane (a : FVec Ideal ⟨3, ![2, 224, 224]⟩ .f32) : Fin 2 → Fin 224 → Fin 224 → EReal := fun b h w => a (ix3 b h w)
def matOf {m n : ℕ} (a : FVec Ideal ⟨2, ![m, n]⟩ .f32) : Mat m n := fun r c => a (ix2 r c)
def vecOf {n : ℕ} (a : FVec Ideal ⟨1, ![n]⟩ .f32) : Fin n → EReal := fun c => a (ix1 c)

/-- Place `n` of the chosen windows, batch entry after batch entry. -/
def listed (ch : Fin 2 → Fin 235 → Fin 784) (n : Fin 470) : Fin 784 := ch ⟨(n : ℕ) / 235, by omega⟩ ⟨(n : ℕ) % 235, by omega⟩

theorem listed_inj {ch : Fin 2 → Fin 235 → Fin 784} (hc : ∀ b, Function.Injective (ch b)) (n n' : Fin 470) (h : (n : ℕ) / 235 = (n' : ℕ) / 235)
    (e : listed ch n = listed ch n') : n = n' := by
  have hb : (⟨(n : ℕ) / 235, by omega⟩ : Fin 2) = ⟨(n' : ℕ) / 235, by omega⟩ := Fin.ext h
  unfold listed at e
  rw [hb] at e
  have := congrArg Fin.val (hc _ e)
  simp only at this
  exact Fin.ext (by omega)

theorem listed_at (ch : Fin 2 → Fin 235 → Fin 784) (b : Fin 2) (k : Fin 235) : listed ch ⟨235 * (b : ℕ) + k, by omega⟩ = ch b k := by
  unfold listed
  exact congrArg₂ ch (Fin.ext (by simp only; omega)) (Fin.ext (by simp only; omega))

end Cert.Spec

end
-- ==== Proof.Val.Host.lean ====
/- The reshapes between the calls, read entry by entry. -/
module

public import proofs.«01_k».proof.Proof.KI.Leaves
public import proofs.«01_k».proof.Proof.Val.Spec
public import Idealize.ShloMosaic.Lib.Pipeline.ValueKit

@[expose] public section

set_option maxRecDepth 16384

noncomputable section

namespace Cert.KernelIdeal.Run.Host

open Idealize.ShloMosaic Idealize.ShloMosaic.TcCoe Idealize.ShloMosaic.Tactic
open Idealize.SL Idealize.SL.Sem
open Cert.KernelIdeal.Gen

variable (V : Valuation τ sig (Elt Ideal))

theorem v9_at (b : Fin 2) (d : Fin 384) (s : Fin 50176) : (StableHlo.after hostOps1_4 V (Proc.devRef .tc main_v9) : FVec Ideal S2x384x50176 .f32) (Idealize.ShloMosaic.ix3 b d s)
    = (V (Proc.devRef .tc main_arg0) : FVec Ideal S2x384x224x224 .f32) (Idealize.ShloMosaic.ix4 b d ⟨s / 224, by omega⟩ ⟨s % 224, by omega⟩) := by
  after_reads_at

theorem v12_at (b : Fin 2) (y : Fin 28) (p : Fin 8) (x : Fin 28) (q : Fin 8) (d : Fin 384) :
    (StableHlo.after hostOps3 V (Proc.devRef .tc main_v12) : FVec Ideal S2x28x8x28x8x384 .f32) (Idealize.ShloMosaic.ix6 b y p x q d)
    = (V (Proc.devRef .tc main_v10_0) : FVec Ideal S2x50176x384 .f32) (Idealize.ShloMosaic.ix3 b ⟨224 * (8 * y + p) + (8 * x + q), by omega⟩ d) := by
  after_reads_at
  blk_ext
theorem v13_at (j : S384x384.Idx) : (StableHlo.after hostOps3 V (Proc.devRef .tc main_v13) : FVec Ideal S384x384 .bf16) j
    = (V (Proc.devRef .tc main_arg2) : FVec Ideal S384x384 .f32) j := by
  after_reads_at
theorem v14_at (j : S384x384.Idx) : (StableHlo.after hostOps3 V (Proc.devRef .tc main_v14) : FVec Ideal S384x384 .bf16) j
    = (V (Proc.devRef .tc main_arg4) : FVec Ideal S384x384 .f32) j := by
  after_reads_at
theorem v16_at (j : S384x1152.Idx) : (StableHlo.after hostOps3 V (Proc.devRef .tc main_v16) : FVec Ideal S384x1152 .bf16) j
    = (V (Proc.devRef .tc main_arg6) : FVec Ideal S384x1152 .f32) j := by
  after_reads_at
theorem v17_at (j : S384x384.Idx) : (StableHlo.after hostOps3 V (Proc.devRef .tc main_v17) : FVec Ideal S384x384 .bf16) j
    = (V (Proc.devRef .tc main_arg7) : FVec Ideal S384x384 .f32) j := by
  after_reads_at
theorem v19_at (j : S384x1152.Idx) : (StableHlo.after hostOps3 V (Proc.devRef .tc main_v19) : FVec Ideal S384x1152 .bf16) j
    = (V (Proc.devRef .tc main_arg9) : FVec Ideal S384x1152 .f32) j := by
  after_reads_at
theorem v20_at (j : S384x384.Idx) : (StableHlo.after hostOps3 V (Proc.devRef .tc main_v20) : FVec Ideal S384x384 .bf16) j
    = (V (Proc.devRef .tc main_arg10) : FVec Ideal S384x384 .f32) j := by
  after_reads_at
theorem v18_at (d : Fin 384) : (StableHlo.after hostOps3 V (Proc.devRef .tc main_v18) : FVec Ideal S1x384 .f32) (ix2 0 d)
    = (V (Proc.devRef .tc main_arg8) : FVec Ideal S384 .f32) (ix1 d) := by
  after_reads_at
theorem v21_at (d : Fin 384) : (StableHlo.after hostOps3 V (Proc.devRef .tc main_v21) : FVec Ideal S1x384 .f32) (ix2 0 d)
    = (V (Proc.devRef .tc main_arg11) : FVec Ideal S384 .f32) (ix1 d) := by
  after_reads_at
theorem v15_at (d : Fin 384) : (StableHlo.after hostOps3 V (Proc.devRef .tc main_v15) : FVec Ideal S1x384 .f32) (ix2 0 d)
    = (V (Proc.devRef .tc main_arg5) : FVec Ideal S384 .f32) (ix1 d) := by
  after_reads_at

theorem v25_at (n : Fin 470) (p q : Fin 8) (d : Fin 384) :
    (StableHlo.after hostOps4 V (Proc.devRef .tc main_v25) : FVec Ideal S470x8x8x384 .f32) (Idealize.ShloMosaic.ix4 n p q d)
    = (V (Proc.devRef .tc main_v22) : FVec Ideal S94x320x384 .f32) (Idealize.ShloMosaic.ix3 ⟨n / 5, by omega⟩ ⟨64 * (n % 5) + (8 * p + q), by omega⟩ d) := by
  after_reads_at
  blk_ext
theorem plus_zero (x : FVec Ideal S2x28x8x28x8x384 .f32) (j : S2x28x8x28x8x384.Idx) :
    addf x (broadcastInDim S2x28x8x28x8x384 ![] bcast_S_S2x28x8x28x8x384 (constant S_ FTy.f32 0#32)) j = x j := by
  pointwise
theorem v26_at (j : S2x28x8x28x8x384.Idx) : (StableHlo.after hostOps4 V (Proc.devRef .tc main_v26) : FVec Ideal S2x28x8x28x8x384 .f32) j
    = (V (Proc.devRef .tc main_v12) : FVec Ideal S2x28x8x28x8x384 .f32) j := by
  after_reads_at
  exact plus_zero _ j

theorem v27_at (b : Fin 2) (h w : Fin 224) (d : Fin 384) :
    (StableHlo.after hostOps5 V (Proc.devRef .tc main_v27) : FVec Ideal S2x50176x384 .f32) (Idealize.ShloMosaic.ix3 b ⟨224 * h + w, by omega⟩ d)
    = (V (Proc.devRef .tc main_v26) : FVec Ideal S2x28x8x28x8x384 .f32)
      (Idealize.ShloMosaic.ix6 b ⟨h / 8, by omega⟩ ⟨h % 8, by omega⟩ ⟨w / 8, by omega⟩ ⟨w % 8, by omega⟩ d) := by
  after_reads_at
  blk_ext
theorem v29_at (b : Fin 2) (d : Fin 384) (h w : Fin 224) :
    (StableHlo.after hostOps6 V (Proc.devRef .tc main_v29) : FVec Ideal S2x384x224x224 .f32) (Idealize.ShloMosaic.ix4 b d h w)
    = (V (Proc.devRef .tc main_v28) : FVec Ideal S2x384x50176 .f32) (Idealize.ShloMosaic.ix3 b d ⟨224 * h + w, by omega⟩) := by
  after_reads_at
  blk_ext

end Cert.KernelIdeal.Run.Host

end
-- ==== Proof.Val.Calls.lean ====
/- What the first two calls leave: the windows' scores, the map with its channels last and its pooled sums; and what the last leaves. -/
module

public import proofs.«01_k».proof.Proof.KI.Reg0
public import proofs.«01_k».proof.Proof.KI.Reg1
public import proofs.«01_k».proof.Proof.KI.Reg5
public import proofs.«01_k».proof.Proof.Val.Spec
public import Idealize.ShloMosaic.Lib.Pipeline.ValueKit

@[expose] public section

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal.Gen
open scoped BigOperators

variable (W : Dev nD → Valuation τ sig (Elt Ideal)) (c : Dev nD)

namespace Score

theorem idx : ∀ t : Fin cfg0.N, win0_0.index t = ![t.val, 0, 0] ∧ win0_1.index t = ![t.val, 0, 0] := (by decide +kernel : ∀ t : Fin grid0.N, _)

/-- The scores: the second map summed over every window. -/
def REF (U : FVec Ideal S2x224x224 .f32) : FVec Ideal S2x28x28 .f32 := fun i =>
  ∑ p : Fin 8, ∑ q : Fin 8, U (Idealize.ShloMosaic.ix3 (i 0) ⟨8 * (i 1 : ℕ) + p, by have := (i 1).isLt; simp at this; omega⟩ ⟨8 * (i 2 : ℕ) + q, by have := (i 2).isLt; simp at this; omega⟩)

theorem point (t : Fin cfg0.N) (y) : k0_pay1 (F := Ideal) (iblk W c 0 t) y = REF (W c main_arg1) (((cfg0.win 1).blk t).view.emb y) := by
  pointwise [k0_pay1, REF]
  rw [Finset.sum_comm]
  blk_point [iblk, idx t]

theorem final : (dat W c).arrAt 1 cfg0.N = REF (W c main_arg1) := by
  refine (dat W c).arrAt_eq_of_covers 1 _ (by decide +kernel) fun t _ y => ?_
  blk_simp
  rw [after_1]
  exact point W c t y

end Score

namespace Pool

theorem idx : ∀ t : Fin cfg1.N, win1_0.index t = ![t.val / 24, t.val / 8 % 3, t.val % 8] ∧ win1_1.index t = ![t.val / 24, t.val % 8, t.val / 8 % 3]
    ∧ win1_2.index t = ![t.val / 24, t.val % 8, 0, t.val / 8 % 3] := (by decide +kernel : ∀ t : Fin grid1.N, _)

/-- The map with its channels last. -/
def REF (X : FVec Ideal S2x384x50176 .f32) : FVec Ideal S2x50176x384 .f32 := fun i => X (Idealize.ShloMosaic.ix3 (i 0) (i 2) (i 1))

/-- The map summed over the 8 × 8 areas. -/
def SUM (X : FVec Ideal S2x384x50176 .f32) : FVec Ideal S2x8x8x384 .f32 := fun i =>
  ∑ h : Fin 28, ∑ l : Fin 28, X (Idealize.ShloMosaic.ix3 (i 0) (i 3)
    ⟨6272 * (i 1 : ℕ) + 224 * h + 28 * (i 2 : ℕ) + l, by have := (i 1).isLt; have := (i 2).isLt; simp at *; omega⟩)

theorem point (t : Fin cfg1.N) (y) : k1_pay2 (F := Ideal) (iblk W c 0 t) y = REF (W c main_v9) (((cfg1.win 1).blk t).view.emb y) := by
  pointwise [k1_pay2, k1_pay1, REF]
  blk_point [iblk, idx t]

theorem final : (dat W c).arrAt 1 cfg1.N = REF (W c main_v9) := by
  refine (dat W c).arrAt_eq_of_covers 1 _ (by decide +kernel) fun t _ y => ?_
  blk_simp
  rw [after_1]
  exact point W c t y

theorem point2 (t : Fin cfg1.N) (y) : k1_pay3 (F := Ideal) (iblk W c 0 t) y = SUM (W c main_v9) (((cfg1.win 2).blk t).view.emb y) := by
  pointwise [k1_pay3, k1_pay1, SUM]
  rw [Finset.sum_comm]
  blk_point [iblk, idx t]

theorem final2 : (dat W c).arrAt 2 cfg1.N = SUM (W c main_v9) := by
  refine (dat W c).arrAt_eq_of_covers 2 _ (by decide +kernel) fun t _ y => ?_
  blk_simp
  rw [after_2]
  exact point2 W c t y

end Pool

namespace Back

theorem idx : ∀ t : Fin cfg5.N, win5_0.index t = ![t.val / 24, t.val % 8, t.val / 8 % 3] ∧ win5_1.index t = ![t.val / 24, t.val / 8 % 3, t.val % 8] :=
  (by decide +kernel : ∀ t : Fin grid5.N, _)

/-- The map with its channels before its pixels. -/
def REF (X : FVec Ideal S2x50176x384 .f32) : FVec Ideal S2x384x50176 .f32 := fun i => X (Idealize.ShloMosaic.ix3 (i 0) (i 2) (i 1))

theorem point (t : Fin cfg5.N) (y) : k5_pay1 (F := Ideal) (iblk W c 0 t) y = REF (W c main_v27) (((cfg5.win 1).blk t).view.emb y) := by
  pointwise [k5_pay1, REF]
  blk_point [iblk, idx t]

theorem final : (dat W c).arrAt 1 cfg5.N = REF (W c main_v27) := by
  refine (dat W c).arrAt_eq_of_covers 1 _ (by decide +kernel) fun t _ y => ?_
  blk_simp
  rw [after_1]
  exact point W c t y

end Back

end Cert.KernelIdeal.Run

end
-- ==== Proof.Val.Kv.lean ====
/- What the third call leaves: the keys and values of the pooled map. -/
module

public import proofs.«01_k».proof.Proof.KI.Reg2
public import proofs.«01_k».proof.Proof.Val.Spec
public import Idealize.ShloMosaic.Lib.Pipeline.ValueKit

@[expose] public section

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal.Gen
open scoped BigOperators

variable (W : Dev nD → Valuation τ sig (Elt Ideal)) (c : Dev nD)

namespace Kv

theorem idx : ∀ t : Fin cfg2.N, win2_0.index t = ![0, 0, 0, 0] ∧ win2_1.index t = ![0, 0] ∧ win2_2.index t = ![0, 0, 0] :=
  (by decide +kernel : ∀ t : Fin grid2.N, _)

/-- The pooled tokens' keys and values. -/
def REF (P : FVec Ideal S2x8x8x384 .f32) (wkv : FVec Ideal S384x768 .f32) : FVec Ideal S2x64x768 .f32 := fun i =>
  ∑ j : Fin 384, (P (Idealize.ShloMosaic.ix4 (i 0) ⟨(i 1 : ℕ) / 8, by have := (i 1).isLt; simp at *; omega⟩ ⟨(i 1 : ℕ) % 8, by omega⟩ j) * ((784⁻¹ : ℝ) : EReal)) * wkv (ix2 j (i 2))

theorem pool_named : (Named.named κ "pool_inv" (φ := .f32) 0x3AA72F05#32 : Ideal .f32) = ((784⁻¹ : ℝ) : EReal) := rfl

theorem canon_eq (x0 : Vec Ideal S2x8x8x384 .f32) (x1 : Vec Ideal S384x768 .f32) : out (F := Ideal) x0 x1 = REF x0 x1 := by
  funext i
  unfold out
  canon_tiles x h
  all_goals
    pointwise [k2_pay2, k2_pay3, k2_pay1, REF]
    rw [pool_named]
    blk_point []

theorem blk0 (t : Fin cfg2.N) : iblk W c 0 t = W c main_v10_1 := by blk_ext! [iblk, idx t]
theorem blk1 (t : Fin cfg2.N) : iblk W c 1 t = W c main_arg3 := by blk_ext! [iblk, idx t]

theorem final : (dat W c).arrAt 2 cfg2.N = REF (W c main_v10_1) (W c main_arg3) := by
  refine (dat W c).arrAt_eq_of_after_last 2 t2_0 (by decide +kernel) _ fun j => ?_
  blk_simp
  rw [after_2, canon_eq, blk0, blk1]

end Kv

end Cert.KernelIdeal.Run

end
-- ==== Proof.Val.Win.lean ====
/- The window call's arithmetic: each of the five windows of a group comes out as the mathematics says, on its own. -/
module

public import proofs.«01_k».proof.Proof.Val.Spec
public import proofs.«01_k».proof.Proof.KI.Reg3
public import Idealize.ShloMosaic.Lib.WordCmp

@[expose] public section

set_option maxRecDepth 16384

noncomputable section

namespace Cert.KernelIdeal.Run.Win

open Idealize.ShloMosaic Idealize.ShloMosaic.TcCoe
open Idealize.ShloMosaic.WordCmp (cmpi_eq_eq)
open Cert.KernelIdeal.Gen
open Cert.Spec (Mat IsReal RealMat at5)

/-- Window `g` of the five a group holds. -/
def grp {φ : FTy} (X : FVec Ideal S320x384 φ) (g : Fin 5) : Mat 64 384 := fun r c => X (ix2 (at5 g r) c)
/-- An array of two axes as a matrix. -/
def mat {m n : ℕ} {φ : FTy} (X : FVec Ideal ⟨2, ![m, n]⟩ φ) : Mat m n := fun r c => X (ix2 r c)
/-- A row vector. -/
def row {n : ℕ} {φ : FTy} (X : FVec Ideal ⟨2, ![1, n]⟩ φ) : Fin n → EReal := fun c => X (ix2 0 c)

/-- What the group is after the attention against the pooled tokens. -/
theorem glob_eq (x : FVec Ideal S320x384 .f32) (kv : FVec Ideal S1x64x768 .f32) (wq : FVec Ideal S384x384 .bf16) (g : Fin 5) :
    grp (glob x kv wq) g = Spec.glob (grp x g) (mat wq) (fun t d => kv (Idealize.ShloMosaic.ix3 0 t ⟨d, by omega⟩))
      (fun t d => kv (Idealize.ShloMosaic.ix3 0 t ⟨384 + d, by omega⟩)) := by
  funext r c
  show glob x kv wq (ix2 (at5 g r) c) = _
  pointwise [glob, k3_pay18, k3_pay4, k3_pay5, k3_pay3]
  rw [Spec.neg_inf]
  rfl

/-! ### The selection matrices -/

theorem sel_word (k : Fin 6) (r : Fin 64) (c : Fin 384) :
    (FloatOps.sitofp (F := Ideal) .f32 (BitVec.setWidth 32 (IntOp.cmpi .eq (BitVec.ofNat 32 (c : ℕ))
      (IntOp.addi (IntOp.muli 6#32 (BitVec.ofNat 32 (r : ℕ))) (BitVec.ofNat 32 (k : ℕ))))) : EReal)
      = if (c : ℕ) = 6 * (r : ℕ) + k then 1 else 0 := by
  have e : IntOp.addi (IntOp.muli 6#32 (BitVec.ofNat 32 (r : ℕ))) (BitVec.ofNat 32 (k : ℕ)) = BitVec.ofNat 32 (6 * (r : ℕ) + k) := by
    simp [IntOp.addi, IntOp.muli, BitVec.ofNat_add, BitVec.ofNat_mul]
  rw [e, cmpi_eq_eq]
  by_cases h : (c : ℕ) = 6 * (r : ℕ) + k
  · rw [if_pos h, h, decide_eq_true rfl]
    show ((_ : ℝ) : EReal) = 1
    simp
  · rw [if_neg h, decide_eq_false fun e => h ?_]
    · show ((_ : ℝ) : EReal) = 0
      simp
    · have := congrArg BitVec.toNat e
      simp only [BitVec.toNat_ofNat] at this
      omega

/-- A selection matrix has its ones at column `6 r + k`. -/
def IsSel (k : Fin 6) (s : FVec Ideal S64x384 .bf16) : Prop :=
  ∀ (r : Fin 64) (c : Fin 384), s (ix2 r c) = if (c : ℕ) = 6 * (r : ℕ) + k then 1 else 0

theorem isSel0 : IsSel 0 (sel0 (F := Ideal)) := fun r c => by
  pointwise [sel0, k3_pay7, k3_pay6, rowsI, colsI]; exact sel_word 0 r c
theorem isSel1 : IsSel 1 (sel1 (F := Ideal)) := fun r c => by
  pointwise [sel1, k3_pay8, rowsI, colsI]; exact sel_word 1 r c
theorem isSel2 : IsSel 2 (sel2 (F := Ideal)) := fun r c => by
  pointwise [sel2, k3_pay9, rowsI, colsI]; exact sel_word 2 r c
theorem isSel3 : IsSel 3 (sel3 (F := Ideal)) := fun r c => by
  pointwise [sel3, k3_pay10, rowsI, colsI]; exact sel_word 3 r c
theorem isSel4 : IsSel 4 (sel4 (F := Ideal)) := fun r c => by
  pointwise [sel4, k3_pay11, rowsI, colsI]; exact sel_word 4 r c
theorem isSel5 : IsSel 5 (sel5 (F := Ideal)) := fun r c => by
  pointwise [sel5, k3_pay12, rowsI, colsI]; exact sel_word 5 r c

/-- The channels of residue `k`, one per row. -/
def chan (s : FVec Ideal S64x384 .bf16) (T : FVec Ideal S384x320 .f32) : FVec Ideal S64x320 .f32 :=
  matmul dot_S64x384_S384x320_S64x320_1_0_0_1_n_n none s (truncf .bf16 T bitsLt_bf16_f32) (constant S64x320 .f32 0x00000000#32)

theorem chan_eq (k : Fin 6) (s : FVec Ideal S64x384 .bf16) (hs : IsSel k s) (T : FVec Ideal S384x320 .f32) (r : Fin 64) (p : Fin 320) :
    chan s T (ix2 r p) = T (ix2 ⟨6 * (r : ℕ) + k, by omega⟩ p) := by
  pointwise [chan]
  exact Spec.pick ⟨6 * (r : ℕ) + k, by omega⟩ (fun c => s (ix2 r c)) (fun c => T (ix2 c p)) (by rw [hs, if_pos rfl])
    fun c hc => by rw [hs, if_neg fun e => hc (Fin.ext e)]

/-! ### The mask -/

/-- The word of a row's window. -/
def floorWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem floorWord_eq : ∀ i : Fin 320, floorWord (BitVec.ofNat 32 (i : ℕ)) = BitVec.ofNat 32 ((i : ℕ) / 64) := by decide +kernel

theorem mask_named : (Named.named κ "mask" (φ := .f32) 0xF149F2CA#32 : Ideal .f32) = ⊥ := rfl

/-- The mask is zero inside a window and minus infinity outside. -/
theorem mask_eq (i j : Fin 320) : mask (F := Ideal) (ix2 i j) = if (j : ℕ) / 64 = (i : ℕ) / 64 then 0 else ⊥ := by
  pointwise [mask, k3_pay17, k3_pay13, k3_pay14, k3_pay15, k3_pay16]
  show Scalar.select (IntOp.cmpi .eq (floorWord _) (floorWord _)) (0 : EReal) (Named.named κ "mask" (φ := .f32) 0xF149F2CA#32 : Ideal .f32) = _
  rw [floorWord_eq, floorWord_eq, mask_named, cmpi_eq_eq]
  by_cases h : (j : ℕ) / 64 = (i : ℕ) / 64
  · rw [if_pos h, h, decide_eq_true rfl]; rfl
  · rw [if_neg h, decide_eq_false fun e => h ?_]
    · rfl
    · have := congrArg BitVec.toNat e
      simp only [BitVec.toNat_ofNat] at this
      omega

/-! ### The local attention -/

/-- Every entry of the five windows is a real. -/
def Real5 {φ : FTy} (y : FVec Ideal S320x384 φ) : Prop := ∀ g, RealMat (grp y g)

theorem att_eq (y : FVec Ideal S320x384 .bf16) (w : FVec Ideal S384x1152 .bf16) (hy : Real5 y) (hw : RealMat (mat w)) (g : Fin 5) (r : Fin 64) (d : Fin 384) :
    k3_pay34 mask y w (ix2 d (at5 g r))
      = Spec.attn (Spec.mm (grp y g) (Spec.qcols (mat w))) (Spec.mm (grp y g) (Spec.kcols (mat w))) (Spec.mm (grp y g) (Spec.vcols (mat w))) r d := by
  pointwise [k3_pay34]
  rw [Spec.neg_inf]
  have hmask := Spec.masked_row (fun j => (∑ e, Spec.mm (grp y g) (Spec.qcols (mat w)) r e * (∑ l, y (ix2 j l) * Spec.kcols (mat w) l e)) * Spec.scale + mask (F := Ideal) (ix2 (at5 g r) j)) g
    (Spec.score (Spec.mm (grp y g) (Spec.qcols (mat w))) (Spec.mm (grp y g) (Spec.kcols (mat w))) r)
    (fun t => RealMat.score ((hy g).mm fun r c => hw r _) ((hy g).mm fun r c => hw r _) r t)
    (fun t => by rw [mask_eq, if_pos (by simp only [at5]; omega), add_zero]; rfl)
    (fun j hj => by rw [mask_eq, if_neg (by simp only [at5]; omega), EReal.add_bot])
    (fun j => ∑ l, y (ix2 j l) * Spec.vcols (mat w) l d)
  simp only [Spec.soft, Spec.top, Spec.mm, Spec.qcols, Spec.kcols, Spec.vcols, Spec.score, Spec.scale, grp, mat] at hmask
  simp only [Spec.attn, Spec.soft, Spec.top, Spec.mm, Spec.qcols, Spec.kcols, Spec.vcols, Spec.score, Spec.scale, grp, mat]
  exact hmask

/-- The channels put side by side, for one window. -/
def add6 (v0 v1 v2 v3 v4 v5 : FVec Ideal S64x320 .f32) (o : ℕ) (h : S64x320.Slices ![0, o] S64x64) : FVec Ideal S64x384 .f32 :=
  concatenate S64x384 1 [⟨S64x64, extractStridedSlice S64x64 ![0, o] v0 h⟩, ⟨S64x64, extractStridedSlice S64x64 ![0, o] v1 h⟩, ⟨S64x64, extractStridedSlice S64x64 ![0, o] v2 h⟩,
    ⟨S64x64, extractStridedSlice S64x64 ![0, o] v3 h⟩, ⟨S64x64, extractStridedSlice S64x64 ![0, o] v4 h⟩, ⟨S64x64, extractStridedSlice S64x64 ![0, o] v5 h⟩]
    concatenates_S64x64_S64x64_S64x64_S64x64_S64x64_S64x64_S64x384_d1

/-- Six arrays that hold the channels of `T`, one residue each. -/
def IsChan (T : FVec Ideal S384x320 .f32) (k : Fin 6) (v : FVec Ideal S64x320 .f32) : Prop :=
  ∀ (r : Fin 64) (p : Fin 320), v (ix2 r p) = T (ix2 ⟨6 * (r : ℕ) + k, by omega⟩ p)

theorem add6_eq (T : FVec Ideal S384x320 .f32) (v0 v1 v2 v3 v4 v5 : FVec Ideal S64x320 .f32) (h0 : IsChan T 0 v0) (h1 : IsChan T 1 v1) (h2 : IsChan T 2 v2)
    (h3 : IsChan T 3 v3) (h4 : IsChan T 4 v4) (h5 : IsChan T 5 v5) (g : Fin 5) (h : S64x320.Slices ![0, 64 * (g : ℕ)] S64x64) (r : Fin 64) (c : Fin 384) :
    add6 v0 v1 v2 v3 v4 v5 (64 * (g : ℕ)) h (ix2 r c) = T (ix2 ⟨6 * (r : ℕ) + (c : ℕ) / 64, by omega⟩ (at5 g ⟨(c : ℕ) % 64, by omega⟩)) := by
  have key : ∀ (k : Fin 6) (v : FVec Ideal S64x320 .f32) (hv : IsChan T k v) (p : Fin 320), (c : ℕ) / 64 = k → (p : ℕ) = 64 * (g : ℕ) + (c : ℕ) % 64 →
      v (ix2 r p) = T (ix2 ⟨6 * (r : ℕ) + (c : ℕ) / 64, by omega⟩ (at5 g ⟨(c : ℕ) % 64, by omega⟩)) := fun k v hv p hk hp => by
    rw [hv]
    exact congrArg T ((ix2_inj ..).2 ⟨Fin.ext (by simp only []; omega), Fin.ext hp⟩)
  pointwise [add6]
  by_cases c0 : (c : ℕ) < 64
  · rw [dif_pos c0]; exact key 0 v0 h0 _ (by simp; omega) (by simp only []; omega)
  rw [dif_neg c0]
  by_cases c1 : (c : ℕ) - 64 < 64
  · rw [dif_pos c1]; exact key 1 v1 h1 _ (by simp; omega) (by simp only []; omega)
  rw [dif_neg c1]
  by_cases c2 : (c : ℕ) - 64 - 64 < 64
  · rw [dif_pos c2]; exact key 2 v2 h2 _ (by simp; omega) (by simp only []; omega)
  rw [dif_neg c2]
  by_cases c3 : (c : ℕ) - 64 - 64 - 64 < 64
  · rw [dif_pos c3]; exact key 3 v3 h3 _ (by simp; omega) (by simp only []; omega)
  rw [dif_neg c3]
  by_cases c4 : (c : ℕ) - 64 - 64 - 64 - 64 < 64
  · rw [dif_pos c4]; exact key 4 v4 h4 _ (by simp; omega) (by simp only []; omega)
  rw [dif_neg c4]
  exact key 5 v5 h5 _ (by simp; omega) (by simp only []; omega)

/-- The five windows' channels one below the other. -/
def stack (v0 v1 v2 v3 v4 v5 : FVec Ideal S64x320 .f32) : FVec Ideal S320x384 .f32 :=
  concatenate S320x384 0 [⟨S64x384, add6 v0 v1 v2 v3 v4 v5 0 slices_S64x320_o0_0_S64x64⟩, ⟨S64x384, add6 v0 v1 v2 v3 v4 v5 64 slices_S64x320_o0_64_S64x64⟩,
    ⟨S64x384, add6 v0 v1 v2 v3 v4 v5 128 slices_S64x320_o0_128_S64x64⟩, ⟨S64x384, add6 v0 v1 v2 v3 v4 v5 192 slices_S64x320_o0_192_S64x64⟩,
    ⟨S64x384, add6 v0 v1 v2 v3 v4 v5 256 slices_S64x320_o0_256_S64x64⟩] concatenates_S64x384_S64x384_S64x384_S64x384_S64x384_S320x384_d0

theorem stack_eq (T : FVec Ideal S384x320 .f32) (v0 v1 v2 v3 v4 v5 : FVec Ideal S64x320 .f32) (h0 : IsChan T 0 v0) (h1 : IsChan T 1 v1) (h2 : IsChan T 2 v2)
    (h3 : IsChan T 3 v3) (h4 : IsChan T 4 v4) (h5 : IsChan T 5 v5) (g : Fin 5) (r : Fin 64) (c : Fin 384) :
    stack v0 v1 v2 v3 v4 v5 (ix2 (at5 g r) c) = T (ix2 ⟨6 * (r : ℕ) + (c : ℕ) / 64, by omega⟩ (at5 g ⟨(c : ℕ) % 64, by omega⟩)) := by
  have key := fun (g' : Fin 5) (h : S64x320.Slices ![0, 64 * (g' : ℕ)] S64x64) => add6_eq T v0 v1 v2 v3 v4 v5 h0 h1 h2 h3 h4 h5 g' h r c
  have hr : ∀ (g' : Fin 5) (q : Fin 64), (q : ℕ) + 64 * g' = 64 * g + r → g' = g → q = r := fun g' q h e => Fin.ext (by subst e; omega)
  have ha : ((at5 g r : Fin 320) : ℕ) = 64 * g + r := rfl
  pointwise [stack]
  have lt := r.isLt
  obtain ⟨g, hg⟩ := g
  interval_cases g
  · rw [dif_pos (by simp only [ha]; omega)]
    exact (congrArg _ ((ix2_inj ..).2 ⟨Fin.ext (by simp only [at5]; omega), rfl⟩)).trans (key 0 _)
  · rw [dif_neg (by simp only [ha]; omega), dif_pos (by simp only [ha]; omega)]
    exact (congrArg _ ((ix2_inj ..).2 ⟨Fin.ext (by simp only [at5]; omega), rfl⟩)).trans (key 1 _)
  · rw [dif_neg (by simp only [ha]; omega), dif_neg (by simp only [ha]; omega), dif_pos (by simp only [ha]; omega)]
    exact (congrArg _ ((ix2_inj ..).2 ⟨Fin.ext (by simp only [at5]; omega), rfl⟩)).trans (key 2 _)
  · rw [dif_neg (by simp only [ha]; omega), dif_neg (by simp only [ha]; omega), dif_neg (by simp only [ha]; omega), dif_pos (by simp only [ha]; omega)]
    exact (congrArg _ ((ix2_inj ..).2 ⟨Fin.ext (by simp only [at5]; omega), rfl⟩)).trans (key 3 _)
  · rw [dif_neg (by simp only [ha]; omega), dif_neg (by simp only [ha]; omega), dif_neg (by simp only [ha]; omega), dif_neg (by simp only [ha]; omega)]
    exact (congrArg _ ((ix2_inj ..).2 ⟨Fin.ext (by simp only [at5]; omega), rfl⟩)).trans (key 4 _)

/-- A linear layer with its activation, on the sum of two arrays: its text in the second and the third place. -/
def linV (y : FVec Ideal S320x384 .f32) (w : FVec Ideal S384x384 .bf16) (b : FVec Ideal S1x384 .f32) : FVec Ideal S320x384 .f32 :=
  have v238 : FVec Ideal S320x384 .bf16 := truncf .bf16 y bitsLt_bf16_f32
  have v240 : FVec Ideal S384x384 .bf16 := shapeCast S384x384 w shapeCasts_S384x384_S384x384
  have v241 : FVec Ideal S320x384 .f32 := matmul dot_S320x384_S384x384_S320x384_1_0_0_1_n_n none v238 v240 (constant S320x384 .f32 0x00000000#32)
  have v244 : FVec Ideal S320x384 .f32 := broadcastTo S320x384 (shapeCast S1x384 b shapeCasts_S1x384_S1x384) broadcasts_S1x384_S320x384
  have v245 : FVec Ideal S320x384 .f32 := addf v241 v244
  have v247 : FVec Ideal S320x384 .f32 := mulf (broadcast S320x384 (Scalar.ofBits .f32 0x3F000000#32)) v245
  have v249 : FVec Ideal S320x384 .f32 := mulf v245 (broadcast S320x384 (Scalar.ofBits .f32 0x3F3504F3#32))
  have v252 : FVec Ideal S320x384 .f32 := addf (broadcast S320x384 (Scalar.ofBits .f32 0x3F800000#32)) (erf v249)
  addf y (mulf v247 v252)

theorem linV_eq (y : FVec Ideal S320x384 .f32) (w : FVec Ideal S384x384 .bf16) (b : FVec Ideal S1x384 .f32) (g : Fin 5) :
    grp (linV y w b) g = Spec.lin (grp y g) (mat w) (row b) := by
  funext r c
  show linV y w b (ix2 (at5 g r) c) = _
  pointwise [linV]
  rfl

/-- The first linear layer is written the same way. -/
theorem lin0_eq (x : FVec Ideal S320x384 .f32) (kv : FVec Ideal S1x64x768 .f32) (wq w : FVec Ideal S384x384 .bf16) (b : FVec Ideal S1x384 .f32) :
    k3_pay22 (glob x kv wq) (half0 x kv wq w b) (erf0 x kv wq w b) = linV (glob x kv wq) w b := rfl

/-- The local attention of five windows, from the values it is computed of. -/
def locV (y : FVec Ideal S320x384 .f32) (w : FVec Ideal S384x1152 .bf16) : FVec Ideal S320x384 .f32 :=
  addf y (stack (chan sel0 (k3_pay34 mask (truncf .bf16 y bitsLt_bf16_f32) (k3_pay33 w))) (chan sel1 (k3_pay34 mask (truncf .bf16 y bitsLt_bf16_f32) (k3_pay33 w)))
    (chan sel2 (k3_pay34 mask (truncf .bf16 y bitsLt_bf16_f32) (k3_pay33 w))) (chan sel3 (k3_pay34 mask (truncf .bf16 y bitsLt_bf16_f32) (k3_pay33 w)))
    (chan sel4 (k3_pay34 mask (truncf .bf16 y bitsLt_bf16_f32) (k3_pay33 w))) (chan sel5 (k3_pay34 mask (truncf .bf16 y bitsLt_bf16_f32) (k3_pay33 w))))

theorem locV_eq (y : FVec Ideal S320x384 .f32) (w : FVec Ideal S384x1152 .bf16) (hy : Real5 y) (hw : RealMat (mat w)) (g : Fin 5) :
    grp (locV y w) g = Spec.loc (grp y g) (mat w) := by
  have hw' : k3_pay33 (F := Ideal) w = w := by funext i; idx_vars i; pointwise [k3_pay33]
  funext r c
  show y (ix2 (at5 g r) c) + stack _ _ _ _ _ _ (ix2 (at5 g r) c) = _
  rw [stack_eq (k3_pay34 mask (truncf .bf16 y bitsLt_bf16_f32) (k3_pay33 w)) _ _ _ _ _ _ (chan_eq 0 _ isSel0 _) (chan_eq 1 _ isSel1 _) (chan_eq 2 _ isSel2 _)
    (chan_eq 3 _ isSel3 _) (chan_eq 4 _ isSel4 _) (chan_eq 5 _ isSel5 _), hw', att_eq (truncf .bf16 y bitsLt_bf16_f32) w hy hw]
  rfl

theorem loc1_eq (g h e : FVec Ideal S320x384 .f32) (wqkv : FVec Ideal S384x1152 .bf16) (w : FVec Ideal S384x384 .bf16) (b : FVec Ideal S1x384 .f32) :
    loc1 g h e wqkv w b = linV (locV (k3_pay22 g h e) wqkv) w b := rfl

theorem loc1b_eq (g h e : FVec Ideal S320x384 .f32) (wqkv : FVec Ideal S384x1152 .bf16) (w : FVec Ideal S384x384 .bf16) (b : FVec Ideal S1x384 .f32) :
    loc1b g h e wqkv w b = truncf .bf16 (loc1 g h e wqkv w b) bitsLt_bf16_f32 := rfl

theorem loc2_eq (y : FVec Ideal S320x384 .f32) (wqkv : FVec Ideal S384x1152 .bf16) (w : FVec Ideal S384x384 .bf16) (b : FVec Ideal S1x384 .f32) :
    loc2 y (truncf .bf16 y bitsLt_bf16_f32) wqkv w b = linV (locV y wqkv) w b := rfl

/-- One window's block as a matrix. -/
def blockMat (x : FVec Ideal S1x1x8x1x8x384 .f32) : Mat 64 384 := fun r c =>
  x (Idealize.ShloMosaic.ix6 0 0 ⟨(r : ℕ) / 8, by omega⟩ 0 ⟨(r : ℕ) % 8, by omega⟩ c)

theorem input_eq (x0 x1 x2 x3 x4 : FVec Ideal S1x1x8x1x8x384 .f32) (g : Fin 5) :
    grp (k3_pay2 (F := Ideal) x0 x1 x2 x3 x4) g = blockMat (![x0, x1, x2, x3, x4] g) := by
  have ha : ∀ r, ((at5 g r : Fin 320) : ℕ) = 64 * (g : ℕ) + r := fun r => rfl
  funext r c
  show k3_pay2 (F := Ideal) x0 x1 x2 x3 x4 (ix2 (at5 g r) c) = _
  have lt := r.isLt
  have key : ∀ (x : FVec Ideal S1x1x8x1x8x384 .f32) (a : ℕ) (h1 : a / 8 < 8) (h2 : a % 8 < 8), a = r →
      x (Idealize.ShloMosaic.ix6 0 0 ⟨a / 8, h1⟩ 0 ⟨a % 8, h2⟩ c) = blockMat x r c := by
    intro x a h1 h2 e
    subst e
    rfl
  pointwise [k3_pay2]
  fin_cases g
  all_goals simp only [Fin.zero_eta, Fin.mk_one, Fin.reduceFinMk] at ha ⊢
  · have h0 := ha r
    change _ = 64 * 0 + _ at h0
    rw [dif_pos (by omega)]
    exact key _ _ _ _ (by omega)
  · have h0 := ha r
    change _ = 64 * 1 + _ at h0
    rw [dif_neg (by omega), dif_pos (by omega)]
    exact key _ _ _ _ (by omega)
  · have h0 := ha r
    change _ = 64 * 2 + _ at h0
    rw [dif_neg (by omega), dif_neg (by omega), dif_pos (by omega)]
    exact key _ _ _ _ (by omega)
  · have h0 := ha r
    change _ = 64 * 3 + _ at h0
    rw [dif_neg (by omega), dif_neg (by omega), dif_neg (by omega), dif_pos (by omega)]
    exact key _ _ _ _ (by omega)
  · have h0 := ha r
    change _ = 64 * 4 + _ at h0
    rw [dif_neg (by omega), dif_neg (by omega), dif_neg (by omega), dif_neg (by omega)]
    exact key _ _ _ _ (by omega)

theorem out_eq (x0 x1 x2 x3 x4 : FVec Ideal S1x1x8x1x8x384 .f32) (x5 : FVec Ideal S1x64x768 .f32) (x6 x7 : FVec Ideal S384x384 .bf16) (x8 : FVec Ideal S1x384 .f32)
    (x9 : FVec Ideal S384x1152 .bf16) (x10 : FVec Ideal S384x384 .bf16) (x11 : FVec Ideal S1x384 .f32) (x12 : FVec Ideal S384x1152 .bf16)
    (x13 : FVec Ideal S384x384 .bf16) (x14 : FVec Ideal S1x384 .f32)
    (r0 : ∀ g, RealMat (blockMat (![x0, x1, x2, x3, x4] g)))
    (r5 : ∀ t d, IsReal (x5 (Idealize.ShloMosaic.ix3 0 t d))) (r6 : RealMat (mat x6)) (r7 : RealMat (mat x7)) (r8 : ∀ c, IsReal (row x8 c))
    (r9 : RealMat (mat x9)) (r10 : RealMat (mat x10)) (r11 : ∀ c, IsReal (row x11 c)) (r12 : RealMat (mat x12)) (g : Fin 5) (r : Fin 64) (c : Fin 384) :
    out (F := Ideal) x0 x1 x2 x3 x4 x5 x6 x7 x8 x9 x10 x11 x12 x13 x14 (Idealize.ShloMosaic.ix3 0 (at5 g r) c)
      = Spec.window (blockMat (![x0, x1, x2, x3, x4] g)) (mat x6) (fun t d => x5 (Idealize.ShloMosaic.ix3 0 t ⟨d, by omega⟩))
          (fun t d => x5 (Idealize.ShloMosaic.ix3 0 t ⟨384 + d, by omega⟩)) (mat x7) (row x8) (mat x9) (mat x10) (row x11) (mat x12) (mat x13) (row x14) r c := by
  have h1 : ∀ g, grp (glob (k3_pay2 (F := Ideal) x0 x1 x2 x3 x4) x5 x6) g = _ := glob_eq (k3_pay2 (F := Ideal) x0 x1 x2 x3 x4) x5 x6
  have h2 := linV_eq (glob (k3_pay2 (F := Ideal) x0 x1 x2 x3 x4) x5 x6) x7 x8
  have e2 : Real5 (linV (glob (k3_pay2 (F := Ideal) x0 x1 x2 x3 x4) x5 x6) x7 x8) := fun g => by
    rw [h2, h1, input_eq]
    exact ((r0 g).glob r6 (fun t d => r5 t _) (fun t d => r5 t _)).lin r7 r8
  have h3 := locV_eq _ x9 e2 r9
  have h4 := linV_eq (locV (linV (glob (k3_pay2 (F := Ideal) x0 x1 x2 x3 x4) x5 x6) x7 x8) x9) x10 x11
  have e4 : Real5 (linV (locV (linV (glob (k3_pay2 (F := Ideal) x0 x1 x2 x3 x4) x5 x6) x7 x8) x9) x10 x11) := fun g => by
    rw [h4, h3]
    exact ((e2 g).loc r9).lin r10 r11
  have h5 := locV_eq _ x12 e4 r12
  have h6 := linV_eq (locV (linV (locV (linV (glob (k3_pay2 (F := Ideal) x0 x1 x2 x3 x4) x5 x6) x7 x8) x9) x10 x11) x12) x13 x14
  unfold out
  rw [loc1b_eq, loc2_eq, loc1_eq, lin0_eq]
  pointwise [k3_pay1]
  refine (congrFun (congrFun (h6 g) r) c).trans ?_
  rw [h5, h4, h3, h2, h1, input_eq]
  rfl

end Cert.KernelIdeal.Run.Win
-- ==== Proof.Val.Arr3.lean ====
/- What the window call leaves: every group of five windows, each window its own computation of the block the tables name. -/
module

public import proofs.«01_k».proof.Proof.Val.Win
public import proofs.«01_k».proof.Proof.KI.Reg4
public import Idealize.ShloMosaic.Lib.Pipeline.ValueKit

@[expose] public section

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal.Gen
open Cert.Spec (Mat IsReal RealMat at5)
open scoped BigOperators

/-- The tables hold, at place `n`, window `w n` of batch entry `n / 235`. -/
structure Holds (p0 p1 p2 : IVec S470 32) (w : Fin 470 → Fin 784) : Prop where
  b : ∀ n : Fin 470, (p0 (ix1 n)).toNat = (n : ℕ) / 235
  y : ∀ n : Fin 470, (p1 (ix1 n)).toNat = (w n : ℕ) / 28
  x : ∀ n : Fin 470, (p2 (ix1 n)).toNat = (w n : ℕ) % 28

/-- The place of window `g` of group `i`. -/
def place (i : Fin 94) (g : Fin 5) : Fin 470 := ⟨5 * (i : ℕ) + g, by omega⟩

theorem entry {α : Type} (p : S470.Idx → α) (o : ℕ) (h : ∀ a, (![o] : Fin 1 → ℕ) a + S1.size a ≤ S470.size a) (n : Fin 470) (e : o = n) (z : 0 < (Rect.unit (s := S470) ![o] S1.size h).shape.numel) :
    p ((Rect.unit (s := S470) ![o] S1.size h).emb (Shape.Idx.first z)) = p (ix1 n) := by
  refine congrArg p (funext fun a => ?_)
  fin_cases a
  exact Fin.ext (by subst e; simp [Rect.emb, Rect.unit, Shape.Idx.first])

namespace Win

theorem word5 : ∀ (i : Fin 94) (g : Fin 5), (Scalar.indexCast (Scalar.addi (Scalar.muli 5#32 (BitVec.ofNat 32 i.val)) (BitVec.ofNat 32 g.val)) : Index).toNat = (place i g : ℕ) := by
  decide +kernel
theorem word50 : ∀ (i : Fin 94), (Scalar.indexCast (Scalar.muli 5#32 (BitVec.ofNat 32 i.val)) : Index).toNat = (place i 0 : ℕ) := by
  decide +kernel

variable (a : (pcfg3 (F := Ideal)).Adm) (W : Dev nD → Valuation τ sig (Elt Ideal)) (c : Dev nD)

/-- A group's number as a point of the grid. -/
theorem coord : ∀ t : Fin grid3.N, ((grid3.coords t 0 : Fin _) : ℕ) = t.val := by decide +kernel

theorem lt94 (t : Fin grid3.N) : t.val < 94 := lt_of_lt_of_eq t.isLt (by decide +kernel)

def grpOf (t : Fin grid3.N) : Fin 94 := ⟨t.val, lt94 t⟩

theorem vec6 {a a' b b' d d' : ℕ} (ha : a = a') (hb : b = b') (hd : d = d') : (![a, b, 0, d, 0, 0] : Fin 6 → ℕ) = ![a', b', 0, d', 0, 0] := by
  rw [ha, hb, hd]

theorem idx15 (t : Fin grid3.N) : ((pcfg3 (F := Ideal)).win a (15 : Fin (cfg3 a).W)).index t = ![t.val, 0, 0] :=
  (by decide +kernel : ∀ t : Fin grid3.N, cc3_transform_15 (grid3.coords t) = ![t.val, 0, 0]) t

section
variable {w : Fin 470 → Fin 784} (h : Holds (a.1 0) (a.1 1) (a.1 2) w)
include h

/-- Window `g`'s block: the window of the map the tables name at the group's place `g`. -/
theorem idx_of (o : ℕ) (hh : ∀ a, (![o] : Fin 1 → ℕ) a + S1.size a ≤ S470.size a) (n : Fin 470) (e : o = n) (z : 0 < (Rect.unit (s := S470) ![o] S1.size hh).shape.numel) :
    (![((a.1 0 : IVec S470 32) ((Rect.unit (s := S470) ![o] S1.size hh).emb (Shape.Idx.first z))).toNat,
      ((a.1 1 : IVec S470 32) ((Rect.unit (s := S470) ![o] S1.size hh).emb (Shape.Idx.first z))).toNat, 0,
      ((a.1 2 : IVec S470 32) ((Rect.unit (s := S470) ![o] S1.size hh).emb (Shape.Idx.first z))).toNat, 0, 0] : Fin 6 → ℕ)
        = ![(n : ℕ) / 235, (w n : ℕ) / 28, 0, (w n : ℕ) % 28, 0, 0] :=
  vec6 ((congrArg BitVec.toNat (entry _ o hh n e z)).trans (h.b n)) ((congrArg BitVec.toNat (entry _ o hh n e z)).trans (h.y n))
    ((congrArg BitVec.toNat (entry _ o hh n e z)).trans (h.x n))

theorem word_at (t : Fin grid3.N) (g : Fin 5) :
    (Scalar.indexCast (Scalar.addi (Scalar.muli 5#32 (BitVec.ofNat 32 (grid3.coords t 0).val)) (BitVec.ofNat 32 g.val)) : Index).toNat = (place (grpOf t) g : ℕ) := by
  rw [coord]; exact word5 (grpOf t) g

/-- The blocks' places, all the input windows. -/
def blkAt (w : Fin 470 → Fin 784) (n : Fin 470) : Fin 6 → ℕ := ![(n : ℕ) / 235, (w n : ℕ) / 28, 0, (w n : ℕ) % 28, 0, 0]

theorem idx0 (t : Fin grid3.N) : ((pcfg3 (F := Ideal)).win a (0 : Fin (cfg3 a).W)).index t = blkAt w (place (grpOf t) 0) := idx_of a h _ _ _ (word_at a h t 0) _
theorem idx1 (t : Fin grid3.N) : ((pcfg3 (F := Ideal)).win a (1 : Fin (cfg3 a).W)).index t = blkAt w (place (grpOf t) 1) := idx_of a h _ _ _ (word_at a h t 1) _
theorem idx2 (t : Fin grid3.N) : ((pcfg3 (F := Ideal)).win a (2 : Fin (cfg3 a).W)).index t = blkAt w (place (grpOf t) 2) := idx_of a h _ _ _ (word_at a h t 2) _
theorem idx3 (t : Fin grid3.N) : ((pcfg3 (F := Ideal)).win a (3 : Fin (cfg3 a).W)).index t = blkAt w (place (grpOf t) 3) := idx_of a h _ _ _ (word_at a h t 3) _
theorem idx4 (t : Fin grid3.N) : ((pcfg3 (F := Ideal)).win a (4 : Fin (cfg3 a).W)).index t = blkAt w (place (grpOf t) 4) := idx_of a h _ _ _ (word_at a h t 4) _

theorem idx5 (t : Fin grid3.N) : ((pcfg3 (F := Ideal)).win a (5 : Fin (cfg3 a).W)).index t = ![(place (grpOf t) 0 : ℕ) / 235, 0, 0] := by
  have e : (Scalar.indexCast (Scalar.muli 5#32 (BitVec.ofNat 32 (grid3.coords t 0).val)) : Index).toNat = (place (grpOf t) 0 : ℕ) := by
    rw [coord]; exact word50 (grpOf t)
  exact congrArg (fun n => (![n, 0, 0] : Fin 3 → ℕ)) ((congrArg BitVec.toNat (entry (a.1 0) _ _ _ e _)).trans (h.b _))

/-- Window `g`'s 64 × 384 block of the map with its windows apart, the window that stands at place `n` of the tables. -/
def tileK (w : Fin 470 → Fin 784) (X : FVec Ideal S2x28x8x28x8x384 .f32) (n : Fin 470) : Mat 64 384 := fun r c =>
  X (Idealize.ShloMosaic.ix6 ⟨(n : ℕ) / 235, by omega⟩ ⟨(w n : ℕ) / 28, by omega⟩ ⟨(r : ℕ) / 8, by omega⟩ ⟨(w n : ℕ) % 28, by omega⟩ ⟨(r : ℕ) % 8, by omega⟩ c)

/-- An entry of the block that holds the window at place `n`. -/
def cellK (w : Fin 470 → Fin 784) (X : FVec Ideal S2x28x8x28x8x384 .f32) (n : Fin 470) : FVec Ideal S1x1x8x1x8x384 .f32 := fun x =>
  X (Idealize.ShloMosaic.ix6 ⟨(n : ℕ) / 235, by omega⟩ ⟨(w n : ℕ) / 28, by omega⟩ (x 2) ⟨(w n : ℕ) % 28, by omega⟩ (x 4) (x 5))

omit h in
theorem blockMat_cellK (w : Fin 470 → Fin 784) (X : FVec Ideal S2x28x8x28x8x384 .f32) (n : Fin 470) : blockMat (cellK w X n) = tileK w X n := by
  funext r d
  rfl

theorem blk0 (t : Fin grid3.N) : iblk a W c 0 t = cellK w (W c main_v12) (place (grpOf t) 0) := by
  blk_ext! [iblk, cellK, idx0 a h t, blkAt]
theorem blk1 (t : Fin grid3.N) : iblk a W c 1 t = cellK w (W c main_v12) (place (grpOf t) 1) := by
  blk_ext! [iblk, cellK, idx1 a h t, blkAt]
theorem blk2 (t : Fin grid3.N) : iblk a W c 2 t = cellK w (W c main_v12) (place (grpOf t) 2) := by
  blk_ext! [iblk, cellK, idx2 a h t, blkAt]
theorem blk3 (t : Fin grid3.N) : iblk a W c 3 t = cellK w (W c main_v12) (place (grpOf t) 3) := by
  blk_ext! [iblk, cellK, idx3 a h t, blkAt]
theorem blk4 (t : Fin grid3.N) : iblk a W c 4 t = cellK w (W c main_v12) (place (grpOf t) 4) := by
  blk_ext! [iblk, cellK, idx4 a h t, blkAt]

theorem blk5 (t : Fin grid3.N) (s : Fin 64) (d : Fin 768) : iblk a W c 5 t (Idealize.ShloMosaic.ix3 0 s d) = W c main_v11 (Idealize.ShloMosaic.ix3 ⟨(place (grpOf t) 0 : ℕ) / 235, by omega⟩ s d) := by
  blk_ext [iblk, idx5 a h t]
end

theorem idx6 (t : Fin grid3.N) : ((pcfg3 (F := Ideal)).win a (6 : Fin (cfg3 a).W)).index t = ![0, 0] := rfl
theorem blk6 (t : Fin grid3.N) : iblk a W c 6 t = W c main_v13 := by blk_ext! [iblk, idx6 a t]
theorem idx7 (t : Fin grid3.N) : ((pcfg3 (F := Ideal)).win a (7 : Fin (cfg3 a).W)).index t = ![0, 0] := rfl
theorem blk7 (t : Fin grid3.N) : iblk a W c 7 t = W c main_v14 := by blk_ext! [iblk, idx7 a t]
theorem idx8 (t : Fin grid3.N) : ((pcfg3 (F := Ideal)).win a (8 : Fin (cfg3 a).W)).index t = ![0, 0] := rfl
theorem blk8 (t : Fin grid3.N) : iblk a W c 8 t = W c main_v15 := by blk_ext! [iblk, idx8 a t]
theorem idx9 (t : Fin grid3.N) : ((pcfg3 (F := Ideal)).win a (9 : Fin (cfg3 a).W)).index t = ![0, 0] := rfl
theorem blk9 (t : Fin grid3.N) : iblk a W c 9 t = W c main_v16 := by blk_ext! [iblk, idx9 a t]
theorem idx10 (t : Fin grid3.N) : ((pcfg3 (F := Ideal)).win a (10 : Fin (cfg3 a).W)).index t = ![0, 0] := rfl
theorem blk10 (t : Fin grid3.N) : iblk a W c 10 t = W c main_v17 := by blk_ext! [iblk, idx10 a t]
theorem idx11 (t : Fin grid3.N) : ((pcfg3 (F := Ideal)).win a (11 : Fin (cfg3 a).W)).index t = ![0, 0] := rfl
theorem blk11 (t : Fin grid3.N) : iblk a W c 11 t = W c main_v18 := by blk_ext! [iblk, idx11 a t]
theorem idx12 (t : Fin grid3.N) : ((pcfg3 (F := Ideal)).win a (12 : Fin (cfg3 a).W)).index t = ![0, 0] := rfl
theorem blk12 (t : Fin grid3.N) : iblk a W c 12 t = W c main_v19 := by blk_ext! [iblk, idx12 a t]
theorem idx13 (t : Fin grid3.N) : ((pcfg3 (F := Ideal)).win a (13 : Fin (cfg3 a).W)).index t = ![0, 0] := rfl
theorem blk13 (t : Fin grid3.N) : iblk a W c 13 t = W c main_v20 := by blk_ext! [iblk, idx13 a t]
theorem idx14 (t : Fin grid3.N) : ((pcfg3 (F := Ideal)).win a (14 : Fin (cfg3 a).W)).index t = ![0, 0] := rfl
theorem blk14 (t : Fin grid3.N) : iblk a W c 14 t = W c main_v21 := by blk_ext! [iblk, idx14 a t]

theorem N94 : (cfg3 a).N = 94 := (by decide +kernel : grid3.N = 94)

/-- What the call leaves: at every point what the body leaves. -/
def G : FVec Ideal S94x320x384 .f32 := fun j => outAt a W c ⟨(j 0 : ℕ), (N94 a).symm ▸ (j 0).isLt⟩ (Idealize.ShloMosaic.ix3 0 (j 1) (j 2))

theorem G_at (t : Fin (cfg3 a).N) (y : S1x320x384.Idx) (j : S94x320x384.Idx) (h0 : (j 0 : ℕ) = t.val) (h1 : (j 1 : ℕ) = y 1) (h2 : (j 2 : ℕ) = y 2) :
    outAt a W c t y = G a W c j := by
  have e0 : (⟨(j 0 : ℕ), (N94 a).symm ▸ (j 0).isLt⟩ : Fin (cfg3 a).N) = t := Fin.ext h0
  have e1 : (Idealize.ShloMosaic.ix3 0 (j 1) (j 2) : S1x320x384.Idx) = y := by
    funext x
    fin_cases x
    · exact Fin.ext (by have := (y 0).isLt; simp at this; simp [Idealize.ShloMosaic.ix3])
    · exact Fin.ext h1
    · exact Fin.ext h2
  unfold G
  rw [e0, e1]

/-- A group's point. -/
def pt (i : Fin 94) : Fin grid3.N := ⟨i.val, lt_of_lt_of_eq i.isLt (N94 a).symm⟩

theorem idx15_pt (i : Fin 94) : ((pcfg3 (F := Ideal)).win a (15 : Fin (cfg3 a).W)).index (pt a i) = ![i.val, 0, 0] := idx15 a _

theorem flush15 (t : Fin grid3.N) : ((pcfg3 (F := Ideal)).win a (15 : Fin (cfg3 a).W)).flush t = true := by
  refine (Pipeline.Window.flush_out _ rfl t).2 ?_
  by_cases e : t.val + 1 = grid3.N
  · exact Or.inl e
  · have hlt := t.isLt
    refine Or.inr ⟨by omega, fun he => ?_⟩
    rw [idx15, idx15] at he
    have := congrFun he 0
    simp at this

theorem final : (dat a W c).arrAt 15 (cfg3 a).N = G a W c := by
  refine (dat a W c).arrAt_eq_of_emb 15 (G a W c) (fun t hf y => ?_) (fun i => ⟨pt a (i (0 : Fin 3)), flush15 a _, ?_⟩)
  · blk_simp
    rw [after_15]
    refine G_at a W c t y _ ?_ ?_ ?_
    · blk_simp [idx15 a t]
    · blk_simp [idx15 a t]
    · blk_simp [idx15 a t]
  · exact Finset.mem_map.2 ⟨(Idealize.ShloMosaic.ix3 0 (i (1 : Fin 3)) (i (2 : Fin 3)) : S1x320x384.Idx), Finset.mem_univ _, by
      blk_ext! [idx15_pt a (i (0 : Fin 3))]⟩

/-- One group's five windows, each its own computation of its own block, against the pooled tokens of the batch entry they stand in. -/
theorem out_at (w : Fin 470 → Fin 784) (X : FVec Ideal S2x28x8x28x8x384 .f32) (KV : FVec Ideal S2x64x768 .f32) (x5 : FVec Ideal S1x64x768 .f32)
    (x6 x7 : FVec Ideal S384x384 .bf16) (x8 : FVec Ideal S1x384 .f32) (x9 : FVec Ideal S384x1152 .bf16) (x10 : FVec Ideal S384x384 .bf16)
    (x11 : FVec Ideal S1x384 .f32) (x12 : FVec Ideal S384x1152 .bf16) (x13 : FVec Ideal S384x384 .bf16) (x14 : FVec Ideal S1x384 .f32)
    (i : Fin 94) (h5 : ∀ s d, x5 (Idealize.ShloMosaic.ix3 0 s d) = KV (Idealize.ShloMosaic.ix3 ⟨(place i 0 : ℕ) / 235, by omega⟩ s d))
    (r0 : ∀ j, IsReal (X j)) (rK : ∀ j, IsReal (KV j)) (r6 : ∀ j, IsReal (x6 j)) (r7 : ∀ j, IsReal (x7 j)) (r8 : ∀ j, IsReal (x8 j)) (r9 : ∀ j, IsReal (x9 j))
    (r10 : ∀ j, IsReal (x10 j)) (r11 : ∀ j, IsReal (x11 j)) (r12 : ∀ j, IsReal (x12 j)) (g : Fin 5) (r : Fin 64) (d : Fin 384) :
    out (F := Ideal) (cellK w X (place i 0)) (cellK w X (place i 1)) (cellK w X (place i 2)) (cellK w X (place i 3)) (cellK w X (place i 4))
        x5 x6 x7 x8 x9 x10 x11 x12 x13 x14 (Idealize.ShloMosaic.ix3 0 (at5 g r) d)
      = Cert.Spec.window (tileK w X (place i g)) (mat x6)
        (fun t e => KV (Idealize.ShloMosaic.ix3 ⟨(place i g : ℕ) / 235, by omega⟩ t ⟨e, by omega⟩))
        (fun t e => KV (Idealize.ShloMosaic.ix3 ⟨(place i g : ℕ) / 235, by omega⟩ t ⟨384 + e, by omega⟩))
        (mat x7) (row x8) (mat x9) (mat x10) (row x11) (mat x12) (mat x13) (row x14) r d := by
  have rX : ∀ n, RealMat (blockMat (cellK w X n)) := fun n r d => r0 _
  have eg : ∀ g : Fin 5, (![cellK w X (place i 0), cellK w X (place i 1), cellK w X (place i 2), cellK w X (place i 3), cellK w X (place i 4)] : Fin 5 → FVec Ideal S1x1x8x1x8x384 .f32) g = cellK w X (place i g) := fun g => by
    fin_cases g <;> rfl
  have eb : (⟨(place i g : ℕ) / 235, by omega⟩ : Fin 2) = ⟨(place i 0 : ℕ) / 235, by omega⟩ := Fin.ext (by simp only [place]; omega)
  refine (out_eq _ _ _ _ _ x5 x6 x7 x8 x9 x10 x11 x12 x13 x14 (fun g => by rw [eg]; exact rX _) (fun t d => by rw [h5]; exact rK _) (fun _ _ => r6 _)
    (fun _ _ => r7 _) (fun _ => r8 _) (fun _ _ => r9 _) (fun _ _ => r10 _) (fun _ => r11 _) (fun _ _ => r12 _) g r d).trans ?_
  rw [eg, blockMat_cellK w X (place i g)]
  have eK : ∀ s d, x5 (Idealize.ShloMosaic.ix3 0 s d) = KV (Idealize.ShloMosaic.ix3 ⟨(place i g : ℕ) / 235, by omega⟩ s d) := fun s d => by
    rw [h5, eb]
  congr 1
  · funext t e; exact eK _ _
  · funext t e; exact eK _ _

end Win

end Cert.KernelIdeal.Run

end
-- ==== Proof.Val.Arr4.lean ====
/- What the write-back leaves: the tables' windows in place, the rest of the map as it was. -/
module

public import proofs.«01_k».proof.Proof.Val.Arr3

@[expose] public section

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal.Gen
open scoped BigOperators

namespace Scatter

variable (a : (pcfg4 (F := Ideal)).Adm) (W : Dev nD → Valuation τ sig (Elt Ideal)) (c : Dev nD)

theorem coord : ∀ t : Fin grid4.N, ((grid4.coords t 0 : Fin _) : ℕ) = t.val := by decide +kernel

theorem N470 : (cfg4 a).N = 470 := (by decide +kernel : grid4.N = 470)

def pt (n : Fin 470) : Fin grid4.N := ⟨n.val, lt_of_lt_of_eq n.isLt (N470 a).symm⟩

def nOf (t : Fin grid4.N) : Fin 470 := ⟨t.val, lt_of_lt_of_eq t.isLt (by decide +kernel)⟩

theorem idx0 (t : Fin grid4.N) : ((pcfg4 (F := Ideal)).win a (0 : Fin (cfg4 a).W)).index t = ![t.val, 0, 0, 0] :=
  (by decide +kernel : ∀ t : Fin grid4.N, cc4_transform_0 (grid4.coords t) = ![t.val, 0, 0, 0]) t

theorem word : ∀ n : Fin 470, (Scalar.indexCast (BitVec.ofNat 32 n.val) : Index).toNat = (n : ℕ) := by
  decide +kernel

variable {w : Fin 470 → Fin 784} (h : Holds (a.1 0) (a.1 1) (a.1 2) w)
include h

theorem idx1 (t : Fin grid4.N) : ((pcfg4 (F := Ideal)).win a (1 : Fin (cfg4 a).W)).index t = Win.blkAt w (nOf t) := by
  have e : (Scalar.indexCast (BitVec.ofNat 32 (grid4.coords t 0).val) : Index).toNat = (nOf t : ℕ) := by
    rw [coord]; exact word (nOf t)
  exact Win.vec6 ((congrArg BitVec.toNat (entry (a.1 0) _ _ _ e _)).trans (h.b _)) ((congrArg BitVec.toNat (entry (a.1 1) _ _ _ e _)).trans (h.y _))
    ((congrArg BitVec.toNat (entry (a.1 2) _ _ _ e _)).trans (h.x _))

theorem idx1_pt (n : Fin 470) : ((pcfg4 (F := Ideal)).win a (1 : Fin (cfg4 a).W)).index (pt a n) = Win.blkAt w n := idx1 a h _

/-- The cell of the map at row `p`, column `q`, channel `d` of the window at place `n`. -/
def cell (w : Fin 470 → Fin 784) (n : Fin 470) (p q : Fin 8) (d : Fin 384) : S2x28x8x28x8x384.Idx :=
  Idealize.ShloMosaic.ix6 ⟨(n : ℕ) / 235, by omega⟩ ⟨(w n : ℕ) / 28, by omega⟩ p ⟨(w n : ℕ) % 28, by omega⟩ q d

omit h in
theorem pay_at (x : FVec Ideal S1x8x8x384 .f32) (y : S1x1x8x1x8x384.Idx) : k4_pay1 (F := Ideal) x y = x (Idealize.ShloMosaic.ix4 0 (y 2) (y 4) (y 5)) := by
  pointwise [k4_pay1]

omit h in
theorem blk_at (t : Fin grid4.N) (p q : Fin 8) (d : Fin 384) : iblk a W c 0 t (Idealize.ShloMosaic.ix4 0 p q d) = W c main_v25 (Idealize.ShloMosaic.ix4 (nOf t) p q d) := by
  blk_ext [iblk, idx0 a t, nOf]

theorem emb_at (n : Fin 470) (p q : Fin 8) (d : Fin 384) :
    (((cfg4 a).win (1 : Fin (cfg4 a).W)).blk (pt a n)).view.emb (Idealize.ShloMosaic.ix6 0 0 p 0 q d : S1x1x8x1x8x384.Idx) = cell w n p q d := by
  generalize e : (Idealize.ShloMosaic.ix6 0 0 p 0 q d : S1x1x8x1x8x384.Idx) = y
  have y0 : (y 0 : ℕ) = 0 := by rw [← e]; rfl
  have y1 : (y 1 : ℕ) = 0 := by rw [← e]; rfl
  have y2 : (y 2 : ℕ) = p := by rw [← e]; rfl
  have y3 : (y 3 : ℕ) = 0 := by rw [← e]; rfl
  have y4 : (y 4 : ℕ) = q := by rw [← e]; rfl
  have y5 : (y 5 : ℕ) = d := by rw [← e]; rfl
  clear e
  funext x
  fin_cases x
  · exact Fin.ext (by blk_simp [idx1_pt a h n, Win.blkAt]; rfl)
  · exact Fin.ext (by blk_simp [idx1_pt a h n, Win.blkAt]; rfl)
  · exact Fin.ext (by blk_simp [idx1_pt a h n, Win.blkAt]; exact y2)
  · exact Fin.ext (by blk_simp [idx1_pt a h n, Win.blkAt]; rfl)
  · exact Fin.ext (by blk_simp [idx1_pt a h n, Win.blkAt]; exact y4)
  · exact Fin.ext (by blk_simp [idx1_pt a h n, Win.blkAt]; exact y5)

variable (inj : ∀ n n' : Fin 470, (n : ℕ) / 235 = (n' : ℕ) / 235 → w n = w n' → n = n')
include inj

theorem flush1 (t : Fin grid4.N) : ((pcfg4 (F := Ideal)).win a (1 : Fin (cfg4 a).W)).flush t = true := by
  refine (Pipeline.Window.flush_out _ rfl t).2 ?_
  by_cases e : t.val + 1 = grid4.N
  · exact Or.inl e
  · have hlt := t.isLt
    refine Or.inr ⟨by omega, fun he => ?_⟩
    rw [idx1 a h, idx1 a h] at he
    have h0 : (nOf ⟨t.val + 1, by omega⟩ : ℕ) / 235 = (nOf t : ℕ) / 235 := congrFun he 0
    have h1 : (w (nOf ⟨t.val + 1, by omega⟩) : ℕ) / 28 = (w (nOf t) : ℕ) / 28 := congrFun he 1
    have h3 : (w (nOf ⟨t.val + 1, by omega⟩) : ℕ) % 28 = (w (nOf t) : ℕ) % 28 := congrFun he 3
    have := congrArg Fin.val (inj _ _ h0 (Fin.ext (by omega)))
    simp [nOf] at this

theorem written (n : Fin 470) (p q : Fin 8) (d : Fin 384) :
    (dat a W c).arrAt 1 (cfg4 a).N (cell w n p q d) = W c main_v25 (Idealize.ShloMosaic.ix4 n p q d) := by
  refine (dat a W c).arrAt_forall_of_flushed 1 (fun i v => ∀ (n : Fin 470) (p q : Fin 8) (d : Fin 384), i = cell w n p q d → v = W c main_v25 (Idealize.ShloMosaic.ix4 n p q d))
    (fun t hf y n p q d e => ?_) (cfg4 a).N (pt a n) _ (pt a n).isLt (flush1 a h inj _) ?_ n p q d rfl
  · have e0 := congrArg Fin.val (congrFun e (0 : Fin 6))
    have e1 := congrArg Fin.val (congrFun e (1 : Fin 6))
    have e2 := congrArg Fin.val (congrFun e (2 : Fin 6))
    have e3 := congrArg Fin.val (congrFun e (3 : Fin 6))
    have e4 := congrArg Fin.val (congrFun e (4 : Fin 6))
    have e5 := congrArg Fin.val (congrFun e (5 : Fin 6))
    blk_simp [idx1 a h t, Win.blkAt, cell] at e0 e1 e2 e3 e4 e5
    have en : nOf t = n := inj _ _ e0 (Fin.ext (by have e1' : (w (nOf t) : ℕ) / 28 = (w n : ℕ) / 28 := e1; have e3' : (w (nOf t) : ℕ) % 28 = (w n : ℕ) % 28 := e3; omega))
    subst en
    have ey : y = Idealize.ShloMosaic.ix6 0 0 p 0 q d := by
      funext x
      have b0 := (y (0 : Fin 6)).isLt
      have b1 := (y (1 : Fin 6)).isLt
      have b3 := (y (3 : Fin 6)).isLt
      fin_cases x
      · exact Fin.ext (Nat.lt_one_iff.1 b0)
      · exact Fin.ext (Nat.lt_one_iff.1 b1)
      · exact Fin.ext e2
      · exact Fin.ext (Nat.lt_one_iff.1 b3)
      · exact Fin.ext e4
      · exact Fin.ext e5
    blk_simp
    rw [after_1, ey]
    exact (pay_at _ _).trans (blk_at a W c t p q d)
  · exact Finset.mem_map.2 ⟨_, Finset.mem_univ _, emb_at a h n p q d⟩

omit inj in
theorem kept (j : S2x28x8x28x8x384.Idx) (hno : ∀ n : Fin 470, ¬ ((j 0 : ℕ) = (n : ℕ) / 235 ∧ (j 1 : ℕ) = (w n : ℕ) / 28 ∧ (j 3 : ℕ) = (w n : ℕ) % 28)) :
    (dat a W c).arrAt 1 (cfg4 a).N j = W c main_v26 j := by
  refine (dat a W c).arrAt_apply_of_forall_not_mem 1 (cfg4 a).N j fun t _ _ hi => hno (nOf t) ?_
  obtain ⟨y, -, e⟩ := Finset.mem_map.1 hi
  have e0 := congrArg Fin.val (congrFun e (0 : Fin 6))
  have e1 := congrArg Fin.val (congrFun e (1 : Fin 6))
  have e3 := congrArg Fin.val (congrFun e (3 : Fin 6))
  blk_simp [idx1 a h t, Win.blkAt] at e0 e1 e3
  exact ⟨e0.symm, e1.symm, e3.symm⟩

end Scatter

end Cert.KernelIdeal.Run

end
-- ==== Proof.Val.KernelValue.lean ====
/- What the whole program leaves: the calls' arrays and the reshapes between them, put together. -/
module

public import proofs.«01_k».proof.Proof.Val.Result
public import proofs.«01_k».proof.Proof.Val.Host
public import proofs.«01_k».proof.Proof.Val.Calls
public import proofs.«01_k».proof.Proof.Val.Kv
public import proofs.«01_k».proof.Proof.Val.Arr4

@[expose] public section

set_option maxRecDepth 16384

noncomputable section

namespace Cert.KernelIdeal.Run

open Idealize.ShloMosaic Idealize.ShloMosaic.TcCoe
open Idealize.SL Idealize.SL.Sem
open Cert.KernelIdeal.Gen
open Cert.Spec (Mat IsReal RealMat at5)
open Win (mat row)
open scoped BigOperators

namespace Win

/-- Every row of every window: the window's computation of the block the tables name. -/
theorem final_at (a : (pcfg3 (F := Ideal)).Adm) (W : Dev nD → Valuation τ sig (Elt Ideal)) (c : Dev nD)
    {w : Fin 470 → Fin 784} (h : Holds (a.1 0) (a.1 1) (a.1 2) w) (X : FVec Ideal S2x28x8x28x8x384 .f32) (KV : FVec Ideal S2x64x768 .f32)
    (x6 x7 : FVec Ideal S384x384 .bf16) (x8 : FVec Ideal S1x384 .f32) (x9 : FVec Ideal S384x1152 .bf16) (x10 : FVec Ideal S384x384 .bf16)
    (x11 : FVec Ideal S1x384 .f32) (x12 : FVec Ideal S384x1152 .bf16) (x13 : FVec Ideal S384x384 .bf16) (x14 : FVec Ideal S1x384 .f32)
    (e0 : W c main_v12 = X) (eK : W c main_v11 = KV) (e6 : W c main_v13 = x6) (e7 : W c main_v14 = x7) (e8 : W c main_v15 = x8) (e9 : W c main_v16 = x9)
    (e10 : W c main_v17 = x10) (e11 : W c main_v18 = x11) (e12 : W c main_v19 = x12) (e13 : W c main_v20 = x13) (e14 : W c main_v21 = x14)
    (r0 : ∀ j, IsReal (X j)) (rK : ∀ j, IsReal (KV j)) (r6 : ∀ j, IsReal (x6 j)) (r7 : ∀ j, IsReal (x7 j)) (r8 : ∀ j, IsReal (x8 j)) (r9 : ∀ j, IsReal (x9 j))
    (r10 : ∀ j, IsReal (x10 j)) (r11 : ∀ j, IsReal (x11 j)) (r12 : ∀ j, IsReal (x12 j)) (i : Fin 94) (g : Fin 5) (r : Fin 64) (d : Fin 384) :
    (dat a W c).arrAt 15 (cfg3 a).N (Idealize.ShloMosaic.ix3 i (at5 g r) d)
      = Cert.Spec.window (tileK w X (place i g)) (mat x6)
        (fun t e => KV (Idealize.ShloMosaic.ix3 ⟨(place i g : ℕ) / 235, by omega⟩ t ⟨e, by omega⟩))
        (fun t e => KV (Idealize.ShloMosaic.ix3 ⟨(place i g : ℕ) / 235, by omega⟩ t ⟨384 + e, by omega⟩))
        (mat x7) (row x8) (mat x9) (mat x10) (row x11) (mat x12) (mat x13) (row x14) r d := by
  rw [final]
  show outAt a W c (pt a i) (Idealize.ShloMosaic.ix3 0 (at5 g r) d) = _
  unfold outAt
  rw [blk0 a W c h, blk1 a W c h, blk2 a W c h, blk3 a W c h, blk4 a W c h, blk6, blk7, blk8, blk9, blk10, blk11, blk12, blk13, blk14]
  rw [e0, e6, e7, e8, e9, e10, e11, e12, e13, e14]
  exact out_at w X KV (iblk a W c 5 (pt a i)) x6 x7 x8 x9 x10 x11 x12 x13 x14 i (fun s d => (blk5 a W c h (pt a i) s d).trans (by rw [eK]; rfl))
    r0 rK r6 r7 r8 r9 r10 r11 r12 g r d

end Win

/-! ## The program's arrays one after the other -/

section
variable {m : (ℓ : Loc nD τ sig) → Buf (Elt Ideal) ℓ} {outs : Outs (F := Ideal)} {a3 : (pcfg3 (F := Ideal)).Adm} {a4 : (pcfg4 (F := Ideal)).Adm}
variable (L : Leaves m outs a3 a4) (c : Dev nD)

/-- The windows chosen: those of the greatest scores. -/
def chosen (outs : Outs (F := Ideal)) (c : Dev nD) (b : Fin 2) (k : Fin 235) : Fin 784 := Tab.rank (Tab.row (outs 1 main_v0 c)) b (Tab.pos k)

theorem chosen_inj (b : Fin 2) : Function.Injective (chosen outs c b) := fun k k' e => by
  have := congrArg Fin.val (Tab.rank_inj (F := Ideal) _ b e)
  exact Fin.ext this

/-- The map. -/
abbrev X (m : (ℓ : Loc nD τ sig) → Buf (Elt Ideal) ℓ) (c : Dev nD) : Fin 2 → Fin 384 → Fin 224 → Fin 224 → EReal := Cert.Spec.img (V0 m c main_arg0)

theorem word_small {n : ℕ} (h : n < 1000) : (BitVec.ofNat 32 n).toNat = n := by rw [BitVec.toNat_ofNat]; omega

theorem V9_arg (r : Ref sig .tc) (h : r ∉ [main_v0, main_v10_0, main_v10_1, main_v11] ∧ r ∉ hostOps1_W ∧ r ∉ hostOps1_1_W ∧ r ∉ hostOps1_2_W ∧ r ∉ hostOps1_3_W ∧ r ∉ hostOps1_4_W) :
    V8 m outs c r = V0 m c r ∧ V7 m outs c r = V0 m c r ∧ V5 m outs c r = V0 m c r := by
  obtain ⟨h0, h1, h2, h3, h4, h5⟩ := h
  simp only [List.mem_cons, List.not_mem_nil, or_false, not_or] at h0
  have e5 : V5 m outs c r = V0 m c r := by
    rw [V5_of m outs c r h4, V4_of m outs c r h3, V3_of m outs c r h2, V2_of m outs c r h1, V1_of m outs c r (by simp [h0])]
  have e7 : V7 m outs c r = V0 m c r := by rw [V7_of m outs c r (by simp [h0]), V6_of m outs c r h5, e5]
  exact ⟨by rw [V8_of m outs c r (by simp [h0]), e7], e7, e5⟩

/-- The keys and the values side by side, of a map read pixel by pixel. -/
theorem kv_of (Y : FVec Ideal S2x384x50176 .f32) (wkv : FVec Ideal S384x768 .f32) (Z : Fin 2 → Fin 384 → Fin 224 → Fin 224 → EReal)
    (h : ∀ b d (s : Fin 50176), Y (Idealize.ShloMosaic.ix3 b d s) = Z b d ⟨s / 224, by omega⟩ ⟨s % 224, by omega⟩) (b : Fin 2) (t : Fin 64) (e : Fin 768) :
    Kv.REF (Pool.SUM Y) wkv (Idealize.ShloMosaic.ix3 b t e) = Cert.Spec.mm (Cert.Spec.pooled Z b) (Cert.Spec.matOf wkv) t e := by
  unfold Kv.REF Pool.SUM Cert.Spec.mm Cert.Spec.pooled
  refine Finset.sum_congr rfl fun j _ => congrArg₂ (fun x y : EReal => x * y) (congrArg (fun x : EReal => x * ((784⁻¹ : ℝ) : EReal)) ?_) rfl
  refine Finset.sum_congr rfl fun p _ => Finset.sum_congr rfl fun l _ => ?_
  refine (h b j _).trans (congrArg₂ (Z b j) (Fin.ext ?_) (Fin.ext ?_))
  · show (6272 * ((t : ℕ) / 8) + 224 * (p : ℕ) + 28 * ((t : ℕ) % 8) + l) / 224 = 28 * ((t : ℕ) / 8) + p
    omega
  · show (6272 * ((t : ℕ) / 8) + 224 * (p : ℕ) + 28 * ((t : ℕ) % 8) + l) % 224 = 28 * ((t : ℕ) % 8) + l
    omega

include L

theorem holds3 : Holds (a3.1 0) (a3.1 1) (a3.1 2) (Cert.Spec.listed (chosen outs c)) where
  b n := by
    rw [L.t3 c 0]
    exact (congrArg BitVec.toNat (Tab.tbl_b m outs c (ix1 n))).trans (word_small (by have := n.isLt; simp only [ix1]; omega))
  y n := by
    rw [L.t3 c 1]
    exact (congrArg BitVec.toNat (Tab.tbl_y m outs c (ix1 n))).trans (word_small (by have := (Tab.win outs c n).isLt; simp only [ix1]; omega))
  x n := by
    rw [L.t3 c 2]
    exact (congrArg BitVec.toNat (Tab.tbl_x m outs c (ix1 n))).trans (word_small (by omega))

theorem holds4 : Holds (a4.1 0) (a4.1 1) (a4.1 2) (Cert.Spec.listed (chosen outs c)) where
  b n := by
    rw [L.t4 c 0]
    refine (congrArg BitVec.toNat ((congrFun ?_ (ix1 n)).trans (Tab.tbl_b m outs c (ix1 n)))).trans (word_small (by have := n.isLt; simp only [ix1]; omega))
    exact (V11_of m outs c main_v8 (by decide)).trans (V10_of m outs c main_v8 (by decide))
  y n := by
    rw [L.t4 c 1]
    refine (congrArg BitVec.toNat ((congrFun ?_ (ix1 n)).trans (Tab.tbl_y m outs c (ix1 n)))).trans (word_small (by have := (Tab.win outs c n).isLt; simp only [ix1]; omega))
    exact (V11_of m outs c main_v3 (by decide)).trans (V10_of m outs c main_v3 (by decide))
  x n := by
    rw [L.t4 c 2]
    refine (congrArg BitVec.toNat ((congrFun ?_ (ix1 n)).trans (Tab.tbl_x m outs c (ix1 n)))).trans (word_small (by omega))
    exact (V11_of m outs c main_v5 (by decide)).trans (V10_of m outs c main_v5 (by decide))

/-- The map as the second call reads it. -/
theorem v9_eq (b : Fin 2) (d : Fin 384) (s : Fin 50176) : (V6 m outs c main_v9 : FVec Ideal S2x384x50176 .f32) (Idealize.ShloMosaic.ix3 b d s)
    = X m c b d ⟨s / 224, by omega⟩ ⟨s % 224, by omega⟩ := by
  refine (Host.v9_at _ b d s).trans ?_
  rw [(V9_arg (m := m) (outs := outs) c main_arg0 (by decide)).2.2]
  rfl

theorem v10_0_eq : V8 m outs c main_v10_0 = Pool.REF (V6 m outs c main_v9) := by
  rw [V8_of m outs c main_v10_0 (by decide)]
  exact ((Function.update_of_ne (StableHlo.devRef_ne_of_ne (by decide)) _ _).trans (Function.update_self _ _ _)).trans ((L.o7a c).trans (Pool.final _ c))
theorem v10_1_eq : V7 m outs c main_v10_1 = Pool.SUM (V6 m outs c main_v9) :=
  (Function.update_self _ _ _).trans ((L.o7b c).trans (Pool.final2 _ c))

/-- The map with its windows apart. -/
theorem v12_eq (b : Fin 2) (y : Fin 28) (p : Fin 8) (x : Fin 28) (q : Fin 8) (d : Fin 384) :
    (V9 m outs c main_v12 : FVec Ideal S2x28x8x28x8x384 .f32) (Idealize.ShloMosaic.ix6 b y p x q d)
      = X m c b d ⟨8 * y + p, by omega⟩ ⟨8 * x + q, by omega⟩ := by
  refine (Host.v12_at _ b y p x q d).trans ?_
  rw [v10_0_eq L c]
  refine (v9_eq L c b d _).trans ?_
  exact congrArg₂ (X m c b d) (Fin.ext (show (224 * (8 * (y : ℕ) + p) + (8 * (x : ℕ) + q)) / 224 = 8 * (y : ℕ) + p by omega))
    (Fin.ext (show (224 * (8 * (y : ℕ) + p) + (8 * (x : ℕ) + q)) % 224 = 8 * (x : ℕ) + q by omega))

theorem tile_eq (n : Fin 470) : Win.tileK (Cert.Spec.listed (chosen outs c)) (V9 m outs c main_v12) n
    = Cert.Spec.tile (X m c) ⟨(n : ℕ) / 235, by omega⟩ (Cert.Spec.listed (chosen outs c) n) := by
  funext r d
  exact v12_eq L c _ _ _ _ _ d

theorem v11_eq (b : Fin 2) (t : Fin 64) (e : Fin 768) : (V9 m outs c main_v11 : FVec Ideal S2x64x768 .f32) (Idealize.ShloMosaic.ix3 b t e)
    = Cert.Spec.mm (Cert.Spec.pooled (X m c) b) (Cert.Spec.matOf (V0 m c main_arg3)) t e := by
  have h : V9 m outs c main_v11 = Kv.REF (V7 m outs c main_v10_1) (V7 m outs c main_arg3) := by
    rw [V9_of m outs c main_v11 (by decide)]
    exact (Function.update_self _ _ _).trans ((L.o8 c).trans (Kv.final _ c))
  rw [h, v10_1_eq L c, (V9_arg (m := m) (outs := outs) c main_arg3 (by decide)).2.1]
  exact kv_of _ _ _ (fun b d s => v9_eq L c b d s) b t e

theorem real_X (r0 : ∀ j, IsReal ((V0 m c main_arg0 : FVec Ideal S2x384x224x224 .f32) j)) (j : S2x28x8x28x8x384.Idx) :
    IsReal ((V9 m outs c main_v12 : FVec Ideal S2x28x8x28x8x384 .f32) j) := by
  have hj : j = Idealize.ShloMosaic.ix6 (j 0) (j 1) (j 2) (j 3) (j 4) (j 5) := by funext x; fin_cases x <;> rfl
  rw [hj]
  exact (congrArg IsReal (v12_eq L c _ _ _ _ _ _)).mpr (r0 _)

theorem real_KV (r0 : ∀ j, IsReal ((V0 m c main_arg0 : FVec Ideal S2x384x224x224 .f32) j)) (r3 : ∀ j, IsReal ((V0 m c main_arg3 : FVec Ideal S384x768 .f32) j))
    (j : S2x64x768.Idx) : IsReal ((V9 m outs c main_v11 : FVec Ideal S2x64x768 .f32) j) := by
  have hj : j = Idealize.ShloMosaic.ix3 (j 0) (j 1) (j 2) := by funext x; fin_cases x <;> rfl
  rw [hj]
  refine (congrArg IsReal (v11_eq L c _ _ _)).mpr ?_
  exact RealMat.mm (fun t d => (IsReal.sum _ _ fun h => IsReal.sum _ _ fun l => r0 _).mul ⟨_, rfl⟩) (fun _ _ => r3 _) _ _

/-- The map's windows after the write-back. -/
theorem v26_eq (j : S2x28x8x28x8x384.Idx) : (V12 m outs c main_v26 : FVec Ideal S2x28x8x28x8x384 .f32) j = (Scatter.dat a4 (V11 m outs) c).arrAt 1 (cfg4 a4).N j := by
  have h : V12 m outs c main_v26 = outs 12 main_v26 c :=
    (Function.update_of_ne (StableHlo.devRef_ne_of_ne (by decide)) _ _).trans (Function.update_self _ _ _)
  rw [h, L.o12]

theorem v29_eq (b : Fin 2) (d : Fin 384) (h w : Fin 224) : (V15 m outs c main_v29 : FVec Ideal S2x384x224x224 .f32) (Idealize.ShloMosaic.ix4 b d h w)
    = (V12 m outs c main_v26 : FVec Ideal S2x28x8x28x8x384 .f32)
      (Idealize.ShloMosaic.ix6 b ⟨h / 8, by omega⟩ ⟨h % 8, by omega⟩ ⟨w / 8, by omega⟩ ⟨w % 8, by omega⟩ d : S2x28x8x28x8x384.Idx) := by
  refine (Host.v29_at _ b d h w).trans ?_
  have e : V14 m outs c main_v28 = Back.REF (V13 m outs c main_v27) := (Function.update_self _ _ _).trans ((L.o14 c).trans (Back.final _ c))
  rw [e]
  exact Host.v27_at _ b h w d

/-- A chosen window's entries, -/
theorem v26_in (n : Fin 470) (p q : Fin 8) (d : Fin 384) :
    (V12 m outs c main_v26 : FVec Ideal S2x28x8x28x8x384 .f32) (Scatter.cell (Cert.Spec.listed (chosen outs c)) n p q d)
      = (V10 m outs c main_v22 : FVec Ideal S94x320x384 .f32) (Idealize.ShloMosaic.ix3 ⟨n / 5, by omega⟩ ⟨64 * (n % 5) + (8 * p + q), by omega⟩ d) :=
  (v26_eq L c _).trans ((Scatter.written a4 _ c (holds4 L c) (Cert.Spec.listed_inj (chosen_inj c)) n p q d).trans (Host.v25_at _ n p q d))

/-- and those of the others. -/
theorem v26_out (j : S2x28x8x28x8x384.Idx) (hno : ∀ n : Fin 470, ¬ ((j 0 : ℕ) = (n : ℕ) / 235 ∧ (j 1 : ℕ) = (Cert.Spec.listed (chosen outs c) n : ℕ) / 28
      ∧ (j 3 : ℕ) = (Cert.Spec.listed (chosen outs c) n : ℕ) % 28)) :
    (V12 m outs c main_v26 : FVec Ideal S2x28x8x28x8x384 .f32) j = (V9 m outs c main_v12 : FVec Ideal S2x28x8x28x8x384 .f32) j :=
  (v26_eq L c _).trans ((Scatter.kept a4 _ c (holds4 L c) j hno).trans ((Host.v26_at _ j).trans (congrFun (V10_of m outs c main_v12 (by decide)) j)))

omit L in
/-- The weights as the window call reads them. -/
theorem m13_eq (j : S384x384.Idx) : (V9 m outs c main_v13 : FVec Ideal S384x384 .bf16) j = (V0 m c main_arg2 : FVec Ideal S384x384 .f32) j :=
  (Host.v13_at _ j).trans (congrFun (V9_arg (m := m) (outs := outs) c main_arg2 (by decide)).1 j)
omit L in
theorem m14_eq (j : S384x384.Idx) : (V9 m outs c main_v14 : FVec Ideal S384x384 .bf16) j = (V0 m c main_arg4 : FVec Ideal S384x384 .f32) j :=
  (Host.v14_at _ j).trans (congrFun (V9_arg (m := m) (outs := outs) c main_arg4 (by decide)).1 j)
omit L in
theorem m15_eq (d : Fin 384) : (V9 m outs c main_v15 : FVec Ideal S1x384 .f32) (ix2 0 d) = (V0 m c main_arg5 : FVec Ideal S384 .f32) (ix1 d) :=
  (Host.v15_at _ d).trans (congrFun (V9_arg (m := m) (outs := outs) c main_arg5 (by decide)).1 (ix1 d))
omit L in
theorem m16_eq (j : S384x1152.Idx) : (V9 m outs c main_v16 : FVec Ideal S384x1152 .bf16) j = (V0 m c main_arg6 : FVec Ideal S384x1152 .f32) j :=
  (Host.v16_at _ j).trans (congrFun (V9_arg (m := m) (outs := outs) c main_arg6 (by decide)).1 j)
omit L in
theorem m17_eq (j : S384x384.Idx) : (V9 m outs c main_v17 : FVec Ideal S384x384 .bf16) j = (V0 m c main_arg7 : FVec Ideal S384x384 .f32) j :=
  (Host.v17_at _ j).trans (congrFun (V9_arg (m := m) (outs := outs) c main_arg7 (by decide)).1 j)
omit L in
theorem m18_eq (d : Fin 384) : (V9 m outs c main_v18 : FVec Ideal S1x384 .f32) (ix2 0 d) = (V0 m c main_arg8 : FVec Ideal S384 .f32) (ix1 d) :=
  (Host.v18_at _ d).trans (congrFun (V9_arg (m := m) (outs := outs) c main_arg8 (by decide)).1 (ix1 d))
omit L in
theorem m19_eq (j : S384x1152.Idx) : (V9 m outs c main_v19 : FVec Ideal S384x1152 .bf16) j = (V0 m c main_arg9 : FVec Ideal S384x1152 .f32) j :=
  (Host.v19_at _ j).trans (congrFun (V9_arg (m := m) (outs := outs) c main_arg9 (by decide)).1 j)
omit L in
theorem m20_eq (j : S384x384.Idx) : (V9 m outs c main_v20 : FVec Ideal S384x384 .bf16) j = (V0 m c main_arg10 : FVec Ideal S384x384 .f32) j :=
  (Host.v20_at _ j).trans (congrFun (V9_arg (m := m) (outs := outs) c main_arg10 (by decide)).1 j)
omit L in
theorem m21_eq (d : Fin 384) : (V9 m outs c main_v21 : FVec Ideal S1x384 .f32) (ix2 0 d) = (V0 m c main_arg11 : FVec Ideal S384 .f32) (ix1 d) :=
  (Host.v21_at _ d).trans (congrFun (V9_arg (m := m) (outs := outs) c main_arg11 (by decide)).1 (ix1 d))

omit L in
theorem real_row {x : FVec Ideal S1x384 .f32} {y : FVec Ideal S384 .f32} (h : ∀ d, x (ix2 0 d) = y (ix1 d)) (r : ∀ j, IsReal (y j)) (j : S1x384.Idx) : IsReal (x j) := by
  have hj : j = ix2 0 (j 1) := by
    funext a
    have h0 := (j 0).isLt
    fin_cases a
    · exact Fin.ext (Nat.lt_one_iff.1 h0)
    · rfl
  rw [hj]
  exact (congrArg IsReal (h _)).mpr (r _)

/-- The computed window at place `n` of the chosen ones. -/
theorem win_at (r0 : ∀ j, IsReal ((V0 m c main_arg0 : FVec Ideal S2x384x224x224 .f32) j)) (r2 : ∀ j, IsReal ((V0 m c main_arg2 : FVec Ideal S384x384 .f32) j))
    (r3 : ∀ j, IsReal ((V0 m c main_arg3 : FVec Ideal S384x768 .f32) j)) (r4 : ∀ j, IsReal ((V0 m c main_arg4 : FVec Ideal S384x384 .f32) j))
    (r5 : ∀ j, IsReal ((V0 m c main_arg5 : FVec Ideal S384 .f32) j)) (r6 : ∀ j, IsReal ((V0 m c main_arg6 : FVec Ideal S384x1152 .f32) j))
    (r7 : ∀ j, IsReal ((V0 m c main_arg7 : FVec Ideal S384x384 .f32) j)) (r8 : ∀ j, IsReal ((V0 m c main_arg8 : FVec Ideal S384 .f32) j))
    (r9 : ∀ j, IsReal ((V0 m c main_arg9 : FVec Ideal S384x1152 .f32) j)) (n : Fin 470) (r : Fin 64) (d : Fin 384) :
    (V10 m outs c main_v22 : FVec Ideal S94x320x384 .f32) (Idealize.ShloMosaic.ix3 ⟨n / 5, by omega⟩ ⟨64 * (n % 5) + r, by omega⟩ d)
      = Cert.Spec.window (Cert.Spec.tile (X m c) ⟨(n : ℕ) / 235, by omega⟩ (Cert.Spec.listed (chosen outs c) n)) (Cert.Spec.matOf (V0 m c main_arg2))
        (Cert.Spec.keys (X m c) (Cert.Spec.matOf (V0 m c main_arg3)) ⟨(n : ℕ) / 235, by omega⟩)
        (Cert.Spec.vals (X m c) (Cert.Spec.matOf (V0 m c main_arg3)) ⟨(n : ℕ) / 235, by omega⟩) (Cert.Spec.matOf (V0 m c main_arg4))
        (Cert.Spec.vecOf (V0 m c main_arg5)) (Cert.Spec.matOf (V0 m c main_arg6)) (Cert.Spec.matOf (V0 m c main_arg7)) (Cert.Spec.vecOf (V0 m c main_arg8))
        (Cert.Spec.matOf (V0 m c main_arg9)) (Cert.Spec.matOf (V0 m c main_arg10)) (Cert.Spec.vecOf (V0 m c main_arg11)) r d := by
  have e22 : V10 m outs c main_v22 = (Win.dat a3 (V9 m outs) c).arrAt 15 (cfg3 a3).N := (Function.update_self _ _ _).trans (L.o10 c)
  refine (congrFun e22 _).trans ?_
  have en : place ⟨(n : ℕ) / 5, by omega⟩ ⟨(n : ℕ) % 5, by omega⟩ = n := Fin.ext (show 5 * ((n : ℕ) / 5) + (n : ℕ) % 5 = n by omega)
  refine (Win.final_at a3 (V9 m outs) c (holds3 L c) (V9 m outs c main_v12) (V9 m outs c main_v11) (V9 m outs c main_v13) (V9 m outs c main_v14)
    (V9 m outs c main_v15) (V9 m outs c main_v16) (V9 m outs c main_v17) (V9 m outs c main_v18) (V9 m outs c main_v19) (V9 m outs c main_v20) (V9 m outs c main_v21)
    rfl rfl rfl rfl rfl rfl rfl rfl rfl rfl rfl (real_X L c r0) (real_KV L c r0 r3) (fun j => (congrArg IsReal (m13_eq c j)).mpr (r2 j))
    (fun j => (congrArg IsReal (m14_eq c j)).mpr (r4 j)) (real_row (m15_eq c) r5) (fun j => (congrArg IsReal (m16_eq c j)).mpr (r6 j))
    (fun j => (congrArg IsReal (m17_eq c j)).mpr (r7 j)) (real_row (m18_eq c) r8) (fun j => (congrArg IsReal (m19_eq c j)).mpr (r9 j))
    ⟨(n : ℕ) / 5, by omega⟩ ⟨(n : ℕ) % 5, by omega⟩ r d).trans ?_
  have k1 : ∀ t e, (V9 m outs c main_v11 : FVec Ideal S2x64x768 .f32) (Idealize.ShloMosaic.ix3 ⟨(n : ℕ) / 235, by omega⟩ t e)
      = Cert.Spec.mm (Cert.Spec.pooled (X m c) ⟨(n : ℕ) / 235, by omega⟩) (Cert.Spec.matOf (V0 m c main_arg3)) t e := fun t e => v11_eq L c _ t e
  have eb : (⟨(place ⟨(n : ℕ) / 5, by omega⟩ ⟨(n : ℕ) % 5, by omega⟩ : ℕ) / 235, by omega⟩ : Fin 2) = ⟨(n : ℕ) / 235, by omega⟩ := Fin.ext (congrArg (fun n : Fin 470 => (n : ℕ) / 235) en)
  have ek : ∀ t e, (V9 m outs c main_v11 : FVec Ideal S2x64x768 .f32) (Idealize.ShloMosaic.ix3 ⟨(place ⟨(n : ℕ) / 5, by omega⟩ ⟨(n : ℕ) % 5, by omega⟩ : ℕ) / 235, by omega⟩ t e)
      = Cert.Spec.mm (Cert.Spec.pooled (X m c) ⟨(n : ℕ) / 235, by omega⟩) (Cert.Spec.matOf (V0 m c main_arg3)) t e := fun t e =>
    (congrArg (fun b => (V9 m outs c main_v11 : FVec Ideal S2x64x768 .f32) (Idealize.ShloMosaic.ix3 b t e)) eb).trans (k1 t e)
  exact Cert.Spec.window_congr ((congrArg (Win.tileK (Cert.Spec.listed (chosen outs c)) (V9 m outs c main_v12)) en).trans (tile_eq L c n))
    (funext fun i => funext fun j => m13_eq c _) (funext fun t => funext fun e => ek t _) (funext fun t => funext fun e => ek t _)
    (funext fun i => funext fun j => m14_eq c _) (funext fun j => m15_eq c j) (funext fun i => funext fun j => m16_eq c _)
    (funext fun i => funext fun j => m17_eq c _) (funext fun j => m18_eq c j) (funext fun i => funext fun j => m19_eq c _)
    (funext fun i => funext fun j => m20_eq c _) (funext fun j => m21_eq c j) r d

omit L in
/-- A pixel of a chosen window among the map's windows. -/
theorem cell_of (ch : Fin 2 → Fin 235 → Fin 784) (b : Fin 2) (k : Fin 235) (h w : Fin 224) (d : Fin 384) (hk : ch b k = Cert.Spec.winOf h w) :
    (Idealize.ShloMosaic.ix6 b ⟨h / 8, by omega⟩ ⟨h % 8, by omega⟩ ⟨w / 8, by omega⟩ ⟨w % 8, by omega⟩ d : S2x28x8x28x8x384.Idx)
      = Scatter.cell (Cert.Spec.listed ch) ⟨235 * (b : ℕ) + k, by omega⟩ ⟨h % 8, by omega⟩ ⟨w % 8, by omega⟩ d := by
  have e : (Cert.Spec.listed ch ⟨235 * (b : ℕ) + k, by omega⟩ : ℕ) = 28 * ((h : ℕ) / 8) + (w : ℕ) / 8 := by
    rw [Cert.Spec.listed_at, hk]; rfl
  generalize Cert.Spec.listed ch = l at e
  funext x
  fin_cases x
  · exact Fin.ext (show (b : ℕ) = (235 * (b : ℕ) + k) / 235 by omega)
  · exact Fin.ext (show (h : ℕ) / 8 = (l ⟨235 * (b : ℕ) + k, by omega⟩ : ℕ) / 28 by omega)
  · rfl
  · exact Fin.ext (show (w : ℕ) / 8 = (l ⟨235 * (b : ℕ) + k, by omega⟩ : ℕ) % 28 by omega)
  · rfl
  · rfl

/-- What the program leaves. -/
theorem value (r0 : ∀ j, IsReal ((V0 m c main_arg0 : FVec Ideal S2x384x224x224 .f32) j)) (r2 : ∀ j, IsReal ((V0 m c main_arg2 : FVec Ideal S384x384 .f32) j))
    (r3 : ∀ j, IsReal ((V0 m c main_arg3 : FVec Ideal S384x768 .f32) j)) (r4 : ∀ j, IsReal ((V0 m c main_arg4 : FVec Ideal S384x384 .f32) j))
    (r5 : ∀ j, IsReal ((V0 m c main_arg5 : FVec Ideal S384 .f32) j)) (r6 : ∀ j, IsReal ((V0 m c main_arg6 : FVec Ideal S384x1152 .f32) j))
    (r7 : ∀ j, IsReal ((V0 m c main_arg7 : FVec Ideal S384x384 .f32) j)) (r8 : ∀ j, IsReal ((V0 m c main_arg8 : FVec Ideal S384 .f32) j))
    (r9 : ∀ j, IsReal ((V0 m c main_arg9 : FVec Ideal S384x1152 .f32) j)) (b : Fin 2) (d : Fin 384) (h w : Fin 224) :
    (V15 m outs c main_v29 : FVec Ideal S2x384x224x224 .f32) (Idealize.ShloMosaic.ix4 b d h w)
      = Cert.Spec.result (X m c) (chosen outs c) (Cert.Spec.matOf (V0 m c main_arg2)) (Cert.Spec.matOf (V0 m c main_arg3)) (Cert.Spec.matOf (V0 m c main_arg4))
        (Cert.Spec.vecOf (V0 m c main_arg5)) (Cert.Spec.matOf (V0 m c main_arg6)) (Cert.Spec.matOf (V0 m c main_arg7)) (Cert.Spec.vecOf (V0 m c main_arg8))
        (Cert.Spec.matOf (V0 m c main_arg9)) (Cert.Spec.matOf (V0 m c main_arg10)) (Cert.Spec.vecOf (V0 m c main_arg11)) b d h w := by
  refine (v29_eq L c b d h w).trans ?_
  unfold Cert.Spec.result
  by_cases hk : ∃ k, chosen outs c b k = Cert.Spec.winOf h w
  · rw [if_pos hk]
    obtain ⟨k, hk⟩ := hk
    rw [cell_of (chosen outs c) b k h w d hk]
    refine (v26_in L c _ _ _ d).trans ((win_at L c r0 r2 r3 r4 r5 r6 r7 r8 r9 _ (Cert.Spec.pixOf h w) d).trans ?_)
    rw [Cert.Spec.listed_at, hk]
    have eb : (⟨(235 * (b : ℕ) + k) / 235, by omega⟩ : Fin 2) = b := Fin.ext (show (235 * (b : ℕ) + k) / 235 = b by omega)
    simp only [eb]
  · rw [if_neg hk]
    refine (v26_out L c _ fun n hn => hk ⟨⟨(n : ℕ) % 235, by omega⟩, ?_⟩).trans ?_
    rotate_left
    · refine (v12_eq L c _ _ _ _ _ d).trans ?_
      exact congrArg₂ (X m c b d) (Fin.ext (show 8 * ((h : ℕ) / 8) + (h : ℕ) % 8 = h by omega)) (Fin.ext (show 8 * ((w : ℕ) / 8) + (w : ℕ) % 8 = w by omega))
    · obtain ⟨h0, h1, h3⟩ := hn
      have h0' : (b : ℕ) = (n : ℕ) / 235 := h0
      have h1' : (h : ℕ) / 8 = (Cert.Spec.listed (chosen outs c) n : ℕ) / 28 := h1
      have h3' : (w : ℕ) / 8 = (Cert.Spec.listed (chosen outs c) n : ℕ) % 28 := h3
      have eb : (⟨(n : ℕ) / 235, by omega⟩ : Fin 2) = b := Fin.ext h0'.symm
      have el : Cert.Spec.listed (chosen outs c) n = Cert.Spec.winOf h w :=
        Fin.ext (show (Cert.Spec.listed (chosen outs c) n : ℕ) = 28 * ((h : ℕ) / 8) + (w : ℕ) / 8 by omega)
      rw [← el, ← eb]
      rfl

end

end Cert.KernelIdeal.Run

end
-- ==== Proof.Val.RefOps.lean ====
/- The reference's layers, each read window by window. -/
module

public import proofs.«01_k».proof.Proof.Val.Result
public import proofs.«01_k».proof.Proof.Gen.ReferenceIdeal.Run

@[expose] public section

set_option maxRecDepth 16384

noncomputable section

namespace Cert.ReferenceIdeal.Val

open Cert.ReferenceIdeal Cert.ReferenceIdeal.Gen Idealize.ShloMosaic
open Cert.Spec (Mat IsReal RealMat matOf vecOf)
open scoped BigOperators

/-- Window `n` of the chosen windows. -/
def win3 (A : FVec Ideal S470x64x384 .f32) (n : Fin 470) : Mat 64 384 := fun r c => A (ix3 n r c)

/-- A linear layer, before its activation, -/
def pre (x : FVec Ideal S470x64x384 .f32) (w : FVec Ideal S384x384 .f32) (b : FVec Ideal S384 .f32) : FVec Ideal S470x64x384 .f32 :=
  addf (Host.dotGeneral dot_S470x64x384_S384x384_S470x64x384_2_0_01_1_n_n none x w)
    (broadcastInDim S470x64x384 ![0, 1, 2] bcast_S1x1x384_S470x64x384_0_1_2 (broadcastInDim S1x1x384 ![2] bcast_S384_S1x1x384_2 b))
/-- and with its activation and the window itself. -/
def act (x y : FVec Ideal S470x64x384 .f32) : FVec Ideal S470x64x384 .f32 :=
  addf x (mulf (mulf (broadcastInDim S470x64x384 ![] bcast_S_S470x64x384 (constant S_ .f32 0x3F000000#32)) y)
    (Host.erfc (mulf (Host.negf y) (broadcastInDim S470x64x384 ![] bcast_S_S470x64x384 (constant S_ .f32 0x3F3504F3#32)))))

theorem pre_at (x : FVec Ideal S470x64x384 .f32) (w : FVec Ideal S384x384 .f32) (b : FVec Ideal S384 .f32) (n : Fin 470) (r : Fin 64) (c : Fin 384) :
    pre x w b (ix3 n r c) = Cert.Spec.mm (win3 x n) (matOf w) r c + vecOf b c := by
  pointwise [pre, Cert.Spec.mm, win3, matOf, vecOf]

theorem act_at (x y : FVec Ideal S470x64x384 .f32) (n : Fin 470) (r : Fin 64) (c : Fin 384) :
    act x y (ix3 n r c) = x (ix3 n r c) + Cert.Spec.half * y (ix3 n r c) * Ideal.erfc (-y (ix3 n r c) * Cert.Spec.root) := by
  pointwise [act]
  rfl

theorem lin_eq (x : FVec Ideal S470x64x384 .f32) (w : FVec Ideal S384x384 .f32) (b : FVec Ideal S384 .f32) (n : Fin 470) :
    win3 (act x (pre x w b)) n = Cert.Spec.lin (win3 x n) (matOf w) (vecOf b) := by
  funext r c
  refine (act_at _ _ _ _ _).trans ?_
  rw [pre_at, Cert.Spec.gelu_erfc]
  rfl

/-- The queries, keys and values side by side, -/
def qkv (x : FVec Ideal S470x64x384 .f32) (w : FVec Ideal S384x1152 .f32) : FVec Ideal S470x64x3x384 .f32 :=
  shapeCast _ (Host.dotGeneral dot_S470x64x384_S384x1152_S470x64x1152_2_0_01_1_n_n none x w) shapeCasts_S470x64x1152_S470x64x3x384
/-- the scores of a window's own positions, -/
def scores (q : FVec Ideal S470x64x3x384 .f32) : FVec Ideal S470x64x64 .f32 :=
  mulf (Host.dotGeneral dot_S470x64x384_S470x384x64_S470x64x64_2_1_1_2_0_0 none (shapeCast _ (extractStridedSlice S470x64x1x384 ![0, 0, 0, 0] q slices_S470x64x3x384_S470x64x1x384_0_0_0_0) shapeCasts_S470x64x1x384_S470x64x384) (transpose S470x384x64 [0, 2, 1] (shapeCast _ (extractStridedSlice S470x64x1x384 ![0, 0, 1, 0] q slices_S470x64x3x384_S470x64x1x384_0_0_1_0) shapeCasts_S470x64x1x384_S470x64x384) transposes_S470x64x384_S470x384x64_0_2_1)) (broadcastInDim S470x64x64 ![] bcast_S_S470x64x64 (constant S_ .f32 0x3D5105EC#32))
/-- their exponentials, -/
def exps (s : FVec Ideal S470x64x64 .f32) : FVec Ideal S470x64x64 .f32 :=
  Host.exp (subf s (broadcastInDim S470x64x64 ![0, 1, 2] bcast_S470x64x1_S470x64x64_0_1_2 (broadcastInDim S470x64x1 ![0, 1] bcast_S470x64_S470x64x1_0_1 (maximumf (broadcastInDim S470x64 ![] bcast_S_S470x64 (constant S_ .f32 0xFF800000#32)) (Host.reduce FloatOps.maximumf s (constant S_ .f32 0xFF800000#32) reducesTo_S470x64x64_S470x64_d2 h_S_)))))
/-- and the attention, read channel by channel. -/
def att (x : FVec Ideal S470x64x384 .f32) (q : FVec Ideal S470x64x3x384 .f32) (e : FVec Ideal S470x64x64 .f32) : FVec Ideal S470x64x384 .f32 :=
  addf x (shapeCast _ (transpose S470x384x64 [0, 2, 1] (Host.dotGeneral dot_S470x64x64_S470x64x384_S470x64x384_2_1_1_2_0_0 none (Host.divf e (broadcastInDim S470x64x64 ![0, 1, 2] bcast_S470x64x1_S470x64x64_0_1_2 (broadcastInDim S470x64x1 ![0, 1] bcast_S470x64_S470x64x1_0_1 (Host.reduceAdd e (constant S_ .f32 0x00000000#32) reducesTo_S470x64x64_S470x64_d2 h_S_)))) (shapeCast _ (extractStridedSlice S470x64x1x384 ![0, 0, 2, 0] q slices_S470x64x3x384_S470x64x1x384_0_0_2_0) shapeCasts_S470x64x1x384_S470x64x384)) transposes_S470x64x384_S470x384x64_0_2_1) shapeCasts_S470x384x64_S470x64x384)

theorem qkv_at (x : FVec Ideal S470x64x384 .f32) (w : FVec Ideal S384x1152 .f32) (n : Fin 470) (r : Fin 64) (t : Fin 3) (c : Fin 384) :
    qkv x w (ix4 n r t c) = Cert.Spec.mm (win3 x n) (matOf w) r ⟨384 * t + c, by omega⟩ := by
  pointwise [qkv, Cert.Spec.mm, win3, matOf]
  exact Finset.sum_congr rfl fun j _ => congrArg (fun k => x (ix3 n r j) * w (ix2 j k)) (Fin.ext (by simp only; omega))

theorem scores_at (q : FVec Ideal S470x64x3x384 .f32) (n : Fin 470) (r t : Fin 64) :
    scores q (ix3 n r t) = (∑ e : Fin 384, q (ix4 n r 0 e) * q (ix4 n t 1 e)) * Cert.Spec.scale := by
  pointwise [scores]
  rfl

theorem exps_at (s : FVec Ideal S470x64x64 .f32) (n : Fin 470) (r t : Fin 64) :
    exps s (ix3 n r t) = Ideal.exp (s (ix3 n r t) - Cert.Spec.top fun t => s (ix3 n r t)) := by
  pointwise [exps, Cert.Spec.top]
  rw [Cert.Spec.neg_inf, max_eq_right bot_le]

theorem att_at (x : FVec Ideal S470x64x384 .f32) (q : FVec Ideal S470x64x3x384 .f32) (e : FVec Ideal S470x64x64 .f32) (n : Fin 470) (r : Fin 64) (c : Fin 384) :
    att x q e (ix3 n r c) = x (ix3 n r c) + ∑ t : Fin 64, Ideal.div (e (ix3 n ⟨(c : ℕ) % 64, by omega⟩ t)) (∑ k : Fin 64, e (ix3 n ⟨(c : ℕ) % 64, by omega⟩ k))
      * q (ix4 n t 2 ⟨6 * (r : ℕ) + (c : ℕ) / 64, by omega⟩) := by
  pointwise [att]
  exact congrArg _ (Finset.sum_congr rfl fun t _ => congrArg (fun k => Ideal.div (e (ix3 n ⟨(c : ℕ) % 64, _⟩ t)) (∑ k, e (ix3 n ⟨(c : ℕ) % 64, _⟩ k)) * q (ix4 n t 2 k)) (Fin.ext (by simp only; omega)))

theorem mm_at (x : Mat 64 384) (w : Mat 384 1152) (r : Fin 64) (c c' : Fin 1152) (h : (c : ℕ) = (c' : ℕ)) :
    Cert.Spec.mm x w r c = Cert.Spec.mm x w r c' := congrArg _ (Fin.ext h)

theorem loc_eq (x : FVec Ideal S470x64x384 .f32) (w : FVec Ideal S384x1152 .f32) (n : Fin 470) :
    win3 (att x (qkv x w) (exps (scores (qkv x w)))) n = Cert.Spec.loc (win3 x n) (matOf w) := by
  have hq : ∀ r c, qkv x w (ix4 n r 0 c) = Cert.Spec.mm (win3 x n) (Cert.Spec.qcols (matOf w)) r c := fun r c =>
    (qkv_at x w n r 0 c).trans (mm_at _ _ _ _ ⟨c, by omega⟩ (by simp))
  have hk : ∀ r c, qkv x w (ix4 n r 1 c) = Cert.Spec.mm (win3 x n) (Cert.Spec.kcols (matOf w)) r c := fun r c =>
    (qkv_at x w n r 1 c).trans (mm_at _ _ _ _ ⟨384 + c, by omega⟩ (by simp))
  have hv : ∀ r c, qkv x w (ix4 n r 2 c) = Cert.Spec.mm (win3 x n) (Cert.Spec.vcols (matOf w)) r c := fun r c =>
    (qkv_at x w n r 2 c).trans (mm_at _ _ _ _ ⟨768 + c, by omega⟩ (by simp))
  have hs : ∀ r t, scores (qkv x w) (ix3 n r t) = Cert.Spec.score (Cert.Spec.mm (win3 x n) (Cert.Spec.qcols (matOf w)))
      (Cert.Spec.mm (win3 x n) (Cert.Spec.kcols (matOf w))) r t := fun r t => by
    refine (scores_at _ n r t).trans (congrArg (· * Cert.Spec.scale) (Finset.sum_congr rfl fun e _ => ?_))
    rw [hq, hk]
  have he : ∀ r t, exps (scores (qkv x w)) (ix3 n r t) = Ideal.exp (Cert.Spec.score (Cert.Spec.mm (win3 x n) (Cert.Spec.qcols (matOf w)))
      (Cert.Spec.mm (win3 x n) (Cert.Spec.kcols (matOf w))) r t - Cert.Spec.top (Cert.Spec.score (Cert.Spec.mm (win3 x n) (Cert.Spec.qcols (matOf w)))
      (Cert.Spec.mm (win3 x n) (Cert.Spec.kcols (matOf w))) r)) := fun r t => by
    refine (exps_at _ n r t).trans ?_
    rw [hs, funext (hs r)]
  funext r c
  refine (att_at _ _ _ n r c).trans (congrArg (x (ix3 n r c) + ·) (Finset.sum_congr rfl fun t _ => ?_))
  rw [hv, he, funext (he _)]
  rfl

end Cert.ReferenceIdeal.Val

end
-- ==== Proof.Val.RefFront.lean ====
/- The reference's first layers: the windows, the scores, the pooled keys and values, and the attention against them. -/
module

public import proofs.«01_k».proof.Proof.Val.Result
public import proofs.«01_k».proof.Proof.Gen.ReferenceIdeal.Run
public import proofs.«01_k».proof.Proof.Val.Words

@[expose] public section

set_option maxRecDepth 16384

noncomputable section

namespace Cert.ReferenceIdeal.Val

open Cert.ReferenceIdeal Cert.ReferenceIdeal.Gen Idealize.ShloMosaic
open Cert.Spec (Mat IsReal RealMat matOf vecOf img plane)
open scoped BigOperators

/-- The map cut into windows, -/
def wins (x : FVec Ideal S2x384x224x224 .f32) : FVec Ideal S1568x64x384 .f32 :=
  shapeCast _ (transpose S2x28x28x8x8x384 [0, 1, 3, 2, 4, 5] (shapeCast _ (transpose S2x224x224x384 [0, 2, 3, 1] x transposes_S2x384x224x224_S2x224x224x384_0_2_3_1) shapeCasts_S2x224x224x384_S2x28x8x28x8x384) transposes_S2x28x8x28x8x384_S2x28x28x8x8x384_0_1_3_2_4_5) shapeCasts_S2x28x28x8x8x384_S1568x64x384
/-- and the map put together again, -/
def joined (y : FVec Ideal S1568x64x384 .f32) : FVec Ideal S2x384x224x224 .f32 :=
  transpose S2x384x224x224 [0, 3, 1, 2] (shapeCast _ (transpose S2x28x8x28x8x384 [0, 1, 3, 2, 4, 5] (shapeCast _ y shapeCasts_S1568x64x384_S2x28x28x8x8x384) transposes_S2x28x28x8x8x384_S2x28x8x28x8x384_0_1_3_2_4_5) shapeCasts_S2x28x8x28x8x384_S2x224x224x384) transposes_S2x224x224x384_S2x384x224x224_0_3_1_2
/-- the windows' scores, -/
def means (u : FVec Ideal S2x224x224 .f32) : FVec Ideal S2x784 .f32 :=
  Host.divf (Host.reduceAdd (shapeCast _ (transpose S2x28x28x8x8 [0, 1, 3, 2, 4] (shapeCast _ u shapeCasts_S2x224x224_S2x28x8x28x8) transposes_S2x28x8x28x8_S2x28x28x8x8_0_1_3_2_4) shapeCasts_S2x28x28x8x8_S2x784x64) (constant S_ .f32 0x00000000#32) reducesTo_S2x784x64_S2x784_d2 h_S_) (broadcastInDim S2x784 ![] bcast_S_S2x784 (constant S_ .f32 0x42800000#32))
/-- the pooled map, -/
def pool (x : FVec Ideal S2x384x224x224 .f32) : FVec Ideal S2x64x384 .f32 :=
  transpose S2x64x384 [0, 2, 1] (shapeCast _ (Host.divf (Host.reduceAdd (shapeCast _ x shapeCasts_S2x384x224x224_S2x384x8x28x8x28) (constant S_ .f32 0x00000000#32) reducesTo_S2x384x8x28x8x28_S2x384x8x8_d3_5 h_S_) (broadcastInDim S2x384x8x8 ![] bcast_S_S2x384x8x8 (constant S_ .f32 0x44440000#32))) shapeCasts_S2x384x8x8_S2x384x64) transposes_S2x384x64_S2x64x384_0_2_1
/-- its keys and values, -/
def kv (p : FVec Ideal S2x64x384 .f32) (w : FVec Ideal S384x768 .f32) : FVec Ideal S2x64x2x384 .f32 :=
  shapeCast _ (Host.dotGeneral dot_S2x64x384_S384x768_S2x64x768_2_0_01_1_n_n none p w) shapeCasts_S2x64x768_S2x64x2x384
/-- the chosen windows' scores against the keys, -/
def gscores (x : FVec Ideal S470x64x384 .f32) (w : FVec Ideal S384x384 .f32) (k : FVec Ideal S2x64x2x384 .f32) : FVec Ideal S2x15040x64 .f32 :=
  mulf (Host.dotGeneral dot_S2x15040x384_S2x384x64_S2x15040x64_2_1_1_2_0_0 none (shapeCast _ (Host.dotGeneral dot_S470x64x384_S384x384_S470x64x384_2_0_01_1_n_n none x w) shapeCasts_S470x64x384_S2x15040x384) (transpose S2x384x64 [0, 2, 1] (shapeCast _ (extractStridedSlice S2x64x1x384 ![0, 0, 0, 0] k slices_S2x64x2x384_S2x64x1x384_0_0_0_0) shapeCasts_S2x64x1x384_S2x64x384) transposes_S2x64x384_S2x384x64_0_2_1)) (broadcastInDim S2x15040x64 ![] bcast_S_S2x15040x64 (constant S_ .f32 0x3D5105EC#32))
/-- their exponentials, -/
def gexps (s : FVec Ideal S2x15040x64 .f32) : FVec Ideal S2x15040x64 .f32 :=
  Host.exp (subf s (broadcastInDim S2x15040x64 ![0, 1, 2] bcast_S2x15040x1_S2x15040x64_0_1_2 (broadcastInDim S2x15040x1 ![0, 1] bcast_S2x15040_S2x15040x1_0_1 (maximumf (broadcastInDim S2x15040 ![] bcast_S_S2x15040 (constant S_ .f32 0xFF800000#32)) (Host.reduce FloatOps.maximumf s (constant S_ .f32 0xFF800000#32) reducesTo_S2x15040x64_S2x15040_d2 h_S_)))))
/-- and the attention. -/
def gatt (x : FVec Ideal S470x64x384 .f32) (k : FVec Ideal S2x64x2x384 .f32) (e : FVec Ideal S2x15040x64 .f32) : FVec Ideal S470x64x384 .f32 :=
  addf x (shapeCast _ (Host.dotGeneral dot_S2x15040x64_S2x64x384_S2x15040x384_2_1_1_2_0_0 none (Host.divf e (broadcastInDim S2x15040x64 ![0, 1, 2] bcast_S2x15040x1_S2x15040x64_0_1_2 (broadcastInDim S2x15040x1 ![0, 1] bcast_S2x15040_S2x15040x1_0_1 (Host.reduceAdd e (constant S_ .f32 0x00000000#32) reducesTo_S2x15040x64_S2x15040_d2 h_S_)))) (shapeCast _ (extractStridedSlice S2x64x1x384 ![0, 0, 1, 0] k slices_S2x64x2x384_S2x64x1x384_0_0_1_0) shapeCasts_S2x64x1x384_S2x64x384)) shapeCasts_S2x15040x384_S470x64x384)

/-- Reads of an array at equal coordinates. -/
theorem at4 {a b c d : ℕ} (x : FVec Ideal ⟨4, ![a, b, c, d]⟩ .f32) {i i' : Fin a} {j j' : Fin b} {k k' : Fin c} {l l' : Fin d} (hi : (i : ℕ) = i') (hj : (j : ℕ) = j')
    (hk : (k : ℕ) = k') (hl : (l : ℕ) = l') : x (ix4 i j k l) = x (ix4 i' j' k' l') := by
  cases Fin.ext hi; cases Fin.ext hj; cases Fin.ext hk; cases Fin.ext hl; rfl
theorem at3 {a b c : ℕ} (x : FVec Ideal ⟨3, ![a, b, c]⟩ .f32) {i i' : Fin a} {j j' : Fin b} {k k' : Fin c} (hi : (i : ℕ) = i') (hj : (j : ℕ) = j')
    (hk : (k : ℕ) = k') : x (ix3 i j k) = x (ix3 i' j' k') := by
  cases Fin.ext hi; cases Fin.ext hj; cases Fin.ext hk; rfl
theorem at2 {a b : ℕ} (x : FVec Ideal ⟨2, ![a, b]⟩ .f32) {i i' : Fin a} {j j' : Fin b} (hi : (i : ℕ) = i') (hj : (j : ℕ) = j') : x (ix2 i j) = x (ix2 i' j') := by
  cases Fin.ext hi; cases Fin.ext hj; rfl

/-- A sum over sixty-four, eight by eight. -/
theorem sum64 (f : Fin 64 → EReal) : ∑ x, f x = ∑ p : Fin 8, ∑ q : Fin 8, f ⟨8 * (p : ℕ) + q, by omega⟩ := by
  rw [← (finProdFinEquiv (m := 8) (n := 8)).sum_comp f, Fintype.sum_prod_type]
  exact Finset.sum_congr rfl fun p _ => Finset.sum_congr rfl fun q _ => congrArg f (Fin.ext (Nat.add_comm _ _))

/-- The sum over the fourth and the sixth axis. -/
theorem reduce35 (v : S2x384x8x28x8x28.Idx → EReal) (b : Fin 2) (d : Fin 384) (p q : Fin 8) :
    Ideal.hostReduceAdd reducesTo_S2x384x8x28x8x28_S2x384x8x8_d3_5 v 0 (ix4 b d p q)
      = ∑ h : Fin 28, ∑ l : Fin 28, v (Idealize.ShloMosaic.ix6 b d p h q l) := by
  have hf : ∀ i : S2x384x8x28x8x28.Idx, (reducesTo_S2x384x8x28x8x28_S2x384x8x8_d3_5).drop i = ix4 b d p q
      ↔ ∃ k : Fin 28 × Fin 28, Idealize.ShloMosaic.ix6 b d p k.1 q k.2 = i := fun i => by
    constructor
    · intro e
      refine ⟨(i 3, i 5), ?_⟩
      funext a
      apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext a
      apply Fin.ext
      match a with
      | ⟨0, _⟩ => rfl
      | ⟨1, _⟩ => rfl
      | ⟨2, _⟩ => rfl
      | ⟨3, _⟩ => rfl
  refine (zero_add _).trans ?_
  refine (Finset.sum_filter_eq_sum_of_fiber _ (fun k : Fin 28 × Fin 28 => Idealize.ShloMosaic.ix6 b d p k.1 q k.2)
    (fun _ _ e => Prod.ext (congrFun e 3) (congrFun e 5)) hf v).trans ?_
  exact Fintype.sum_prod_type _

theorem split6 (x : FVec Ideal S2x384x224x224 .f32) (b : Fin 2) (d : Fin 384) (p h q l : ℕ) (hp : p < 8) (hh : h < 28) (hq : q < 8) (hl : l < 28) :
    shapeCast S2x384x8x28x8x28 x shapeCasts_S2x384x224x224_S2x384x8x28x8x28 (Idealize.ShloMosaic.ix6 b d ⟨p, hp⟩ ⟨h, hh⟩ ⟨q, hq⟩ ⟨l, hl⟩)
      = x (ix4 b d ⟨28 * p + h, by omega⟩ ⟨28 * q + l, by omega⟩) := by
  pointwise
  exact at4 x rfl rfl (by simp only; omega) (by simp only; omega)

theorem wins_at (x : FVec Ideal S2x384x224x224 .f32) (s : Fin 1568) (r : Fin 64) (c : Fin 384) :
    wins x (ix3 s r c) = Cert.Spec.tile (img x) ⟨(s : ℕ) / 784, by omega⟩ ⟨(s : ℕ) % 784, by omega⟩ r c := by
  pointwise [wins, Cert.Spec.tile, img]
  exact at4 x rfl rfl (by simp only; omega) (by simp only; omega)

theorem joined_at (y : FVec Ideal S1568x64x384 .f32) (b : Fin 2) (d : Fin 384) (h w : Fin 224) :
    joined y (ix4 b d h w) = y (ix3 ⟨784 * (b : ℕ) + Cert.Spec.winOf h w, by omega⟩ (Cert.Spec.pixOf h w) d) := by
  pointwise [joined]
  exact at3 y (by simp only [Cert.Spec.winOf]; omega) (by simp only [Cert.Spec.pixOf]; omega) rfl

theorem means_at (u : FVec Ideal S2x224x224 .f32) (b : Fin 2) (w : Fin 784) :
    means u (ix2 b w) = Ideal.div (Cert.Spec.area (plane u) b w) (Ideal.ofBits .f32 0x42800000#32) := by
  pointwise [means]
  refine congrArg (Ideal.div · _) ((sum64 _).trans (Finset.sum_congr rfl fun p _ => Finset.sum_congr rfl fun q _ => ?_))
  exact at3 u rfl (by simp only; omega) (by simp only; omega)

theorem pool_at (x : FVec Ideal S2x384x224x224 .f32) (b : Fin 2) (t : Fin 64) (d : Fin 384) :
    pool x (ix3 b t d) = Cert.Spec.pooled (img x) b t d := by
  pointwise [pool, Cert.Spec.pooled, img]
  rw [reduce35, Cert.Spec.bits_784, Ideal.div_coe (by norm_num), one_div]
  refine congrArg (· * _) (Finset.sum_congr rfl fun h _ => Finset.sum_congr rfl fun l _ => ?_)
  exact split6 x b d ((t : ℕ) / 8) h ((t : ℕ) % 8) l _ h.isLt _ l.isLt

theorem kv_at (p : FVec Ideal S2x64x384 .f32) (w : FVec Ideal S384x768 .f32) (b : Fin 2) (t : Fin 64) (o : Fin 2) (d : Fin 384) :
    kv p w (ix4 b t o d) = Cert.Spec.mm (fun t c => p (ix3 b t c)) (matOf w) t ⟨384 * o + d, by omega⟩ := by
  pointwise [kv, Cert.Spec.mm, matOf]
  exact Finset.sum_congr rfl fun j _ => congrArg (p (ix3 b t j) * ·) (at2 w rfl (by simp only; omega))

theorem gscores_at (x : FVec Ideal S470x64x384 .f32) (w : FVec Ideal S384x384 .f32) (k : FVec Ideal S2x64x2x384 .f32) (b : Fin 2) (l : Fin 15040) (t : Fin 64) :
    gscores x w k (ix3 b l t) = (∑ e : Fin 384, (∑ j : Fin 384, x (ix3 ⟨235 * (b : ℕ) + (l : ℕ) / 64, by omega⟩ ⟨(l : ℕ) % 64, by omega⟩ j) * w (ix2 j e))
      * k (ix4 b t 0 e)) * Cert.Spec.scale := by
  pointwise [gscores]
  exact congrArg (· * _) (Finset.sum_congr rfl fun e _ => congrArg (· * _) (Finset.sum_congr rfl fun j _ => congrArg (· * _) (at3 x (by simp only; omega) rfl rfl)))

theorem gexps_at (s : FVec Ideal S2x15040x64 .f32) (b : Fin 2) (l : Fin 15040) (t : Fin 64) :
    gexps s (ix3 b l t) = Ideal.exp (s (ix3 b l t) - Cert.Spec.top fun t => s (ix3 b l t)) := by
  pointwise [gexps, Cert.Spec.top]
  rw [Cert.Spec.neg_inf, max_eq_right bot_le]

theorem gatt_at (x : FVec Ideal S470x64x384 .f32) (k : FVec Ideal S2x64x2x384 .f32) (e : FVec Ideal S2x15040x64 .f32) (n : Fin 470) (r : Fin 64) (c : Fin 384) :
    gatt x k e (ix3 n r c) = x (ix3 n r c) + ∑ t : Fin 64,
      Ideal.div (e (ix3 ⟨(n : ℕ) / 235, by omega⟩ ⟨64 * ((n : ℕ) % 235) + r, by omega⟩ t))
        (∑ k : Fin 64, e (ix3 ⟨(n : ℕ) / 235, by omega⟩ ⟨64 * ((n : ℕ) % 235) + r, by omega⟩ k))
      * k (ix4 ⟨(n : ℕ) / 235, by omega⟩ t 1 c) := by
  pointwise [gatt]
  have he : ∀ z, e (ix3 ⟨(n : ℕ) / 235, by omega⟩ ⟨(n : ℕ) % 235 * 64 + r, by omega⟩ z) = e (ix3 ⟨(n : ℕ) / 235, by omega⟩ ⟨64 * ((n : ℕ) % 235) + r, by omega⟩ z) :=
    fun z => at3 e rfl (by simp only; omega) rfl
  simp only [he]

theorem mm_wide (x : Mat 64 384) (w : Mat 384 768) (r : Fin 64) (c c' : Fin 768) (h : (c : ℕ) = (c' : ℕ)) :
    Cert.Spec.mm x w r c = Cert.Spec.mm x w r c' := congrArg _ (Fin.ext h)

theorem glob_eq (x : FVec Ideal S470x64x384 .f32) (w : FVec Ideal S384x384 .f32) (p : FVec Ideal S2x384x224x224 .f32) (wkv : FVec Ideal S384x768 .f32)
    (n : Fin 470) (b : Fin 2) (hb : (b : ℕ) = (n : ℕ) / 235) :
    (fun r c => gatt x (kv (pool p) wkv) (gexps (gscores x w (kv (pool p) wkv))) (ix3 n r c))
      = Cert.Spec.glob (fun r c => x (ix3 n r c)) (matOf w) (Cert.Spec.keys (img p) (matOf wkv) b) (Cert.Spec.vals (img p) (matOf wkv) b) := by
  have hbn : (⟨(n : ℕ) / 235, by omega⟩ : Fin 2) = b := Fin.ext hb.symm
  have hp : (fun t c => pool p (ix3 b t c)) = Cert.Spec.pooled (img p) b := funext fun t => funext fun c => pool_at p b t c
  have hk : ∀ t c, kv (pool p) wkv (ix4 b t 0 c) = Cert.Spec.keys (img p) (matOf wkv) b t c := fun t c => by
    refine (kv_at _ _ b t 0 c).trans ?_
    rw [hp]
    exact mm_wide _ _ _ _ _ (by simp)
  have hv : ∀ t c, kv (pool p) wkv (ix4 b t 1 c) = Cert.Spec.vals (img p) (matOf wkv) b t c := fun t c => by
    refine (kv_at _ _ b t 1 c).trans ?_
    rw [hp]
    exact mm_wide _ _ _ _ _ (by simp)
  have hs : ∀ r t, gscores x w (kv (pool p) wkv) (ix3 b ⟨64 * ((n : ℕ) % 235) + (r : Fin 64), by omega⟩ t)
      = Cert.Spec.score (Cert.Spec.mm (fun r c => x (ix3 n r c)) (matOf w)) (Cert.Spec.keys (img p) (matOf wkv) b) r t := fun r t => by
    refine (gscores_at _ _ _ b _ t).trans (congrArg (· * Cert.Spec.scale) (Finset.sum_congr rfl fun e _ => ?_))
    rw [hk]
    exact congrArg (· * _) (Finset.sum_congr rfl fun j _ => congrArg (· * _) (at3 x (by simp only; omega) (by simp only; omega) rfl))
  have he : ∀ r t, gexps (gscores x w (kv (pool p) wkv)) (ix3 b ⟨64 * ((n : ℕ) % 235) + (r : Fin 64), by omega⟩ t)
      = Ideal.exp (Cert.Spec.score (Cert.Spec.mm (fun r c => x (ix3 n r c)) (matOf w)) (Cert.Spec.keys (img p) (matOf wkv) b) r t
        - Cert.Spec.top (Cert.Spec.score (Cert.Spec.mm (fun r c => x (ix3 n r c)) (matOf w)) (Cert.Spec.keys (img p) (matOf wkv) b) r)) := fun r t => by
    refine (gexps_at _ b _ t).trans ?_
    rw [hs, funext (hs r)]
  funext r c
  refine (gatt_at _ _ _ n r c).trans (congrArg (x (ix3 n r c) + ·) (Finset.sum_congr rfl fun t _ => ?_))
  rw [hbn, hv, he, funext (he _)]
  rfl

end Cert.ReferenceIdeal.Val

end
-- ==== Proof.Val.RefScatter.lean ====
/- The reference's gather of the chosen windows, and its scatter of the computed ones back. -/
module

public import proofs.«01_k».proof.Proof.Val.Result
public import proofs.«01_k».proof.Proof.Gen.ReferenceIdeal.Run
public import Idealize.ShloMosaic.Lib.Routing.OpsPair
public import Idealize.ShloMosaic.Lib.Routing.OpsSet

@[expose] public section

set_option maxRecDepth 16384

noncomputable section

namespace Cert.ReferenceIdeal.Val

open Cert.ReferenceIdeal Cert.ReferenceIdeal.Gen Idealize.ShloMosaic
open scoped BigOperators

/-- A word that holds a window's number, read signed. -/
theorem toInt_word (s : ℕ) (h : s < 1568) : (BitVec.ofNat 32 s).toInt = (s : ℤ) := by
  rw [BitVec.toInt_eq_toNat_of_lt (by rw [BitVec.toNat_ofNat]; omega), BitVec.toNat_ofNat, Nat.mod_eq_of_lt (by omega)]

/-- The gather of rows, its index in range. -/
theorem gather_at (x : FVec Ideal S1568x64x384 .f32) (idx : IVec S470x1 32) (n : Fin 470) (s : Fin 1568) (h : idx (ix2 n 0) = BitVec.ofNat 32 s)
    (r : Fin 64) (c : Fin 384) :
    Host.gather gather_S1568x64x384_S470x1_S470x64x384_12_0_n_n_0_1_164384 x idx (ix3 n r c) = x (ix3 s r c) := by
  have hs : gather_S1568x64x384_S470x1_S470x64x384_12_0_n_n_0_1_164384.siIdx (ix3 n r c) ⟨0, by decide⟩ = ix2 n 0 := by
    funext b
    match b with
    | ⟨0, _⟩ => rfl
    | ⟨1, _⟩ => rfl
  unfold Host.gather
  refine congrArg x (funext fun a => Fin.ext ?_)
  match a with
  | ⟨0, _⟩ =>
    show min (idx (gather_S1568x64x384_S470x1_S470x64x384_12_0_n_n_0_1_164384.siIdx (ix3 n r c) ⟨0, by decide⟩)).toInt.toNat (1568 - 1) + 0 + 0 = s.val
    rw [hs, h, toInt_word _ s.isLt]
    have := s.isLt
    omega
  | ⟨1, _⟩ => exact Nat.zero_add _
  | ⟨2, _⟩ => exact Nat.zero_add _

/-- Where an update lands. -/
theorem lands (idx : IVec S470x1 32) (n : Fin 470) (r : Fin 64) (c : Fin 384) (s s' : Fin 1568) (r' : Fin 64) (c' : Fin 384)
    (h : idx (ix2 n 0) = BitVec.ofNat 32 s) :
    scatter_S1568x64x384_S470x1_S470x64x384_12_0_0_1.resultIdx? (ix3 n r c) idx = some (ix3 s' r' c') ↔ s = s' ∧ r = r' ∧ c = c' := by
  have hs : scatter_S1568x64x384_S470x1_S470x64x384_12_0_0_1.siIdx (ix3 n r c) ⟨0, by decide⟩ = ix2 n 0 := by
    funext b
    match b with
    | ⟨0, _⟩ => rfl
    | ⟨1, _⟩ => rfl
  have e0 : scatter_S1568x64x384_S470x1_S470x64x384_12_0_0_1.start (ix3 n r c) idx 0 = (s : ℤ) := by
    show (idx (scatter_S1568x64x384_S470x1_S470x64x384_12_0_0_1.siIdx (ix3 n r c) ⟨0, by decide⟩)).toInt = _
    rw [hs, h, toInt_word _ s.isLt]
  rw [Routing.resultIdx?_eq_some]
  constructor
  · intro q
    have q0 := q 0
    have q1 := q 1
    have q2 := q 2
    rw [e0] at q0
    change (s : ℤ) + ((0 : ℕ) : ℤ) = (s' : ℕ) at q0
    change (0 : ℤ) + ((r : ℕ) : ℤ) = (r' : ℕ) at q1
    change (0 : ℤ) + ((c : ℕ) : ℤ) = (c' : ℕ) at q2
    exact ⟨Fin.ext (by omega), Fin.ext (by omega), Fin.ext (by omega)⟩
  · rintro ⟨rfl, rfl, rfl⟩ a
    match a with
    | ⟨0, _⟩ => exact (congrArg (· + ((0 : ℕ) : ℤ)) e0).trans (add_zero _)
    | ⟨1, _⟩ => exact zero_add _
    | ⟨2, _⟩ => exact zero_add _

/-- The scatter, its indices in range and distinct: the update where a window is named, -/
theorem scatter_hit (x : FVec Ideal S1568x64x384 .f32) (idx : IVec S470x1 32) (upd : FVec Ideal S470x64x384 .f32) (f : Fin 470 → Fin 1568)
    (hf : Function.Injective f) (h : ∀ n, idx (ix2 n 0) = BitVec.ofNat 32 (f n)) (n : Fin 470) (r : Fin 64) (c : Fin 384) :
    Host.scatter scatter_S1568x64x384_S470x1_S470x64x384_12_0_0_1 (fun _ b => b) x idx upd (ix3 (f n) r c) = upd (ix3 n r c) := by
  refine Routing.scatter_set_hit _ _ _ _ _ _ (fun k hk => ?_) (ix3 n r c) ((lands idx n r c (f n) (f n) r c (h n)).2 ⟨rfl, rfl, rfl⟩)
  obtain ⟨e0, e1, e2⟩ := (lands idx (k 0) (k 1) (k 2) (f (k 0)) (f n) r c (h (k 0))).1 (by
    rw [← hk]; exact congrArg (fun k => scatter_S1568x64x384_S470x1_S470x64x384_12_0_0_1.resultIdx? k idx) (ix3_eta k))
  refine congrArg upd ?_
  rw [← ix3_eta k, e1, e2, hf e0]

/-- the operand elsewhere. -/
theorem scatter_miss (x : FVec Ideal S1568x64x384 .f32) (idx : IVec S470x1 32) (upd : FVec Ideal S470x64x384 .f32) (f : Fin 470 → Fin 1568)
    (h : ∀ n, idx (ix2 n 0) = BitVec.ofNat 32 (f n)) (s : Fin 1568) (hs : ∀ n, f n ≠ s) (r : Fin 64) (c : Fin 384) :
    Host.scatter scatter_S1568x64x384_S470x1_S470x64x384_12_0_0_1 (fun _ b => b) x idx upd (ix3 s r c) = x (ix3 s r c) := by
  refine Routing.scatter_set_miss _ _ _ _ _ (fun k hk => ?_)
  exact hs (k 0) ((lands idx (k 0) (k 1) (k 2) (f (k 0)) s r c (h (k 0))).1 (by
    rw [← hk]; exact congrArg (fun k => scatter_S1568x64x384_S470x1_S470x64x384_12_0_0_1.resultIdx? k idx) (ix3_eta k))).1

end Cert.ReferenceIdeal.Val

end
-- ==== Proof.Val.RefPick.lean ====
/- The windows the reference chooses, and the words that name them. -/
module

public import proofs.«01_k».proof.Proof.Val.RefScatter
public import proofs.«01_k».proof.Proof.KI.Tables

@[expose] public section

set_option maxRecDepth 16384

noncomputable section

namespace Cert.ReferenceIdeal.Val

open Cert.ReferenceIdeal Cert.ReferenceIdeal.Gen Idealize.ShloMosaic
open Cert.KernelIdeal.Run (Tab.order Tab.pos)
open scoped BigOperators

/-- The windows chosen by a table of scores. -/
def chosenBy (y : FVec Ideal S2x784 .f32) (b : Fin 2) (k : Fin 235) : Fin 784 := Tab.order (FloatOps.cmpfTotal .gt) y b (Tab.pos k)

theorem order_inj {α : Type} {r n : ℕ} (gt : α → α → BitVec 1) (x : (⟨2, ![r, n]⟩ : Shape).Idx → α) (b : Fin r) : Function.Injective (Tab.order gt x b) :=
  sortedFrom_injective _

theorem chosenBy_inj (y : FVec Ideal S2x784 .f32) (b : Fin 2) : Function.Injective (chosenBy y b) := fun k k' h =>
  Fin.ext (congrArg (fun p : Fin 784 => (p : ℕ)) (order_inj _ _ b h))

/-- The numbers of the chosen windows among all of both entries' windows, -/
def place (T : IVec S2x235 32) : IVec S470 32 :=
  shapeCast _ (addi T (broadcastInDim S2x235 ![0, 1] bcast_S2x1_S2x235_0_1 (broadcastInDim S2x1 ![0] bcast_S2_S2x1_0 (addi (broadcastInDim S2 ![] bcast_S_S2 (constantI S_ 32 0#32)) (muli (broadcastInDim S2 ![] bcast_S_S2 (constantI S_ 32 784#32)) (iotaInDim S2 32 0)))))) shapeCasts_S2x235_S470
/-- negative numbers counted from the end, -/
def wrapped (p : IVec S470 32) : IVec S470x1 32 :=
  broadcastInDim S470x1 ![0] bcast_S470_S470x1_0 (select (cmpi .slt p (broadcastInDim S470 ![] bcast_S_S470 (constantI S_ 32 0#32))) (addi p (broadcastInDim S470 ![] bcast_S_S470 (constantI S_ 32 1568#32))) p)
/-- and the windows they name. -/
def taken (x : FVec Ideal S1568x64x384 .f32) (i : IVec S470x1 32) : FVec Ideal S470x64x384 .f32 :=
  select (broadcastInDim S470x64x384 ![0] bcast_S470_S470x64x384_0 (Host.reduce IntOp.andi (andi (cmpi .sge i (broadcastInDim S470x1 ![] bcast_S_S470x1 (constantI S_ 32 0#32))) (cmpi .sle i (broadcastInDim S470x1 ![0, 1] bcast_S1x1_S470x1_0_1 (broadcastInDim S1x1 ![1] bcast_S1_S1x1_1 (constantI S1 32 1567#32))))) (constantI S_ 1 1#1) reducesTo_S470x1_S470_d1 h_S_)) (Host.gather gather_S1568x64x384_S470x1_S470x64x384_12_0_n_n_0_1_164384 x i) (broadcastInDim S470x64x384 ![] bcast_S_S470x64x384 (constant S_ .f32 0x7FC00000#32))

/-- Place `n` of the list, among all of both entries' windows. -/
def spot (ch : Fin 2 → Fin 235 → Fin 784) (n : Fin 470) : Fin 1568 := ⟨784 * ((n : ℕ) / 235) + Cert.Spec.listed ch n, by omega⟩

theorem spot_inj {ch : Fin 2 → Fin 235 → Fin 784} (hc : ∀ b, Function.Injective (ch b)) : Function.Injective (spot ch) := fun n n' h => by
  have h' := congrArg Fin.val h
  simp only [spot] at h'
  have h1 := (Cert.Spec.listed ch n).isLt
  have h2 := (Cert.Spec.listed ch n').isLt
  exact Cert.Spec.listed_inj hc n n' (by omega) (Fin.ext (by omega))

theorem place_at (ch : Fin 2 → Fin 235 → Fin 784) (T : IVec S2x235 32) (hT : ∀ b k, T (ix2 b k) = BitVec.ofNat 32 (ch b k)) (n : Fin 470) :
    place T (ix1 n) = BitVec.ofNat 32 (spot ch n) := by
  pointwise [place]
  rw [hT]
  show BitVec.ofNat 32 (Cert.Spec.listed ch n) + (0#32 + BitVec.ofNat 32 784 * BitVec.ofNat 32 ((n : ℕ) / 235)) = BitVec.ofNat 32 (784 * ((n : ℕ) / 235) + Cert.Spec.listed ch n)
  rw [BitVec.ofNat_add, BitVec.ofNat_mul, BitVec.zero_add, BitVec.add_comm]

theorem wrapped_at (p : IVec S470 32) (n : Fin 470) (s : Fin 1568) (h : p (ix1 n) = BitVec.ofNat 32 s) : wrapped p (ix2 n 0) = BitVec.ofNat 32 s := by
  pointwise [wrapped]
  rw [h]
  refine (Routing.wrap_of_lt _ _ ?_)
  rw [BitVec.toNat_ofNat]
  have := s.isLt
  omega

theorem in_range (s : Fin 1568) : IntOp.andi (IntOp.cmpi .sge (BitVec.ofNat 32 s) 0#32) (IntOp.cmpi .sle (BitVec.ofNat 32 s) 1567#32) = 1#1 := by
  revert s; decide +kernel

theorem taken_at (x : FVec Ideal S1568x64x384 .f32) (i : IVec S470x1 32) (n : Fin 470) (s : Fin 1568) (h : i (ix2 n 0) = BitVec.ofNat 32 s)
    (r : Fin 64) (c : Fin 384) : taken x i (ix3 n r c) = x (ix3 s r c) := by
  have hg := gather_at x i n s h r c
  unfold taken
  generalize Host.gather gather_S1568x64x384_S470x1_S470x64x384_12_0_n_n_0_1_164384 x i = G at hg ⊢
  pointwise
  have hr : Finset.fold IntOp.andi (1#1) (fun z : Fin 1 => IntOp.andi (IntOp.cmpi .sge (i (ix2 n z)) 0#32) (IntOp.cmpi .sle (i (ix2 n z)) 1567#32)) Finset.univ = 1#1 := by
    rw [Finset.univ_unique, Finset.fold_singleton]
    show IntOp.andi (IntOp.andi (IntOp.cmpi .sge (i (ix2 n 0)) 0#32) (IntOp.cmpi .sle (i (ix2 n 0)) 1567#32)) 1#1 = 1#1
    rw [h, in_range]
    rfl
  rw [hr]
  exact hg

theorem topK_at (y : FVec Ideal S2x784 .f32) (b : Fin 2) (k : Fin 235) :
    (Host.topK S2x235 1 (FloatOps.cmpfTotal .gt) y sliceFits_S2x784_S2x235).2 (ix2 b k) = BitVec.ofNat 32 (chosenBy y b k) :=
  Cert.KernelIdeal.Run.Tab.topK_positions (by norm_num) _ y _ (ix2 b k)

end Cert.ReferenceIdeal.Val

end
-- ==== Proof.Val.RefValue.lean ====
/- The reference's result is the whole program's mathematics. -/
module

public import proofs.«01_k».proof.Proof.Val.RefOps
public import proofs.«01_k».proof.Proof.Val.RefFront
public import proofs.«01_k».proof.Proof.Val.RefPick

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo
open Cert.Spec (Mat matOf vecOf img plane)
open scoped BigOperators

/-- A linear layer, the attention of a window to itself, and the attention to the pooled map, -/
def linR (x : FVec Ideal S470x64x384 .f32) (w : FVec Ideal S384x384 .f32) (b : FVec Ideal S384 .f32) : FVec Ideal S470x64x384 .f32 := act x (pre x w b)
def locR (x : FVec Ideal S470x64x384 .f32) (w : FVec Ideal S384x1152 .f32) : FVec Ideal S470x64x384 .f32 := att x (qkv x w) (exps (scores (qkv x w)))
def globR (x : FVec Ideal S470x64x384 .f32) (w : FVec Ideal S384x384 .f32) (k : FVec Ideal S2x64x2x384 .f32) : FVec Ideal S470x64x384 .f32 :=
  gatt x k (gexps (gscores x w k))
/-- all of a chosen window's layers, -/
def layers (x : FVec Ideal S470x64x384 .f32) (wq : FVec Ideal S384x384 .f32) (k : FVec Ideal S2x64x2x384 .f32) (w0 : FVec Ideal S384x384 .f32) (b0 : FVec Ideal S384 .f32)
    (q0 : FVec Ideal S384x1152 .f32) (w1 : FVec Ideal S384x384 .f32) (b1 : FVec Ideal S384 .f32) (q1 : FVec Ideal S384x1152 .f32)
    (wp : FVec Ideal S384x384 .f32) (bp : FVec Ideal S384 .f32) : FVec Ideal S470x64x384 .f32 :=
  linR (locR (linR (locR (linR (globR x wq k) w0 b0) q0) w1 b1) q1) wp bp
/-- the words that name the chosen windows, -/
def names (u : FVec Ideal S2x224x224 .f32) : IVec S470x1 32 :=
  wrapped (place (Host.topK S2x235 1 (FloatOps.cmpfTotal .gt) (means u) sliceFits_S2x784_S2x235).2)
/-- and the whole result. -/
def out (x : FVec Ideal S2x384x224x224 .f32) (u : FVec Ideal S2x224x224 .f32) (wq : FVec Ideal S384x384 .f32) (wkv : FVec Ideal S384x768 .f32)
    (w0 : FVec Ideal S384x384 .f32) (b0 : FVec Ideal S384 .f32) (q0 : FVec Ideal S384x1152 .f32) (w1 : FVec Ideal S384x384 .f32) (b1 : FVec Ideal S384 .f32)
    (q1 : FVec Ideal S384x1152 .f32) (wp : FVec Ideal S384x384 .f32) (bp : FVec Ideal S384 .f32) : FVec Ideal S2x384x224x224 .f32 :=
  joined (Host.scatter scatter_S1568x64x384_S470x1_S470x64x384_12_0_0_1 (fun _ b => b) (wins x) (names u)
    (layers (taken (wins x) (names u)) wq (kv (pool x) wkv) w0 b0 q0 w1 b1 q1 wp bp))

theorem names_at (u : FVec Ideal S2x224x224 .f32) (n : Fin 470) : names u (ix2 n 0) = BitVec.ofNat 32 (spot (chosenBy (means u)) n) :=
  wrapped_at _ n _ (place_at _ _ (topK_at _) n)

theorem taken_eq (x : FVec Ideal S2x384x224x224 .f32) (u : FVec Ideal S2x224x224 .f32) (n : Fin 470) (b : Fin 2) (w : Fin 784)
    (h : (spot (chosenBy (means u)) n : ℕ) = 784 * (b : ℕ) + w) : win3 (taken (wins x) (names u)) n = Cert.Spec.tile (img x) b w := by
  funext r c
  refine (taken_at (wins x) (names u) n _ (names_at u n) r c).trans ((wins_at x _ r c).trans ?_)
  have hw := w.isLt
  exact congrArg₂ (fun b w => Cert.Spec.tile (img x) b w r c) (Fin.ext (by simp only; omega)) (Fin.ext (by simp only; omega))

theorem layers_eq (x : FVec Ideal S470x64x384 .f32) (wq : FVec Ideal S384x384 .f32) (p : FVec Ideal S2x384x224x224 .f32) (wkv : FVec Ideal S384x768 .f32)
    (w0 : FVec Ideal S384x384 .f32) (b0 : FVec Ideal S384 .f32)
    (q0 : FVec Ideal S384x1152 .f32) (w1 : FVec Ideal S384x384 .f32) (b1 : FVec Ideal S384 .f32) (q1 : FVec Ideal S384x1152 .f32)
    (wp : FVec Ideal S384x384 .f32) (bp : FVec Ideal S384 .f32) (n : Fin 470) (b : Fin 2) (hb : (b : ℕ) = (n : ℕ) / 235) :
    win3 (layers x wq (kv (pool p) wkv) w0 b0 q0 w1 b1 q1 wp bp) n
      = Cert.Spec.window (win3 x n) (matOf wq) (Cert.Spec.keys (img p) (matOf wkv) b) (Cert.Spec.vals (img p) (matOf wkv) b) (matOf w0) (vecOf b0) (matOf q0)
        (matOf w1) (vecOf b1) (matOf q1) (matOf wp) (vecOf bp) := by
  unfold layers linR locR Cert.Spec.window
  rw [lin_eq, loc_eq, lin_eq, loc_eq, lin_eq]
  rw [show win3 (globR x wq (kv (pool p) wkv)) n = _ from glob_eq x wq p wkv n b hb]
  rfl

/-- A written window holds its update, -/
theorem hit_at (ch : Fin 2 → Fin 235 → Fin 784) (hc : ∀ b, Function.Injective (ch b)) (x : FVec Ideal S1568x64x384 .f32) (idx : IVec S470x1 32)
    (upd : FVec Ideal S470x64x384 .f32) (h : ∀ n, idx (ix2 n 0) = BitVec.ofNat 32 (spot ch n)) (b : Fin 2) (k : Fin 235) (w : Fin 784) (hk : ch b k = w)
    (r : Fin 64) (d : Fin 384) :
    Host.scatter scatter_S1568x64x384_S470x1_S470x64x384_12_0_0_1 (fun _ b => b) x idx upd (ix3 ⟨784 * (b : ℕ) + w, by omega⟩ r d)
      = upd (ix3 ⟨235 * (b : ℕ) + k, by omega⟩ r d) := by
  have hs : (⟨784 * (b : ℕ) + w, by omega⟩ : Fin 1568) = spot ch ⟨235 * (b : ℕ) + k, by omega⟩ := by
    refine Fin.ext ?_
    show 784 * (b : ℕ) + w = 784 * ((235 * (b : ℕ) + k) / 235) + (Cert.Spec.listed ch ⟨235 * (b : ℕ) + k, by omega⟩ : ℕ)
    rw [Cert.Spec.listed_at, hk]; omega
  rw [hs]
  exact scatter_hit x idx upd (spot ch) (spot_inj hc) h _ r d

/-- and another one what it held. -/
theorem miss_at (ch : Fin 2 → Fin 235 → Fin 784) (x : FVec Ideal S1568x64x384 .f32) (idx : IVec S470x1 32)
    (upd : FVec Ideal S470x64x384 .f32) (h : ∀ n, idx (ix2 n 0) = BitVec.ofNat 32 (spot ch n)) (b : Fin 2) (w : Fin 784) (hk : ¬ ∃ k, ch b k = w)
    (r : Fin 64) (d : Fin 384) :
    Host.scatter scatter_S1568x64x384_S470x1_S470x64x384_12_0_0_1 (fun _ b => b) x idx upd (ix3 ⟨784 * (b : ℕ) + w, by omega⟩ r d)
      = x (ix3 ⟨784 * (b : ℕ) + w, by omega⟩ r d) := by
  refine scatter_miss x idx upd (spot ch) h _ (fun n hn => hk ?_) r d
  have hn' : 784 * ((n : ℕ) / 235) + (Cert.Spec.listed ch n : ℕ) = 784 * (b : ℕ) + w := congrArg Fin.val hn
  have hl := (Cert.Spec.listed ch n).isLt
  have hb : (⟨(n : ℕ) / 235, by omega⟩ : Fin 2) = b := Fin.ext (by simp only; omega)
  have hm : (n : ℕ) % 235 < 235 := Nat.mod_lt _ (by norm_num)
  exact ⟨⟨(n : ℕ) % 235, hm⟩, (congrArg (fun b => ch b ⟨(n : ℕ) % 235, hm⟩) hb).symm.trans (Fin.ext (show (Cert.Spec.listed ch n : ℕ) = w by omega))⟩

theorem spot_of (ch : Fin 2 → Fin 235 → Fin 784) (b : Fin 2) (k : Fin 235) (w : Fin 784) (hk : ch b k = w) :
    (spot ch ⟨235 * (b : ℕ) + k, by omega⟩ : ℕ) = 784 * (b : ℕ) + w := by
  show 784 * ((235 * (b : ℕ) + k) / 235) + (Cert.Spec.listed ch ⟨235 * (b : ℕ) + k, by omega⟩ : ℕ) = _
  rw [Cert.Spec.listed_at, hk]; omega

theorem out_at (x : FVec Ideal S2x384x224x224 .f32) (u : FVec Ideal S2x224x224 .f32) (wq : FVec Ideal S384x384 .f32) (wkv : FVec Ideal S384x768 .f32)
    (w0 : FVec Ideal S384x384 .f32) (b0 : FVec Ideal S384 .f32) (q0 : FVec Ideal S384x1152 .f32) (w1 : FVec Ideal S384x384 .f32) (b1 : FVec Ideal S384 .f32)
    (q1 : FVec Ideal S384x1152 .f32) (wp : FVec Ideal S384x384 .f32) (bp : FVec Ideal S384 .f32) (b : Fin 2) (d : Fin 384) (h w : Fin 224) :
    out x u wq wkv w0 b0 q0 w1 b1 q1 wp bp (ix4 b d h w)
      = Cert.Spec.result (img x) (chosenBy (means u)) (matOf wq) (matOf wkv) (matOf w0) (vecOf b0) (matOf q0) (matOf w1) (vecOf b1) (matOf q1) (matOf wp) (vecOf bp) b d h w := by
  refine (joined_at _ b d h w).trans ?_
  unfold Cert.Spec.result
  by_cases hk : ∃ k, chosenBy (means u) b k = Cert.Spec.winOf h w
  · rw [if_pos hk]
    obtain ⟨k, hk⟩ := hk
    refine (hit_at (chosenBy (means u)) (chosenBy_inj (means u)) _ _ _ (names_at u) b k _ hk _ d).trans ?_
    refine (congrFun (congrFun (layers_eq (taken (wins x) (names u)) wq x wkv w0 b0 q0 w1 b1 q1 wp bp _ b (by simp only; omega)) (Cert.Spec.pixOf h w)) d).trans ?_
    rw [taken_eq x u _ b _ (spot_of _ b k _ hk)]
  · rw [if_neg hk]
    refine (miss_at (chosenBy (means u)) _ _ _ (names_at u) b _ hk _ d).trans ((wins_at x _ _ d).trans ?_)
    have hw := (Cert.Spec.winOf h w).isLt
    unfold Cert.Spec.tile img
    exact at4 x (by simp only; omega) rfl (by simp only [Cert.Spec.winOf, Cert.Spec.pixOf]; omega) (by simp only [Cert.Spec.winOf, Cert.Spec.pixOf]; omega)

/-- The printed result, from the arguments. -/
theorem printed (V : Valuation τ sig (Elt Ideal)) :
    (transpose S2x384x224x224 [0, 3, 1, 2] (shapeCast _ (transpose S2x28x8x28x8x384 [0, 1, 3, 2, 4, 5] (shapeCast _ (Host.scatter scatter_S1568x64x384_S470x1_S470x64x384_12_0_0_1 (fun _ b => b) (res_main_v6 V) (broadcastInDim S470x1 ![0] bcast_S470_S470x1_0 (select (cmpi .slt (res_main_v18 V) (broadcastInDim S470 ![] bcast_S_S470 (constantI S_ 32 0#32))) (addi (res_main_v18 V) (broadcastInDim S470 ![] bcast_S_S470 (constantI S_ 32 1568#32))) (res_main_v18 V))) (addf (res_main_v129 V) (mulf (mulf (broadcastInDim S470x64x384 ![] bcast_S_S470x64x384 (constant S_ .f32 0x3F000000#32)) (res_main_v133 V)) (Host.erfc (mulf (Host.negf (res_main_v133 V)) (broadcastInDim S470x64x384 ![] bcast_S_S470x64x384 (constant S_ .f32 0x3F3504F3#32))))))) shapeCasts_S1568x64x384_S2x28x28x8x8x384) transposes_S2x28x28x8x8x384_S2x28x8x28x8x384_0_1_3_2_4_5) shapeCasts_S2x28x8x28x8x384_S2x224x224x384) transposes_S2x224x224x384_S2x384x224x224_0_3_1_2 : FVec Ideal S2x384x224x224 .f32)
      = out (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) (V (Proc.devRef .tc main_arg9))
        (V (Proc.devRef .tc main_arg10)) (V (Proc.devRef .tc main_arg11)) := rfl

end Cert.ReferenceIdeal.Val

end
-- ==== Proof.Val.Same.lean ====
/- The kernel and the reference choose the same windows, and so leave the same result. -/
module

public import proofs.«01_k».proof.Proof.Val.KernelValue
public import proofs.«01_k».proof.Proof.Val.RefValue
public import proofs.«01_k».proof.Proof.Val.Words

@[expose] public section

set_option maxRecDepth 16384

noncomputable section

namespace Cert.Same

open Idealize.ShloMosaic Idealize.ShloMosaic.TcCoe Idealize.SL.Sem
open Cert.KernelIdeal.Run (Tab.order Tab.row Tab.pos chosen)
open Cert.Spec (plane img matOf vecOf IsReal)

/-- Two tables of scores with the same comparisons put their rows in the same order. -/
theorem order_congr {α β : Type} {r n : ℕ} (gt : α → α → BitVec 1) (gt' : β → β → BitVec 1) (x : (⟨2, ![r, n]⟩ : Shape).Idx → α)
    (y : (⟨2, ![r, n]⟩ : Shape).Idx → β) (b : Fin r) (h : ∀ k k', gt (x (ix2 b k)) (x (ix2 b k')) = gt' (y (ix2 b k)) (y (ix2 b k'))) (k : Fin n) :
    Tab.order gt x b k = Tab.order gt' y b k :=
  congrFun (sortedFrom_congr _ _ fun k k' _ => congrArg (· == 1#1) (h k k')) k

theorem gt_iff {x y x' y' : EReal} (h : y < x ↔ y' < x') :
    FloatOps.cmpfTotal (F := Ideal) (φ := .f32) .gt x y = FloatOps.cmpfTotal (F := Ideal) (φ := .f32) .gt x' y' :=
  congrArg BitVec.ofBool (decide_eq_decide.2 h)

/-- The kernel's scores are the windows' sums, -/
theorem sums_at (u : FVec Ideal ⟨3, ![2, 224, 224]⟩ .f32) (b : Fin 2) (w : Fin 784) :
    Tab.row (F := Ideal) (Cert.KernelIdeal.Run.Score.REF u) (ix2 b w) = Cert.Spec.area (plane u) b w := rfl

/-- the reference's are their means, and both have the same order. -/
theorem order_eq (u : FVec Ideal ⟨3, ![2, 224, 224]⟩ .f32) (b : Fin 2) (k : Fin 784) :
    Tab.order (FloatOps.cmpfTotal (F := Ideal) (φ := .f32) .gt) (Tab.row (F := Ideal) (Cert.KernelIdeal.Run.Score.REF u)) b k
      = Tab.order (FloatOps.cmpfTotal (F := Ideal) (φ := .f32) .gt) (Cert.ReferenceIdeal.Val.means u) b k := by
  refine order_congr _ _ _ _ b (fun k k' => ?_) k
  rw [sums_at, sums_at, Cert.ReferenceIdeal.Val.means_at, Cert.ReferenceIdeal.Val.means_at]
  exact gt_iff (Cert.Spec.div_64_lt _ _).symm

/-- Equal arguments, equal results. -/
theorem out_congr {x x' : FVec Ideal ⟨4, ![2, 384, 224, 224]⟩ .f32} {u u' : FVec Ideal ⟨3, ![2, 224, 224]⟩ .f32} {a2 a2' a4 a4' a7 a7' a10 a10' : FVec Ideal ⟨2, ![384, 384]⟩ .f32}
    {a3 a3' : FVec Ideal ⟨2, ![384, 768]⟩ .f32} {a5 a5' a8 a8' a11 a11' : FVec Ideal ⟨1, ![384]⟩ .f32} {a6 a6' a9 a9' : FVec Ideal ⟨2, ![384, 1152]⟩ .f32}
    (e0 : x = x') (e1 : u = u') (e2 : a2 = a2') (e3 : a3 = a3') (e4 : a4 = a4') (e5 : a5 = a5') (e6 : a6 = a6') (e7 : a7 = a7') (e8 : a8 = a8') (e9 : a9 = a9')
    (e10 : a10 = a10') (e11 : a11 = a11') :
    Cert.ReferenceIdeal.Val.out x u a2 a3 a4 a5 a6 a7 a8 a9 a10 a11 = Cert.ReferenceIdeal.Val.out x' u' a2' a3' a4' a5' a6' a7' a8' a9' a10' a11' := by
  subst e0 e1 e2 e3 e4 e5 e6 e7 e8 e9 e10 e11; rfl

section
open Cert.KernelIdeal Cert.KernelIdeal.Gen Cert.KernelIdeal.Run

variable {m : (ℓ : Loc nD τ sig) → Buf (Elt Ideal) ℓ} {outs : Outs (F := Ideal)} {a3 : (pcfg3 (F := Ideal)).Adm} {a4 : (pcfg4 (F := Ideal)).Adm}

theorem chosen_eq (L : Leaves m outs a3 a4) (c : Dev nD) :
    chosen outs c = Cert.ReferenceIdeal.Val.chosenBy (Cert.ReferenceIdeal.Val.means (V0 m c main_arg1)) := by
  have e : outs 1 main_v0 c = Score.REF (V0 m c main_arg1) := (L.o1 c).trans (Score.final _ c)
  funext b k
  unfold chosen
  rw [e]
  exact order_eq _ b _

/-- What the kernel leaves is the reference's result of the same arguments. -/
theorem result_eq (L : Leaves m outs a3 a4) (c : Dev nD)
    (r0 : ∀ j, IsReal ((V0 m c main_arg0 : FVec Ideal S2x384x224x224 .f32) j)) (r2 : ∀ j, IsReal ((V0 m c main_arg2 : FVec Ideal S384x384 .f32) j))
    (r3 : ∀ j, IsReal ((V0 m c main_arg3 : FVec Ideal S384x768 .f32) j)) (r4 : ∀ j, IsReal ((V0 m c main_arg4 : FVec Ideal S384x384 .f32) j))
    (r5 : ∀ j, IsReal ((V0 m c main_arg5 : FVec Ideal S384 .f32) j)) (r6 : ∀ j, IsReal ((V0 m c main_arg6 : FVec Ideal S384x1152 .f32) j))
    (r7 : ∀ j, IsReal ((V0 m c main_arg7 : FVec Ideal S384x384 .f32) j)) (r8 : ∀ j, IsReal ((V0 m c main_arg8 : FVec Ideal S384 .f32) j))
    (r9 : ∀ j, IsReal ((V0 m c main_arg9 : FVec Ideal S384x1152 .f32) j)) :
    (V15 m outs c main_v29 : FVec Ideal S2x384x224x224 .f32)
      = Cert.ReferenceIdeal.Val.out (V0 m c main_arg0) (V0 m c main_arg1) (V0 m c main_arg2) (V0 m c main_arg3) (V0 m c main_arg4) (V0 m c main_arg5)
        (V0 m c main_arg6) (V0 m c main_arg7) (V0 m c main_arg8) (V0 m c main_arg9) (V0 m c main_arg10) (V0 m c main_arg11) := by
  funext i
  have hi : i = Idealize.ShloMosaic.ix4 (i 0) (i 1) (i 2) (i 3) := by funext a; fin_cases a <;> rfl
  rw [hi]
  refine (value L c r0 r2 r3 r4 r5 r6 r7 r8 r9 _ _ _ _).trans ?_
  rw [chosen_eq L c]
  exact (Cert.ReferenceIdeal.Val.out_at _ _ _ _ _ _ _ _ _ _ _ _ _ _ _ _).symm

end

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Finite
public import proofs.«01_k».proof.Proof.Val.Same
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- The two named constants have their values. -/
theorem preserves : Cert.preserves_Kernel_KernelIdeal :=
  ⟨IdealRules.named_const.statement _ _ _ _ _ rfl, IdealRules.named_const.statement _ _ _ _ _ rfl⟩

/-- The reference's frame: its host run keeps the arguments, and it touches no semaphore. -/
theorem frame_reference : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems (by decide) r.2⟩

/-- The value: both runs leave the reference's result of the kernel's arguments. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.KernelIdeal.Gen.V15 m (Cert.KernelIdeal.Run.outs m) c (Proc.devRef .tc Cert.KernelIdeal.main_v29), ?_, ?_⟩
  · refine θ_run_mono (Cert.KernelIdeal.Run.run m g (Cert.KernelIdeal.Run.leaves m)) fun r h c =>
      ⟨h.1 c _ (Cert.KernelIdeal.Run.mem_uc Cert.KernelIdeal.main_v29 (by decide)), ?_⟩
    exact ⟨(h.1 c _ (Cert.KernelIdeal.Run.mem_uc Cert.KernelIdeal.main_arg0 (by decide))).trans (Cert.KernelIdeal.Gen.V15_main_arg0 m (Cert.KernelIdeal.Run.outs m) c),
      (h.1 c _ (Cert.KernelIdeal.Run.mem_uc Cert.KernelIdeal.main_arg1 (by decide))).trans (Cert.KernelIdeal.Gen.V15_main_arg1 m (Cert.KernelIdeal.Run.outs m) c),
      (h.1 c _ (Cert.KernelIdeal.Run.mem_uc Cert.KernelIdeal.main_arg2 (by decide))).trans (Cert.KernelIdeal.Gen.V15_main_arg2 m (Cert.KernelIdeal.Run.outs m) c),
      (h.1 c _ (Cert.KernelIdeal.Run.mem_uc Cert.KernelIdeal.main_arg3 (by decide))).trans (Cert.KernelIdeal.Gen.V15_main_arg3 m (Cert.KernelIdeal.Run.outs m) c),
      (h.1 c _ (Cert.KernelIdeal.Run.mem_uc Cert.KernelIdeal.main_arg4 (by decide))).trans (Cert.KernelIdeal.Gen.V15_main_arg4 m (Cert.KernelIdeal.Run.outs m) c),
      (h.1 c _ (Cert.KernelIdeal.Run.mem_uc Cert.KernelIdeal.main_arg5 (by decide))).trans (Cert.KernelIdeal.Gen.V15_main_arg5 m (Cert.KernelIdeal.Run.outs m) c),
      (h.1 c _ (Cert.KernelIdeal.Run.mem_uc Cert.KernelIdeal.main_arg6 (by decide))).trans (Cert.KernelIdeal.Gen.V15_main_arg6 m (Cert.KernelIdeal.Run.outs m) c),
      (h.1 c _ (Cert.KernelIdeal.Run.mem_uc Cert.KernelIdeal.main_arg7 (by decide))).trans (Cert.KernelIdeal.Gen.V15_main_arg7 m (Cert.KernelIdeal.Run.outs m) c),
      (h.1 c _ (Cert.KernelIdeal.Run.mem_uc Cert.KernelIdeal.main_arg8 (by decide))).trans (Cert.KernelIdeal.Gen.V15_main_arg8 m (Cert.KernelIdeal.Run.outs m) c),
      (h.1 c _ (Cert.KernelIdeal.Run.mem_uc Cert.KernelIdeal.main_arg9 (by decide))).trans (Cert.KernelIdeal.Gen.V15_main_arg9 m (Cert.KernelIdeal.Run.outs m) c),
      (h.1 c _ (Cert.KernelIdeal.Run.mem_uc Cert.KernelIdeal.main_arg10 (by decide))).trans (Cert.KernelIdeal.Gen.V15_main_arg10 m (Cert.KernelIdeal.Run.outs m) c),
      (h.1 c _ (Cert.KernelIdeal.Run.mem_uc Cert.KernelIdeal.main_arg11 (by decide))).trans (Cert.KernelIdeal.Gen.V15_main_arg11 m (Cert.KernelIdeal.Run.outs m) c)⟩
  · refine θ_run_mono (Cert.ReferenceIdeal.Value.run (F := Ideal) m' g') fun r h c => ⟨((h c).1.trans (Cert.ReferenceIdeal.Val.printed _)).trans ?_, (h c).2⟩
    haveI := Cert.Pre_finite.facts
    obtain ⟨r0, r2, r3, r4, r5, r6, r7, r8, r9⟩ := Cert.Pre_finite.reals _ _ _ _ _ _ _ _ _ _ _ _ (hpre c)
    obtain ⟨e0, e1, e2, e3, e4, e5, e6, e7, e8, e9, e10, e11⟩ := hargs c
    refine Eq.trans ?_ (Cert.Same.result_eq (Cert.KernelIdeal.Run.leaves m) c r0 r2 r3 r4 r5 r6 r7 r8 r9).symm
    exact Cert.Same.out_congr e0 e1 e2 e3 e4 e5 e6 e7 e8 e9 e10 e11

/-- All the claims; the frames stated under the precondition hold without it. -/
theorem claim : Cert.Claim := ⟨Cert.Kernel.Gen.facts, Cert.KernelIdeal.Gen.facts, Cert.ReferenceIdeal.Gen.facts, Cert.Pre_finite.facts,
  fun m g _ => Cert.Kernel.Run.frame m g, fun m g _ => Cert.KernelIdeal.Run.frame m g, fun m g _ => Cert.KernelIdeal.Run.frame m g,
  frame_reference, fun m g _ => frame_reference m g trivial, preserves, value⟩

end Cert.Proof

end
